-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_n" .f32 0x38CCCCCD#32 ((1 / 10240 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x1280x256 : Shape := ⟨3, ![48, 1280, 256]⟩
abbrev S1280 : Shape := ⟨1, ![1280]⟩
abbrev S_ : Shape := ⟨0, ![]⟩
abbrev S1 : Shape := ⟨1, ![1]⟩
abbrev S8x160 : Shape := ⟨2, ![8, 160]⟩
abbrev S8x160x256 : Shape := ⟨3, ![8, 160, 256]⟩
abbrev S48x8x160x256 : Shape := ⟨4, ![48, 8, 160, 256]⟩
abbrev S160x128 : Shape := ⟨2, ![160, 128]⟩
abbrev S8x128 : Shape := ⟨2, ![8, 128]⟩
abbrev S1x160 : Shape := ⟨2, ![1, 160]⟩
abbrev S128x160 : Shape := ⟨2, ![128, 160]⟩
abbrev S160x1 : Shape := ⟨2, ![160, 1]⟩
abbrev S4x40x1 : Shape := ⟨3, ![4, 40, 1]⟩
abbrev S1x160x256 : Shape := ⟨3, ![1, 160, 256]⟩
abbrev S160x256 : Shape := ⟨2, ![160, 256]⟩
abbrev S4x40x256 : Shape := ⟨3, ![4, 40, 256]⟩
abbrev S4 : Shape := ⟨1, ![4]⟩
abbrev S4x1x1 : Shape := ⟨3, ![4, 1, 1]⟩
abbrev S4x40x128 : Shape := ⟨3, ![4, 40, 128]⟩
abbrev S1x1x160x256 : Shape := ⟨4, ![1, 1, 160, 256]⟩
abbrev S20x8x256 : Shape := ⟨3, ![20, 8, 256]⟩
abbrev S8x256 : Shape := ⟨2, ![8, 256]⟩
abbrev S160 : Shape := ⟨1, ![160]⟩
abbrev S128 : Shape := ⟨1, ![128]⟩
abbrev S1x128 : Shape := ⟨2, ![1, 128]⟩
abbrev S1x1 : Shape := ⟨2, ![1, 1]⟩
abbrev S1x8x128 : Shape := ⟨3, ![1, 8, 128]⟩
abbrev S1x1x1 : Shape := ⟨3, ![1, 1, 1]⟩

abbrev nBuf : Space → Nat
  | .hbm => 12
  | .vmem => 16
  | .smem => 2
  | _ => 0

abbrev bufTy : (tb : Table) → Fin (tcTables nBuf tb) → BufTy
  | .hbm, ⟨0, _⟩ => ⟨S48x1280x256, .bf16⟩
  | .hbm, ⟨1, _⟩ => ⟨S1280, .f32⟩
  | .hbm, ⟨2, _⟩ => ⟨S1280, .f32⟩
  | .hbm, ⟨3, _⟩ => ⟨S48x1280x256, .fp8e5m2⟩
  | .hbm, ⟨4, _⟩ => ⟨S_, .f32⟩
  | .hbm, ⟨5, _⟩ => ⟨S1, .f32⟩
  | .hbm, ⟨6, _⟩ => ⟨S8x160, .f32⟩
  | .hbm, ⟨7, _⟩ => ⟨S8x160, .f32⟩
  | .hbm, ⟨8, _⟩ => ⟨S48x1280x256, .fp8e5m2⟩
  | .hbm, ⟨9, _⟩ => ⟨S1, .f32⟩
  | .hbm, ⟨10, _⟩ => ⟨S8x160, .f32⟩
  | .hbm, ⟨11, _⟩ => ⟨S8x160, .f32⟩
  | .local _ .vmem, ⟨0, _⟩ => ⟨S8x160x256, .bf16⟩
  | .local _ .vmem, ⟨1, _⟩ => ⟨S8x160x256, .bf16⟩
  | .local _ .vmem, ⟨2, _⟩ => ⟨S8x160x256, .fp8e5m2⟩
  | .local _ .vmem, ⟨3, _⟩ => ⟨S8x160x256, .fp8e5m2⟩
  | .local _ .vmem, ⟨4, _⟩ => ⟨S8x160, .f32⟩
  | .local _ .vmem, ⟨5, _⟩ => ⟨S8x160, .f32⟩
  | .local _ .vmem, ⟨6, _⟩ => ⟨S8x160x256, .fp8e5m2⟩
  | .local _ .vmem, ⟨7, _⟩ => ⟨S8x160x256, .fp8e5m2⟩
  | .local _ .vmem, ⟨8, _⟩ => ⟨S8x160, .f32⟩
  | .local _ .vmem, ⟨9, _⟩ => ⟨S8x160, .f32⟩
  | .local _ .vmem, ⟨10, _⟩ => ⟨S48x8x160x256, .f32⟩
  | .local _ .vmem, ⟨11, _⟩ => ⟨S160x128, .f32⟩
  | .local _ .vmem, ⟨12, _⟩ => ⟨S160x128, .f32⟩
  | .local _ .vmem, ⟨13, _⟩ => ⟨S160x128, .f32⟩
  | .local _ .vmem, ⟨14, _⟩ => ⟨S160x128, .f32⟩
  | .local _ .vmem, ⟨15, _⟩ => ⟨S8x128, .f32⟩
  | .local _ .smem, ⟨0, _⟩ => ⟨S1, .f32⟩
  | .local _ .smem, ⟨1, _⟩ => ⟨S1, .f32⟩
  | _, _ => ⟨S48x1280x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_stg0_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![96], ![false]⟩

def k0_cond2 (i : grid0.Coords) : BitVec 1 :=
  let arg0 : BitVec 32 := BitVec.ofNat 32 (i 0).val
  let c48_i32 : BitVec 32 := 48#32
  let v30 : BitVec 1 := Scalar.cmpi .slt arg0 c48_i32
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_12 : BitVec 32 := 0#32
  let v31 : BitVec 1 := Scalar.cmpi .eq v26 c0_i32_12
  let v32 : BitVec 1 := Scalar.andi v30 v31
  let v33 : BitVec 32 := Scalar.extui v32
  let c0_i32_13 : BitVec 32 := 0#32
  let v34 : BitVec 1 := Scalar.cmpi .ne v33 c0_i32_13
  v34

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c6_i32 : BitVec 32 := 6#32
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let v0 : BitVec 32 := Scalar.divsi arg0 c6_i32
  let c1_i32 : BitVec 32 := 1#32
  let v15 : BitVec 32 := Scalar.subi v0 c1_i32
  let v16 : BitVec 32 := Scalar.select v14 v15 v0
  let v54 : Index := Scalar.indexCast v16
  let c0_24 : Index := 0#32
  ![v54.toNat, 0]
def k0_cond3 (i : grid0.Coords) : BitVec 1 :=
  let arg0 : BitVec 32 := BitVec.ofNat 32 (i 0).val
  let c48_i32_14 : BitVec 32 := 48#32
  let v35 : BitVec 1 := Scalar.cmpi .slt arg0 c48_i32_14
  let v36 : BitVec 32 := Scalar.extui v35
  let c0_i32_15 : BitVec 32 := 0#32
  let v37 : BitVec 1 := Scalar.cmpi .ne v36 c0_i32_15
  v37

@[reducible] def k0_t1_loop : Scf.Loop 32 :=
  let c0_i32_26 : BitVec 32 := 0#32
  let c8_i32 : BitVec 32 := 8#32
  let v54 : BitVec 32 := Scalar.addi c0_i32_26 c8_i32
  let c1_i32_27 : BitVec 32 := 1#32
  ⟨c0_i32_26, v54, c1_i32_27⟩
def k0_off2 (k0_t1 : Fin k0_t1_loop.trips) : Fin 3 → Nat :=
  let c0_i32_26 : BitVec 32 := 0#32
  let c1_i32_27 : BitVec 32 := 1#32
  let arg16 : BitVec 32 := Scf.iv c0_i32_26 c1_i32_27 k0_t1
  let v59 : Index := Scalar.indexCast arg16
  let c0_31 : Index := 0#32
  let c0_32 : Index := 0#32
  ![v59.toNat, 0, 0]
def k0_off3 (i : grid0.Coords) (k0_t1 : Fin k0_t1_loop.trips) : Fin 4 → Nat :=
  let arg0 : BitVec 32 := BitVec.ofNat 32 (i 0).val
  let v143 : Index := Scalar.indexCast arg0
  let c0_i32_26 : BitVec 32 := 0#32
  let c1_i32_27 : BitVec 32 := 1#32
  let arg16 : BitVec 32 := Scf.iv c0_i32_26 c1_i32_27 k0_t1
  let v144 : Index := Scalar.indexCast arg16
  let c0_56 : Index := 0#32
  let c0_57 : Index := 0#32
  ![v143.toNat, v144.toNat, 0, 0]
def k0_cond4 (i : grid0.Coords) : BitVec 1 :=
  let arg0 : BitVec 32 := BitVec.ofNat 32 (i 0).val
  let c48_i32_16 : BitVec 32 := 48#32
  let v38 : BitVec 1 := Scalar.cmpi .slt arg0 c48_i32_16
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c5_i32 : BitVec 32 := 5#32
  let v39 : BitVec 1 := Scalar.cmpi .eq v26 c5_i32
  let v40 : BitVec 1 := Scalar.andi v38 v39
  let v41 : BitVec 32 := Scalar.extui v40
  let c0_i32_17 : BitVec 32 := 0#32
  let v42 : BitVec 1 := Scalar.cmpi .ne v41 c0_i32_17
  v42

def k0_off4 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c6_i32 : BitVec 32 := 6#32
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let v0 : BitVec 32 := Scalar.divsi arg0 c6_i32
  let c1_i32 : BitVec 32 := 1#32
  let v15 : BitVec 32 := Scalar.subi v0 c1_i32
  let v16 : BitVec 32 := Scalar.select v14 v15 v0
  let v50 : Index := Scalar.indexCast v16
  let c0_21 : Index := 0#32
  ![v50.toNat, 0]
def k0_cond5 (i : grid0.Coords) : BitVec 1 :=
  let arg0 : BitVec 32 := BitVec.ofNat 32 (i 0).val
  let c48_i32_18 : BitVec 32 := 48#32
  let v43 : BitVec 1 := Scalar.cmpi .sge arg0 c48_i32_18
  let v44 : BitVec 32 := Scalar.extui v43
  let c0_i32_19 : BitVec 32 := 0#32
  let v45 : BitVec 1 := Scalar.cmpi .ne v44 c0_i32_19
  v45

@[reducible] def k0_t2_loop : Scf.Loop 32 :=
  let c0_i32_47 : BitVec 32 := 0#32
  let c8_i32_48 : BitVec 32 := 8#32
  let v153 : BitVec 32 := Scalar.addi c0_i32_47 c8_i32_48
  let c1_i32_49 : BitVec 32 := 1#32
  ⟨c0_i32_47, v153, c1_i32_49⟩
def k0_off5 (i : grid0.Coords) (k0_t2 : Fin k0_t2_loop.trips) : Fin 4 → Nat :=
  let arg0 : BitVec 32 := BitVec.ofNat 32 (i 0).val
  let c48_i32_51 : BitVec 32 := 48#32
  let v154 : BitVec 32 := Scalar.subi arg0 c48_i32_51
  let v155 : Index := Scalar.indexCast v154
  let c0_i32_47 : BitVec 32 := 0#32
  let c1_i32_49 : BitVec 32 := 1#32
  let arg16 : BitVec 32 := Scf.iv c0_i32_47 c1_i32_49 k0_t2
  let v156 : Index := Scalar.indexCast arg16
  let c0_52 : Index := 0#32
  let c0_53 : Index := 0#32
  ![v155.toNat, v156.toNat, 0, 0]
def k0_off6 (k0_t2 : Fin k0_t2_loop.trips) : Fin 3 → Nat :=
  let c0_i32_47 : BitVec 32 := 0#32
  let c1_i32_49 : BitVec 32 := 1#32
  let arg16 : BitVec 32 := Scf.iv c0_i32_47 c1_i32_49 k0_t2
  let v166 : Index := Scalar.indexCast arg16
  let c0_56 : Index := 0#32
  let c0_57 : Index := 0#32
  ![v166.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c47_i32 : BitVec 32 := 47#32
  let v0 : BitVec 32 := Scalar.minsi arg0 c47_i32
  let c6_i32 : BitVec 32 := 6#32
  let c0_i32 : BitVec 32 := 0#32
  let v1 : BitVec 1 := Scalar.cmpi .eq c6_i32 c0_i32
  let c1_i32 : BitVec 32 := 1#32
  let v2 : BitVec 32 := Scalar.select v1 c1_i32 c6_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c6_i32_3 : BitVec 32 := 6#32
  let v11 : BitVec 32 := Scalar.divsi v0 c6_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c6_i32_3 c0_i32_6
  let v18 : BitVec 32 := Scalar.extui v17
  let c0_i32_7 : BitVec 32 := 0#32
  let v19 : BitVec 1 := Scalar.cmpi .slt c6_i32_3 c0_i32_7
  let v20 : BitVec 32 := Scalar.extui v19
  let v21 : BitVec 32 := Scalar.subi v18 v20
  let v22 : BitVec 1 := Scalar.cmpi .ne v16 v21
  let v23 : BitVec 32 := Scalar.remsi v0 c6_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let c0_i32_11 : BitVec 32 := 0#32
  ![v10.toNat, v27.toNat, c0_i32_10.toNat]

def cc0_transform_2 (i : grid0.Coords) : Fin 3 → Nat :=
  let arg0 : BitVec 32 := BitVec.ofNat 32 (i 0).val
  let c47_i32 : BitVec 32 := 47#32
  let v0 : BitVec 32 := Scalar.minsi arg0 c47_i32
  let c6_i32 : BitVec 32 := 6#32
  let c0_i32 : BitVec 32 := 0#32
  let v1 : BitVec 1 := Scalar.cmpi .eq c6_i32 c0_i32
  let c1_i32 : BitVec 32 := 1#32
  let v2 : BitVec 32 := Scalar.select v1 c1_i32 c6_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c6_i32_3 : BitVec 32 := 6#32
  let v11 : BitVec 32 := Scalar.divsi v0 c6_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c6_i32_3 c0_i32_6
  let v18 : BitVec 32 := Scalar.extui v17
  let c0_i32_7 : BitVec 32 := 0#32
  let v19 : BitVec 1 := Scalar.cmpi .slt c6_i32_3 c0_i32_7
  let v20 : BitVec 32 := Scalar.extui v19
  let v21 : BitVec 32 := Scalar.subi v18 v20
  let v22 : BitVec 1 := Scalar.cmpi .ne v16 v21
  let v23 : BitVec 32 := Scalar.remsi v0 c6_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let c0_i32_11 : BitVec 32 := 0#32
  ![v10.toNat, v27.toNat, c0_i32_10.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c48_i32 : BitVec 32 := 48#32
  let v0 : BitVec 32 := Scalar.subi arg0 c48_i32
  let c0_i32 : BitVec 32 := 0#32
  let v1 : BitVec 32 := Scalar.maxsi v0 c0_i32
  let c6_i32 : BitVec 32 := 6#32
  let c0_i32_0 : BitVec 32 := 0#32
  let v2 : BitVec 1 := Scalar.cmpi .eq c6_i32 c0_i32_0
  let c1_i32 : BitVec 32 := 1#32
  let v3 : BitVec 32 := Scalar.select v2 c1_i32 c6_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c6_i32_4 : BitVec 32 := 6#32
  let v12 : BitVec 32 := Scalar.divsi v1 c6_i32_4
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c0_i32_7 : BitVec 32 := 0#32
  let v18 : BitVec 1 := Scalar.cmpi .sgt c6_i32_4 c0_i32_7
  let v19 : BitVec 32 := Scalar.extui v18
  let c0_i32_8 : BitVec 32 := 0#32
  let v20 : BitVec 1 := Scalar.cmpi .slt c6_i32_4 c0_i32_8
  let v21 : BitVec 32 := Scalar.extui v20
  let v22 : BitVec 32 := Scalar.subi v19 v21
  let v23 : BitVec 1 := Scalar.cmpi .ne v17 v22
  let v24 : BitVec 32 := Scalar.remsi v1 c6_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c0_i32_11 : BitVec 32 := 0#32
  let c0_i32_12 : BitVec 32 := 0#32
  ![v11.toNat, v28.toNat, c0_i32_11.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x160x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x160x256 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x160x256 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x160 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "inv_n" => some ((1 / 10240 : ℝ) : EReal)
  | _ => none
-- ==== ReferenceIdeal.lean ====
abbrev S48x1280x256 : Shape := ⟨3, ![48, 1280, 256]⟩
abbrev S1280 : Shape := ⟨1, ![1280]⟩
abbrev S_ : Shape := ⟨0, ![]⟩
abbrev S1 : Shape := ⟨1, ![1]⟩
abbrev S8x160 : Shape := ⟨2, ![8, 160]⟩
abbrev S48x32x40x256 : Shape := ⟨4, ![48, 32, 40, 256]⟩
abbrev S1x32x40x1 : Shape := ⟨4, ![1, 32, 40, 1]⟩
abbrev S48x32 : Shape := ⟨2, ![48, 32]⟩
abbrev S48x32x1x1 : Shape := ⟨4, ![48, 32, 1, 1]⟩
abbrev S32x40 : Shape := ⟨2, ![32, 40]⟩
abbrev S1x48x1280x256 : Shape := ⟨4, ![1, 48, 1280, 256]⟩
abbrev S1x1x1x1 : Shape := ⟨4, ![1, 1, 1, 1]⟩
abbrev S1x253 : Shape := ⟨2, ![1, 253]⟩
abbrev S1x1x253 : Shape := ⟨3, ![1, 1, 253]⟩
abbrev S1x1x1 : Shape := ⟨3, ![1, 1, 1]⟩

abbrev nBuf : Space → Nat
  | .hbm => 10
  | .vmem => 7
  | .smem => 2
  | _ => 0

abbrev bufTy : (tb : Table) → Fin (tcTables nBuf tb) → BufTy
  | .hbm, ⟨0, _⟩ => ⟨S48x1280x256, .bf16⟩
  | .hbm, ⟨1, _⟩ => ⟨S1280, .f32⟩
  | .hbm, ⟨2, _⟩ => ⟨S1280, .f32⟩
  | .hbm, ⟨3, _⟩ => ⟨S48x1280x256, .fp8e5m2⟩
  | .hbm, ⟨4, _⟩ => ⟨S_, .f32⟩
  | .hbm, ⟨5, _⟩ => ⟨S1, .f32⟩
  | .hbm, ⟨6, _⟩ => ⟨S48x1280x256, .fp8e5m2⟩
  | .hbm, ⟨7, _⟩ => ⟨S1, .f32⟩
  | .hbm, ⟨8, _⟩ => ⟨S8x160, .f32⟩
  | .hbm, ⟨9, _⟩ => ⟨S8x160, .f32⟩
  | .local _ .vmem, ⟨0, _⟩ => ⟨S48x1280x256, .bf16⟩
  | .local _ .vmem, ⟨1, _⟩ => ⟨S1280, .f32⟩
  | .local _ .vmem, ⟨2, _⟩ => ⟨S1280, .f32⟩
  | .local _ .vmem, ⟨3, _⟩ => ⟨S48x1280x256, .fp8e5m2⟩
  | .local _ .vmem, ⟨4, _⟩ => ⟨S48x1280x256, .fp8e5m2⟩
  | .local _ .vmem, ⟨5, _⟩ => ⟨S8x160, .f32⟩
  | .local _ .vmem, ⟨6, _⟩ => ⟨S8x160, .f32⟩
  | .local _ .smem, ⟨0, _⟩ => ⟨S1, .f32⟩
  | .local _ .smem, ⟨1, _⟩ => ⟨S1, .f32⟩
  | _, _ => ⟨S48x1280x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg4_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S48x1280x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x1280x256 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S48x1280x256 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x160 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelState.lean ====
/- What one grid point of the kernel computes, as plain functions of the blocks it reads: the gradient of one
   sample, the running maximum and the two running sums over the eight samples of a block, and the codes of one
   sample. Every function is written with the payloads of the kernel's skeleton.  -/
module

public import proofs.«01_k».proof.Proof.Gen.Kernel.Loops
public import Idealize.ShloMosaic.Lib.Pipeline.FrameBody
public import Idealize.ShloMosaic.Lib.VecWindow
public import Idealize.ShloMosaic.Lib.WholeRead
public import Idealize.ShloMosaic.Lib.Pointwise

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Sample `k` of a block of eight samples. -/
def sampleRow {e : EltTy} (X : Vec F S8x160x256 e) (k : ℕ) : Vec F S1x160x256 e :=
  fun j => X (ix3 (n0 := 8) (n1 := 160) (n2 := 256) ⟨k % 8, Nat.mod_lt _ (by decide)⟩ (j 1) (j 2))

/-- The input gradient of one sample's block: `d` the scale of the incoming gradient, `g` and `b` the columns of the
affine parameters, `x` the activation, `y` the codes of the incoming gradient. -/
def dxBlk (d : Elt F .f32) (g b : Vec F S160x128 .f32) (x : Vec F S1x160x256 .bf16) (y : Vec F S1x160x256 .fp8e5m2) :
    FVec F S160x256 .f32 :=
  k0_pay20 (k0_pay1 g) (k0_pay11 x) (k0_pay12 x) (k0_pay15 d (k0_pay1 g) (k0_pay2 b) x y) (k0_pay16 (k0_pay1 g) (k0_pay2 b) x)

/-- The same gradient in the shape it is stored in. -/
def dxRow (d : Elt F .f32) (g b : Vec F S160x128 .f32) (x : Vec F S1x160x256 .bf16) (y : Vec F S1x160x256 .fp8e5m2) :
    FVec F S1x1x160x256 .f32 :=
  k0_pay21 (k0_pay1 g) (k0_pay11 x) (k0_pay12 x) (k0_pay15 d (k0_pay1 g) (k0_pay2 b) x y) (k0_pay16 (k0_pay1 g) (k0_pay2 b) x)

/-- The running sum for the scale parameter after one more sample. -/
def gAdd (d : Elt F .f32) (g b : Vec F S160x128 .f32) (x : Vec F S1x160x256 .bf16) (y : Vec F S1x160x256 .fp8e5m2)
    (A : Vec F S160x128 .f32) : FVec F S160x128 .f32 :=
  k0_pay19 (k0_pay12 x) (k0_pay15 d (k0_pay1 g) (k0_pay2 b) x y) (k0_pay16 (k0_pay1 g) (k0_pay2 b) x) A

/-- The running sum for the offset parameter after one more sample. -/
def bAdd (d : Elt F .f32) (g b : Vec F S160x128 .f32) (x : Vec F S1x160x256 .bf16) (y : Vec F S1x160x256 .fp8e5m2)
    (A : Vec F S160x128 .f32) : FVec F S160x128 .f32 :=
  k0_pay18 (k0_pay15 d (k0_pay1 g) (k0_pay2 b) x y) (k0_pay16 (k0_pay1 g) (k0_pay2 b) x) A

/-- The running maximum of absolute values after one more sample. -/
def mxAdd (d : Elt F .f32) (g b : Vec F S160x128 .f32) (x : Vec F S1x160x256 .bf16) (y : Vec F S1x160x256 .fp8e5m2)
    (A : Vec F S8x128 .f32) : FVec F S8x128 .f32 :=
  k0_pay3 A (dxBlk d g b x y)

/-- The running maximum after the first `k` samples of the block. -/
def mxAt (d : Elt F .f32) (g b : Vec F S160x128 .f32) (X : Vec F S8x160x256 .bf16) (Y : Vec F S8x160x256 .fp8e5m2)
    (A : Vec F S8x128 .f32) : ℕ → Vec F S8x128 .f32
  | 0 => A
  | k + 1 => mxAdd d g b (sampleRow X k) (sampleRow Y k) (mxAt d g b X Y A k)

/-- The running sum for the scale parameter after the first `k` samples of the block. -/
def gAt (d : Elt F .f32) (g b : Vec F S160x128 .f32) (X : Vec F S8x160x256 .bf16) (Y : Vec F S8x160x256 .fp8e5m2)
    (A : Vec F S160x128 .f32) : ℕ → Vec F S160x128 .f32
  | 0 => A
  | k + 1 => gAdd d g b (sampleRow X k) (sampleRow Y k) (gAt d g b X Y A k)

/-- The running sum for the offset parameter after the first `k` samples of the block. -/
def bAt (d : Elt F .f32) (g b : Vec F S160x128 .f32) (X : Vec F S8x160x256 .bf16) (Y : Vec F S8x160x256 .fp8e5m2)
    (A : Vec F S160x128 .f32) : ℕ → Vec F S160x128 .f32
  | 0 => A
  | k + 1 => bAdd d g b (sampleRow X k) (sampleRow Y k) (bAt d g b X Y A k)

/-- The gradients kept for the second half of the grid, after the first `k` samples of step `t`. -/
def keptAt (d : Elt F .f32) (g b : Vec F S160x128 .f32) (X : Vec F S8x160x256 .bf16) (Y : Vec F S8x160x256 .fp8e5m2)
    (Z : Vec F S48x8x160x256 .f32) (t k : ℕ) : Vec F S48x8x160x256 .f32 :=
  fun j => if (j 0).val = t ∧ (j 1).val < k then
      dxRow d g b (sampleRow X (j 1).val) (sampleRow Y (j 1).val) (ix4 (n0 := 1) (n1 := 1) (n2 := 160) (n3 := 256) 0 0 (j 2) (j 3))
    else Z j

/-- The gradient of sample `k` of step `t`, out of the ones kept. -/
def keptRow (Z : Vec F S48x8x160x256 .f32) (t k : ℕ) : Vec F S1x1x160x256 .f32 :=
  fun j => Z (ix4 (n0 := 48) (n1 := 8) (n2 := 160) (n3 := 256) ⟨t % 48, Nat.mod_lt _ (by decide)⟩ ⟨k % 8, Nat.mod_lt _ (by decide)⟩ (j 2) (j 3))

/-- The exponent the quantiser works with, from the running maximum. -/
def expo (A : Vec F S8x128 .f32) : IVec S8x128 32 := k0_pay25 (k0_pay22 A) (k0_pay23 A) (k0_pay24 A)

/-- Where that exponent is out of the normal range. -/
def expoBad (A : Vec F S8x128 .f32) : IVec S8x128 1 := k0_pay26 (k0_pay22 A) (k0_pay23 A) (k0_pay24 A)

/-- The scale, from the running maximum. -/
def scaleOf (A : Vec F S8x128 .f32) : F .f32 := k0_pay8 (expo A) (expoBad A) 126#32

/-- The codes of one kept gradient, from the exponent `e`, where it is out of range `q`, and the bias `w`. -/
def codesOf (e : IVec S8x128 32) (q : IVec S8x128 1) (w : BitVec 32) (Z : Vec F S1x1x160x256 .f32) : FVec F S1x160x256 .fp8e5m2 :=
  k0_pay9 e q w Z

/-- The block of codes with its first `k` samples of step `t` filled in. -/
def codesAt (e : IVec S8x128 32) (q : IVec S8x128 1) (w : BitVec 32) (Z : Vec F S48x8x160x256 .f32) (W : Vec F S8x160x256 .fp8e5m2) (t k : ℕ) : Vec F S8x160x256 .fp8e5m2 :=
  fun j => if (j 0).val < k then codesOf e q w (keptRow Z t (j 0).val) (ix3 (n0 := 1) (n1 := 160) (n2 := 256) 0 (j 1) (j 2)) else W j

/-- The one entry of an array of one. -/
def dOf (X : Vec F S1 .f32) : Elt F .f32 := X (Shape.Idx.first (by decide))

/-- Row `r` of an array of eight rows. -/
def rowOf (X : Vec F S8x160 .f32) (r : ℕ) : Vec F S1x160 .f32 :=
  fun j => X (ix2 (n0 := 8) (n1 := 160) ⟨r % 8, Nat.mod_lt _ (by decide)⟩ (j 1))

/-- An array of eight rows with row `r` replaced. -/
def putRow (X : Vec F S8x160 .f32) (r : ℕ) (v : Vec F S1x160 .f32) : Vec F S8x160 .f32 :=
  fun j => if (j 0).val = r then v (ix2 (n0 := 1) (n1 := 160) 0 (j 1)) else X j

/-- Reading one row of an array of eight rows. -/
theorem readAt_row {arg : Memref sig .tc .vmem S8x160 .f32} (harg : arg.IsWhole) (X : Vec F S8x160 .f32)
    {off : Fin 2 → ℕ} (inb : ∀ a, off a + S1x160.size a ≤ S8x160.size a) (r : ℕ) (hr : r < 8) (ho : off = ![r, 0]) :
    View.readAt (Elt F) arg.view (Rect.unit (s := S8x160) off S1x160.size inb).toLoadRect (harg.unread X) = rowOf X r := by
  subst ho
  funext x
  rw [harg.readAt_unread]
  unfold rowOf
  congr 1
  funext a
  apply Fin.ext
  match a with
  | ⟨0, _⟩ => have : (x 0).val < 1 := (x 0).isLt
              show r + 1 * (x 0).val = r % 8; omega
  | ⟨1, _⟩ => show 0 + 1 * (x 1).val = (x 1).val; omega

/-- Storing one row. -/
theorem writes_row {arg : Memref sig .tc .vmem S8x160 .f32} (harg : arg.IsWhole) (X : Vec F S8x160 .f32) (v : Vec F S1x160 .f32)
    {off : Fin 2 → ℕ} (inb : ∀ a, off a + S1x160.size a ≤ S8x160.size a) (r : ℕ) (ho : off = ![r, 0]) :
    arg.view.read (Elt F) (arg.view.writes (Elt F) (harg.unread X) [⟨Rect.unit (s := S8x160) off S1x160.size inb, v⟩]) = putRow X r v := by
  funext y
  rw [View.read_writes_cons_unit arg.view _ inb _ [] y ho, View.writes_nil, harg.read_unread]
  unfold putRow
  by_cases h : ∀ a, (![r, 0] : Fin 2 → ℕ) a ≤ (y a).val ∧ (y a).val < (![r, 0] : Fin 2 → ℕ) a + S1x160.size a
  · rw [dif_pos h]
    have h0 : r ≤ (y 0).val ∧ (y 0).val < r + 1 := h 0
    have e0 : (y 0).val = r := by omega
    rw [if_pos e0]
    congr 1
    funext a
    apply Fin.ext
    match a with
    | ⟨0, _⟩ => show (y 0).val - r = 0; omega
    | ⟨1, _⟩ => show (y 1).val - 0 = (y 1).val; omega
  · rw [dif_neg h]
    have hn : ¬ (y 0).val = r := fun e0 => h fun a => by
      match a with
      | ⟨0, _⟩ => show r ≤ (y 0).val ∧ (y 0).val < r + 1; omega
      | ⟨1, _⟩ => have := (y 1).isLt; exact ⟨Nat.zero_le _, by show (y 1).val < 0 + 160; rw [Nat.zero_add]; exact this⟩
    rw [if_neg hn]

/-- Reading one sample of a block held whole. -/
theorem readAt_sample {e : EltTy} {arg : Memref sig .tc .vmem S8x160x256 e} (harg : arg.IsWhole) (X : Vec F S8x160x256 e)
    {off : Fin 3 → ℕ} (inb : ∀ a, off a + S1x160x256.size a ≤ S8x160x256.size a) (k : ℕ) (hk : k < 8) (ho : off = ![k, 0, 0]) :
    View.readAt (Elt F) arg.view (Rect.unit (s := S8x160x256) off S1x160x256.size inb).toLoadRect (harg.unread X) = sampleRow X k := by
  subst ho
  funext x
  rw [harg.readAt_unread]
  unfold sampleRow
  congr 1
  funext a
  apply Fin.ext
  match a with
  | ⟨0, _⟩ => have : (x 0).val < 1 := (x 0).isLt
              show k + 1 * (x 0).val = k % 8; omega
  | ⟨1, _⟩ => show 0 + 1 * (x 1).val = (x 1).val; omega
  | ⟨2, _⟩ => show 0 + 1 * (x 2).val = (x 2).val; omega

/-- Reading one kept gradient. -/
theorem readAt_kept {arg : Memref sig .tc .vmem S48x8x160x256 .f32} (harg : arg.IsWhole) (X : Vec F S48x8x160x256 .f32)
    {off : Fin 4 → ℕ} (inb : ∀ a, off a + S1x1x160x256.size a ≤ S48x8x160x256.size a) (t k : ℕ) (ht : t < 48) (hk : k < 8) (ho : off = ![t, k, 0, 0]) :
    View.readAt (Elt F) arg.view (Rect.unit (s := S48x8x160x256) off S1x1x160x256.size inb).toLoadRect (harg.unread X) = keptRow X t k := by
  subst ho
  funext x
  rw [harg.readAt_unread]
  unfold keptRow
  congr 1
  funext a
  apply Fin.ext
  match a with
  | ⟨0, _⟩ => have : (x 0).val < 1 := (x 0).isLt
              show t + 1 * (x 0).val = t % 48; omega
  | ⟨1, _⟩ => have : (x 1).val < 1 := (x 1).isLt
              show k + 1 * (x 1).val = k % 8; omega
  | ⟨2, _⟩ => show 0 + 1 * (x 2).val = (x 2).val; omega
  | ⟨3, _⟩ => show 0 + 1 * (x 3).val = (x 3).val; omega

/-- A load of a whole buffer held at `X` reads `X`. -/
theorem readAt_full {sp : Space} {s : Shape} {e : EltTy} {arg : Memref sig .tc sp s e} (harg : arg.IsWhole) (X : s.Idx → Elt F e)
    {off : Fin s.rank → ℕ} (inb : ∀ a, off a + s.size a ≤ s.size a) :
    View.readAt (Elt F) arg.view (Rect.unit (s := s) off s.size inb).toLoadRect (harg.unread X) = X := by
  funext x
  rw [harg.readAt_unread]
  congr 1
  funext a
  apply Fin.ext
  have h0 : off a = 0 := by have := inb a; omega
  show off a + 1 * (x a).val = (x a).val
  omega

/-- A load of a whole buffer reads its contents. -/
theorem readAt_any {sp : Space} {s : Shape} {e : EltTy} {arg : Memref sig .tc sp s e} (harg : arg.IsWhole) (f : BufTy.Contents (Elt F) arg.view.ty)
    {off : Fin s.rank → ℕ} (inb : ∀ a, off a + s.size a ≤ s.size a) :
    View.readAt (Elt F) arg.view (Rect.unit (s := s) off s.size inb).toLoadRect f = arg.view.read (Elt F) f := by
  have h := readAt_full harg (arg.view.read (Elt F) f) inb
  rwa [harg.unread_read] at h

/-- A store of a whole buffer leaves it at what was stored. -/
theorem writes_full {sp : Space} {s : Shape} {e : EltTy} {arg : Memref sig .tc sp s e} (harg : arg.IsWhole) (f : BufTy.Contents (Elt F) arg.view.ty)
    {off : Fin s.rank → ℕ} (inb : ∀ a, off a + s.size a ≤ s.size a) (w : s.Idx → Elt F e) (L : List (View.Piece (Elt F) s e)) :
    arg.view.writes (Elt F) f (⟨Rect.unit (s := s) off s.size inb, w⟩ :: L) = harg.unread w :=
  harg.eq_unread (View.read_writes_full arg.view f inb w L)

/-- Storing the gradient of sample `k` of step `t` extends the kept gradients by that sample. -/
theorem writes_kept {arg : Memref sig .tc .vmem S48x8x160x256 .f32} (harg : arg.IsWhole)
    (d : Elt F .f32) (g b : Vec F S160x128 .f32) (X : Vec F S8x160x256 .bf16) (Y : Vec F S8x160x256 .fp8e5m2)
    (Z : Vec F S48x8x160x256 .f32) {off : Fin 4 → ℕ} (inb : ∀ a, off a + S1x1x160x256.size a ≤ S48x8x160x256.size a) (t k : ℕ) (ho : off = ![t, k, 0, 0]) :
    arg.view.writes (Elt F) (harg.unread (keptAt d g b X Y Z t k))
        [⟨Rect.unit (s := S48x8x160x256) off S1x1x160x256.size inb, dxRow d g b (sampleRow X k) (sampleRow Y k)⟩]
      = harg.unread (keptAt d g b X Y Z t (k + 1)) := by
  refine harg.eq_unread (funext fun y => ?_)
  rw [View.read_writes_cons_unit arg.view _ inb _ [] y ho, View.writes_nil, harg.read_unread]
  unfold keptAt
  by_cases h : ∀ a, (![t, k, 0, 0] : Fin 4 → ℕ) a ≤ (y a).val ∧ (y a).val < (![t, k, 0, 0] : Fin 4 → ℕ) a + S1x1x160x256.size a
  · rw [dif_pos h]
    have h0 : t ≤ (y 0).val ∧ (y 0).val < t + 1 := h 0
    have h1 : k ≤ (y 1).val ∧ (y 1).val < k + 1 := h 1
    have e0 : (y 0).val = t := by omega
    have e1 : (y 1).val = k := by omega
    rw [if_pos ⟨e0, by omega⟩, e1]
    congr 1
    funext a
    apply Fin.ext
    match a with
    | ⟨0, _⟩ => show (y 0).val - t = 0; omega
    | ⟨1, _⟩ => show (y 1).val - k = 0; omega
    | ⟨2, _⟩ => show (y 2).val - 0 = (y 2).val; omega
    | ⟨3, _⟩ => show (y 3).val - 0 = (y 3).val; omega
  · rw [dif_neg h]
    have hn : ¬ ((y 0).val = t ∧ (y 1).val = k) := fun ⟨e0, e1⟩ => h fun a => by
      match a with
      | ⟨0, _⟩ => show t ≤ (y 0).val ∧ (y 0).val < t + 1; omega
      | ⟨1, _⟩ => show k ≤ (y 1).val ∧ (y 1).val < k + 1; omega
      | ⟨2, _⟩ => have := (y 2).isLt; exact ⟨Nat.zero_le _, by show (y 2).val < 0 + 160; rw [Nat.zero_add]; exact this⟩
      | ⟨3, _⟩ => have := (y 3).isLt; exact ⟨Nat.zero_le _, by show (y 3).val < 0 + 256; rw [Nat.zero_add]; exact this⟩
    by_cases hc : (y 0).val = t ∧ (y 1).val < k
    · rw [if_pos hc, if_pos ⟨hc.1, by omega⟩]
    · rw [if_neg hc, if_neg (by omega)]

/-- Storing the codes of sample `k` extends the block of codes by that sample. -/
theorem writes_codes {arg : Memref sig .tc .vmem S8x160x256 .fp8e5m2} (harg : arg.IsWhole)
    (e : IVec S8x128 32) (q : IVec S8x128 1) (w : BitVec 32) (Z : Vec F S48x8x160x256 .f32) (W : Vec F S8x160x256 .fp8e5m2) {off : Fin 3 → ℕ}
    (inb : ∀ a, off a + S1x160x256.size a ≤ S8x160x256.size a) (t k : ℕ) (ho : off = ![k, 0, 0]) :
    arg.view.writes (Elt F) (harg.unread (codesAt e q w Z W t k))
        [⟨Rect.unit (s := S8x160x256) off S1x160x256.size inb, codesOf e q w (keptRow Z t k)⟩]
      = harg.unread (codesAt e q w Z W t (k + 1)) := by
  refine harg.eq_unread (funext fun y => ?_)
  rw [View.read_writes_cons_unit arg.view _ inb _ [] y ho, View.writes_nil, harg.read_unread]
  unfold codesAt
  by_cases h : ∀ a, (![k, 0, 0] : Fin 3 → ℕ) a ≤ (y a).val ∧ (y a).val < (![k, 0, 0] : Fin 3 → ℕ) a + S1x160x256.size a
  · rw [dif_pos h]
    have h0 : k ≤ (y 0).val ∧ (y 0).val < k + 1 := h 0
    have e0 : (y 0).val = k := by omega
    rw [if_pos (by omega), e0]
    congr 1
    funext a
    apply Fin.ext
    match a with
    | ⟨0, _⟩ => show (y 0).val - k = 0; omega
    | ⟨1, _⟩ => show (y 1).val - 0 = (y 1).val; omega
    | ⟨2, _⟩ => show (y 2).val - 0 = (y 2).val; omega
  · rw [dif_neg h]
    have hn : ¬ (y 0).val = k := fun e0 => h fun a => by
      match a with
      | ⟨0, _⟩ => show k ≤ (y 0).val ∧ (y 0).val < k + 1; omega
      | ⟨1, _⟩ => have := (y 1).isLt; exact ⟨Nat.zero_le _, by show (y 1).val < 0 + 160; rw [Nat.zero_add]; exact this⟩
      | ⟨2, _⟩ => have := (y 2).isLt; exact ⟨Nat.zero_le _, by show (y 2).val < 0 + 256; rw [Nat.zero_add]; exact this⟩
    by_cases hc : (y 0).val < k
    · rw [if_pos hc, if_pos (by omega)]
    · rw [if_neg hc, if_neg (by omega)]

/-- Before the first sample the kept gradients are as they were. -/
theorem keptAt_zero (d : Elt F .f32) (g b : Vec F S160x128 .f32) (X : Vec F S8x160x256 .bf16) (Y : Vec F S8x160x256 .fp8e5m2)
    (Z : Vec F S48x8x160x256 .f32) (t : ℕ) : keptAt d g b X Y Z t 0 = Z := by
  funext j; unfold keptAt; rw [if_neg (by omega)]

/-- Before the first sample the block of codes is as it was. -/
theorem codesAt_zero (e : IVec S8x128 32) (q : IVec S8x128 1) (w : BitVec 32) (Z : Vec F S48x8x160x256 .f32) (W : Vec F S8x160x256 .fp8e5m2) (t : ℕ) :
    codesAt e q w Z W t 0 = W := by
  funext j; unfold codesAt; rw [if_neg (by omega)]

end Cert.Kernel.Hand

end
-- ==== Proof.KernelLoops.lean ====
/- The two counted loops of the kernel: what one trip does, and the invariants they keep, in the plain functions of
   the state module.  -/
module

public import proofs.«01_k».proof.Proof.KernelState
public import Idealize.ShloMosaic.Lib.Exec
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The kept gradients are read at the step that wrote them, forty-eight points before. -/
theorem off5_eq : ∀ (i : grid0.Coords) (k : Fin k0_t2_loop.trips), k0_cond5 i = 1#1 → k0_off5 i k = ![(i 0).val - 48, k.val, 0, 0] := by
  decide +kernel

/-- What one trip of the first loop holds: the two input blocks it reads and the three buffers it writes. -/
abbrev Trip1 (c : Dev nD) (arg2 : Memref sig .tc .vmem S8x160x256 .bf16) (arg3 : Memref sig .tc .vmem S8x160x256 .fp8e5m2) (arg10 : Memref sig .tc .vmem S48x8x160x256 .f32) (arg13 : Memref sig .tc .vmem S160x128 .f32) (arg14 : Memref sig .tc .vmem S160x128 .f32) (X_arg2 : BufTy.Contents (Elt F) arg2.view.ty) (X_arg3 : BufTy.Contents (Elt F) arg3.view.ty) (f_arg10 : BufTy.Contents (Elt F) arg10.view.ty) (f_arg13 : BufTy.Contents (Elt F) arg13.view.ty) (f_arg14 : BufTy.Contents (Elt F) arg14.view.ty) : sProp 𝕄 :=
  iprop((arg2.view.loc (c : Thread nD τ) ↦[arg2.view.set]{fullShare} X_arg2) ∗ (arg3.view.loc (c : Thread nD τ) ↦[arg3.view.set]{fullShare} X_arg3) ∗ (arg10.view.loc (c : Thread nD τ) ↦[arg10.view.set]{fullShare} f_arg10) ∗ (arg13.view.loc (c : Thread nD τ) ↦[arg13.view.set]{fullShare} f_arg13) ∗ (arg14.view.loc (c : Thread nD τ) ↦[arg14.view.set]{fullShare} f_arg14))

/-- What one trip of the second loop holds: the kept gradients it reads and the block of codes it writes. -/
abbrev Trip2 (c : Dev nD) (arg10 : Memref sig .tc .vmem S48x8x160x256 .f32) (arg6 : Memref sig .tc .vmem S8x160x256 .fp8e5m2) (X_arg10 : BufTy.Contents (Elt F) arg10.view.ty) (f_arg6 : BufTy.Contents (Elt F) arg6.view.ty) : sProp 𝕄 :=
  iprop((arg10.view.loc (c : Thread nD τ) ↦[arg10.view.set]{fullShare} X_arg10) ∗ (arg6.view.loc (c : Thread nD τ) ↦[arg6.view.set]{fullShare} f_arg6))

variable (c : Dev nD) (i : grid0.Coords) (arg1 : Memref sig .tc .smem S1 .f32) (harg1 : arg1.IsWhole)
  (arg2 : Memref sig .tc .vmem S8x160x256 .bf16) (harg2 : arg2.IsWhole)
  (arg3 : Memref sig .tc .vmem S8x160x256 .fp8e5m2) (harg3 : arg3.IsWhole)
  (arg4 : Memref sig .tc .vmem S8x160 .f32) (harg4 : arg4.IsWhole)
  (arg5 : Memref sig .tc .vmem S8x160 .f32) (harg5 : arg5.IsWhole)
  (arg6 : Memref sig .tc .vmem S8x160x256 .fp8e5m2) (harg6 : arg6.IsWhole)
  (arg7 : Memref sig .tc .smem S1 .f32) (harg7 : arg7.IsWhole)
  (arg8 : Memref sig .tc .vmem S8x160 .f32) (harg8 : arg8.IsWhole)
  (arg9 : Memref sig .tc .vmem S8x160 .f32) (harg9 : arg9.IsWhole)
  (arg10 : Memref sig .tc .vmem S48x8x160x256 .f32) (harg10 : arg10.IsWhole)
  (arg11 : Memref sig .tc .vmem S160x128 .f32) (harg11 : arg11.IsWhole)
  (arg12 : Memref sig .tc .vmem S160x128 .f32) (harg12 : arg12.IsWhole)
  (arg13 : Memref sig .tc .vmem S160x128 .f32) (harg13 : arg13.IsWhole)
  (arg14 : Memref sig .tc .vmem S160x128 .f32) (harg14 : arg14.IsWhole)
  (arg15 : Memref sig .tc .vmem S8x128 .f32) (harg15 : arg15.IsWhole)

/-- One trip of the first loop, at the contents it finds: it keeps the sample's gradient, adds to the two sums and
takes the sample into the running maximum. -/
theorem trip1 (𝒱 : Variants) (bd : Option 𝒱.V) (arg0 : BitVec 32) (k0_h3 : k0_cond3 i = 1#1) (v46 : Elt F .f32) (v47 v50 : Vec F S160x128 .f32)
    (X2 : Vec F S8x160x256 .bf16) (X3 : Vec F S8x160x256 .fp8e5m2) (k : Fin k0_t1_loop.trips) (acc : Vec F S8x128 .f32)
    (E : Set ℕ) (Z : Vec F S48x8x160x256 .f32) (Y13 Y14 : Vec F S160x128 .f32) :
    Trip1 (F := F) c arg2 arg3 arg10 arg13 arg14 (harg2.unread X2) (harg3.unread X3)
        (harg10.unread (keptAt v46 v47 v50 X2 X3 Z (i 0).val k.val)) (harg13.unread Y13) (harg14.unread Y14)
       ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_h3 v46 v47 v50 k acc)
          (fun yld => iprop(⌜yld = mxAdd v46 v47 v50 (sampleRow X2 k.val) (sampleRow X3 k.val) acc⌝
            ∗ Trip1 (F := F) c arg2 arg3 arg10 arg13 arg14 (harg2.unread X2) (harg3.unread X3)
                (harg10.unread (keptAt v46 v47 v50 X2 X3 Z (i 0).val (k.val + 1)))
                (harg13.unread (gAdd v46 v47 v50 (sampleRow X2 k.val) (sampleRow X3 k.val) Y13))
                (harg14.unread (bAdd v46 v47 v50 (sampleRow X2 k.val) (sampleRow X3 k.val) Y14)))) := by
  have hk : k.val < 8 := Nat.lt_of_lt_of_le k.isLt k0_t1_abs.2.1
  have hr2 := readAt_sample harg2 X2 (k0_off2_inb i k k0_h3) k.val hk (k0_off2_eq k)
  have hr3 := readAt_sample harg3 X3 (k0_off2_inb i k k0_h3) k.val hk (k0_off2_eq k)
  have hr13 := readAt_full harg13 Y13 inb_S160x128_S160x128_0_0
  have hr14 := readAt_full harg14 Y14 inb_S160x128_S160x128_0_0
  have hw10 := writes_kept harg10 v46 v47 v50 X2 X3 Z (k0_off3_inb i k k0_h3) (i 0).val k.val (k0_off3_eq i k)
  have hw13 := writes_full harg13 (harg13.unread Y13) inb_S160x128_S160x128_0_0 (gAdd v46 v47 v50 (sampleRow X2 k.val) (sampleRow X3 k.val) Y13) []
  have hw14 := writes_full harg14 (harg14.unread Y14) inb_S160x128_S160x128_0_0 (bAdd v46 v47 v50 (sampleRow X2 k.val) (sampleRow X3 k.val) Y14) []
  rw [← hw10, ← hw13, ← hw14]
  unfold mxAdd dxBlk dxRow gAdd bAdd
  unfold k0_t1_body
  iintro ⟨HR_arg2, HR_arg3, HW_arg10, HW_arg13, HW_arg14⟩
  sl_exec
  sl_step
  delta trip1.sl.r_5 trip1.sl.r_4 trip1.sl.r_3 trip1.sl.r_2 trip1.sl.r_1 trip1.sl.r
  sl_close

/-- One trip of the second loop: the codes of the sample's kept gradient. -/
theorem trip2 (𝒱 : Variants) (bd : Option 𝒱.V) (k0_h5 : k0_cond5 i = 1#1) (e : IVec S8x128 32) (q : IVec S8x128 1) (w : BitVec 32) (Z : Vec F S48x8x160x256 .f32)
    (W : Vec F S8x160x256 .fp8e5m2) (k : Fin k0_t2_loop.trips) (E : Set ℕ) (u : Unit) :
    Trip2 (F := F) c arg10 arg6 (harg10.unread Z) (harg6.unread (codesAt e q w Z W ((i 0).val - 48) k.val))
       ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h5 e q w k u)
          (fun yld => Trip2 (F := F) c arg10 arg6 (harg10.unread Z) (harg6.unread (codesAt e q w Z W ((i 0).val - 48) (k.val + 1)))) := by
  have hk : k.val < 8 := Nat.lt_of_lt_of_le k.isLt k0_t2_abs.2.1
  have ho5 : k0_off5 i k = ![(i 0).val - 48, k.val, 0, 0] := off5_eq i k k0_h5
  have ht : (i 0).val - 48 < 48 := by have := (i 0).isLt; have : (i 0).val < 96 := this; omega
  have hr10 := readAt_kept harg10 Z (k0_off5_inb i k k0_h5) ((i 0).val - 48) k.val ht hk ho5
  have hw6 := writes_codes harg6 e q w Z W (k0_off6_inb i k k0_h5) ((i 0).val - 48) k.val (k0_off6_eq k)
  rw [← hw6]
  unfold codesOf
  unfold k0_t2_body
  iintro ⟨HR_arg10, HW_arg6⟩
  sl_exec
  sl_step
  sl_close

/-- The kept gradients as the first loop's invariant carries them, from the contents `G` at loop entry. -/
def keptF {arg : Memref sig .tc .vmem S48x8x160x256 .f32} (harg : arg.IsWhole) (d : Elt F .f32) (g b : Vec F S160x128 .f32)
    (X : Vec F S8x160x256 .bf16) (Y : Vec F S8x160x256 .fp8e5m2) (t : ℕ) (G : BufTy.Contents (Elt F) arg.view.ty) : ℕ → BufTy.Contents (Elt F) arg.view.ty
  | 0 => G
  | k + 1 => harg.unread (keptAt d g b X Y (arg.view.read (Elt F) G) t (k + 1))

/-- The sum for the scale parameter as the first loop's invariant carries it. -/
def gF {arg : Memref sig .tc .vmem S160x128 .f32} (harg : arg.IsWhole) (d : Elt F .f32) (g b : Vec F S160x128 .f32)
    (X : Vec F S8x160x256 .bf16) (Y : Vec F S8x160x256 .fp8e5m2) (G : BufTy.Contents (Elt F) arg.view.ty) : ℕ → BufTy.Contents (Elt F) arg.view.ty
  | 0 => G
  | k + 1 => harg.unread (gAt d g b X Y (arg.view.read (Elt F) G) (k + 1))

/-- The sum for the offset parameter as the first loop's invariant carries it. -/
def bF {arg : Memref sig .tc .vmem S160x128 .f32} (harg : arg.IsWhole) (d : Elt F .f32) (g b : Vec F S160x128 .f32)
    (X : Vec F S8x160x256 .bf16) (Y : Vec F S8x160x256 .fp8e5m2) (G : BufTy.Contents (Elt F) arg.view.ty) : ℕ → BufTy.Contents (Elt F) arg.view.ty
  | 0 => G
  | k + 1 => harg.unread (bAt d g b X Y (arg.view.read (Elt F) G) (k + 1))

/-- The block of codes as the second loop's invariant carries it. -/
def codesF {arg : Memref sig .tc .vmem S8x160x256 .fp8e5m2} (harg : arg.IsWhole) (e : IVec S8x128 32) (q : IVec S8x128 1) (w : BitVec 32) (Z : Vec F S48x8x160x256 .f32)
    (t : ℕ) (G : BufTy.Contents (Elt F) arg.view.ty) : ℕ → BufTy.Contents (Elt F) arg.view.ty
  | 0 => G
  | k + 1 => harg.unread (codesAt e q w Z (arg.view.read (Elt F) G) t (k + 1))

/-- The kept gradients in the invariant, before any trip, are the buffer that holds `keptAt`. -/
theorem keptF_eq {arg : Memref sig .tc .vmem S48x8x160x256 .f32} (harg : arg.IsWhole) (d : Elt F .f32) (g b : Vec F S160x128 .f32)
    (X : Vec F S8x160x256 .bf16) (Y : Vec F S8x160x256 .fp8e5m2) (t : ℕ) (G : BufTy.Contents (Elt F) arg.view.ty) (k : ℕ) :
    keptF harg d g b X Y t G k = harg.unread (keptAt d g b X Y (arg.view.read (Elt F) G) t k) := by
  cases k with
  | zero => rw [keptAt_zero, harg.unread_read]; rfl
  | succ k => rfl

/-- The sum for the scale parameter in the invariant, before any trip, is the buffer that holds `gAt`. -/
theorem gF_eq {arg : Memref sig .tc .vmem S160x128 .f32} (harg : arg.IsWhole) (d : Elt F .f32) (g b : Vec F S160x128 .f32)
    (X : Vec F S8x160x256 .bf16) (Y : Vec F S8x160x256 .fp8e5m2) (G : BufTy.Contents (Elt F) arg.view.ty) (k : ℕ) :
    gF harg d g b X Y G k = harg.unread (gAt d g b X Y (arg.view.read (Elt F) G) k) := by
  cases k with
  | zero => exact (harg.unread_read G).symm
  | succ k => rfl

/-- The sum for the offset parameter in the invariant, before any trip, is the buffer that holds `bAt`. -/
theorem bF_eq {arg : Memref sig .tc .vmem S160x128 .f32} (harg : arg.IsWhole) (d : Elt F .f32) (g b : Vec F S160x128 .f32)
    (X : Vec F S8x160x256 .bf16) (Y : Vec F S8x160x256 .fp8e5m2) (G : BufTy.Contents (Elt F) arg.view.ty) (k : ℕ) :
    bF harg d g b X Y G k = harg.unread (bAt d g b X Y (arg.view.read (Elt F) G) k) := by
  cases k with
  | zero => exact (harg.unread_read G).symm
  | succ k => rfl

/-- The block of codes in the invariant, before any trip, is the buffer that holds `codesAt`. -/
theorem codesF_eq {arg : Memref sig .tc .vmem S8x160x256 .fp8e5m2} (harg : arg.IsWhole) (e : IVec S8x128 32) (q : IVec S8x128 1) (w : BitVec 32) (Z : Vec F S48x8x160x256 .f32)
    (t : ℕ) (G : BufTy.Contents (Elt F) arg.view.ty) (k : ℕ) :
    codesF harg e q w Z t G k = harg.unread (codesAt e q w Z (arg.view.read (Elt F) G) t k) := by
  cases k with
  | zero => rw [codesAt_zero, harg.unread_read]; rfl
  | succ k => rfl

/-- Read after the eight trips, the kept gradients are `keptAt` of all eight samples. -/
theorem keptF_read {arg : Memref sig .tc .vmem S48x8x160x256 .f32} (harg : arg.IsWhole) (d : Elt F .f32) (g b : Vec F S160x128 .f32)
    (X : Vec F S8x160x256 .bf16) (Y : Vec F S8x160x256 .fp8e5m2) (t : ℕ) (Z : Vec F S48x8x160x256 .f32) (n : ℕ) (hn : n = 8) :
    arg.view.read (Elt F) (keptF harg d g b X Y t (harg.unread Z) n) = keptAt d g b X Y Z t 8 := by
  rw [keptF_eq, harg.read_unread, harg.read_unread, hn]

/-- Read after the eight trips, the sum for the scale parameter is `gAt` of all eight samples. -/
theorem gF_read {arg : Memref sig .tc .vmem S160x128 .f32} (harg : arg.IsWhole) (d : Elt F .f32) (g b : Vec F S160x128 .f32)
    (X : Vec F S8x160x256 .bf16) (Y : Vec F S8x160x256 .fp8e5m2) (G : BufTy.Contents (Elt F) arg.view.ty) (A : Vec F S160x128 .f32)
    (hA : arg.view.read (Elt F) G = A) (n : ℕ) (hn : n = 8) :
    arg.view.read (Elt F) (gF harg d g b X Y G n) = gAt d g b X Y A 8 := by
  rw [gF_eq, harg.read_unread, hA, hn]

/-- Read after the eight trips, the sum for the offset parameter is `bAt` of all eight samples. -/
theorem bF_read {arg : Memref sig .tc .vmem S160x128 .f32} (harg : arg.IsWhole) (d : Elt F .f32) (g b : Vec F S160x128 .f32)
    (X : Vec F S8x160x256 .bf16) (Y : Vec F S8x160x256 .fp8e5m2) (G : BufTy.Contents (Elt F) arg.view.ty) (A : Vec F S160x128 .f32)
    (hA : arg.view.read (Elt F) G = A) (n : ℕ) (hn : n = 8) :
    arg.view.read (Elt F) (bF harg d g b X Y G n) = bAt d g b X Y A 8 := by
  rw [bF_eq, harg.read_unread, hA, hn]

/-- Read after the eight trips, the block of codes is `codesAt` of all eight samples. -/
theorem codesF_read {arg : Memref sig .tc .vmem S8x160x256 .fp8e5m2} (harg : arg.IsWhole) (e : IVec S8x128 32) (q : IVec S8x128 1) (w : BitVec 32)
    (Z : Vec F S48x8x160x256 .f32) (t : ℕ) (W : Vec F S8x160x256 .fp8e5m2) (n : ℕ) (hn : n = 8) :
    arg.view.read (Elt F) (codesF harg e q w Z t (harg.unread W) n) = codesAt e q w Z W t 8 := by
  rw [codesF_eq, harg.read_unread, harg.read_unread, hn]

set_option warn.classDefReducibility false in
/-- The first loop by its invariant: before trip `k` the first `k` samples are done. -/
@[sl_loop] def loop1 (𝒱 : Variants) (bd : Option 𝒱.V) (E : Set ℕ) (arg0 : BitVec 32) (k0_h3 : k0_cond3 i = 1#1)
    (v46 : Elt F .f32) (v47 v50 : Vec F S160x128 .f32) (X2 : Vec F S8x160x256 .bf16) (X3 : Vec F S8x160x256 .fp8e5m2)
    (G10 : BufTy.Contents (Elt F) arg10.view.ty) (G13 : BufTy.Contents (Elt F) arg13.view.ty) (G14 : BufTy.Contents (Elt F) arg14.view.ty)
    (init : Vec F S8x128 .f32) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_h3 v46 v47 v50 init where
  inv k acc := iprop((arg2.view.loc (c : Thread nD τ) ↦[arg2.view.set]{fullShare} harg2.unread X2)
    ∗ (arg3.view.loc (c : Thread nD τ) ↦[arg3.view.set]{fullShare} harg3.unread X3)
    ∗ (∃ f, (arg10.view.loc (c : Thread nD τ) ↦[arg10.view.set]{fullShare} f) ∗ ⌜f = keptF harg10 v46 v47 v50 X2 X3 (i 0).val G10 k⌝)
    ∗ (∃ f, (arg13.view.loc (c : Thread nD τ) ↦[arg13.view.set]{fullShare} f) ∗ ⌜f = gF harg13 v46 v47 v50 X2 X3 G13 k⌝)
    ∗ (∃ f, (arg14.view.loc (c : Thread nD τ) ↦[arg14.view.set]{fullShare} f) ∗ ⌜f = bF harg14 v46 v47 v50 X2 X3 G14 k⌝)
    ∗ ⌜acc = mxAt v46 v47 v50 X2 X3 init k⌝)
  step k acc := by
    iintro ⟨HR_arg2, HR_arg3, ⟨%f_arg10, HW_arg10, %h_arg10⟩, ⟨%f_arg13, HW_arg13, %h_arg13⟩, ⟨%f_arg14, HW_arg14, %h_arg14⟩, %h_acc⟩
    rw [keptF_eq] at h_arg10
    rw [gF_eq] at h_arg13
    rw [bF_eq] at h_arg14
    subst h_acc h_arg10 h_arg13 h_arg14
    iapply (wp_wand_r Idealize.ShloMosaic.frame (wpE (defs₀ (F := F)) 𝒱 (c : Thread nD τ) bd) E)
    isplitl [HR_arg2 HR_arg3 HW_arg10 HW_arg13 HW_arg14]
    · iapply (trip1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 𝒱 bd arg0 k0_h3 v46 v47 v50 X2 X3 k (mxAt v46 v47 v50 X2 X3 init k) E
        (arg10.view.read (Elt F) G10) (gAt v46 v47 v50 X2 X3 (arg13.view.read (Elt F) G13) k) (bAt v46 v47 v50 X2 X3 (arg14.view.read (Elt F) G14) k))
      isplitl [HR_arg2]; · iexact HR_arg2
      isplitl [HR_arg3]; · iexact HR_arg3
      isplitl [HW_arg10]; · iexact HW_arg10
      isplitl [HW_arg13]; · iexact HW_arg13
      iexact HW_arg14
    · iintro %yld ⟨%h_res, HR_arg2, HR_arg3, HW_arg10, HW_arg13, HW_arg14⟩
      subst h_res
      isplitl [HR_arg2]; · iexact HR_arg2
      isplitl [HR_arg3]; · iexact HR_arg3
      isplitl [HW_arg10]
      · iexists _; isplitl [HW_arg10]; · iexact HW_arg10
        ipureintro; rfl
      isplitl [HW_arg13]
      · iexists _; isplitl [HW_arg13]; · iexact HW_arg13
        ipureintro; rfl
      isplitl [HW_arg14]
      · iexists _; isplitl [HW_arg14]; · iexact HW_arg14
        ipureintro; rfl
      ipureintro; rfl

set_option warn.classDefReducibility false in
/-- The second loop by its invariant: before trip `k` the codes of the first `k` samples are written. -/
@[sl_loop] def loop2 (𝒱 : Variants) (bd : Option 𝒱.V) (E : Set ℕ) (k0_h5 : k0_cond5 i = 1#1)
    (e : IVec S8x128 32) (q : IVec S8x128 1) (w : BitVec 32) (Z : Vec F S48x8x160x256 .f32) (G6 : BufTy.Contents (Elt F) arg6.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h5 e q w where
  inv k acc := iprop((arg10.view.loc (c : Thread nD τ) ↦[arg10.view.set]{fullShare} harg10.unread Z)
    ∗ (∃ f, (arg6.view.loc (c : Thread nD τ) ↦[arg6.view.set]{fullShare} f) ∗ ⌜f = codesF harg6 e q w Z ((i 0).val - 48) G6 k⌝))
  step k acc := by
    iintro ⟨HR_arg10, ⟨%f_arg6, HW_arg6, %h_arg6⟩⟩
    rw [codesF_eq] at h_arg6
    subst h_arg6
    iapply (wp_wand_r Idealize.ShloMosaic.frame (wpE (defs₀ (F := F)) 𝒱 (c : Thread nD τ) bd) E)
    isplitl [HR_arg10 HW_arg6]
    · iapply (trip2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 𝒱 bd k0_h5 e q w Z (arg6.view.read (Elt F) G6) k E acc)
      isplitl [HR_arg10]; · iexact HR_arg10
      iexact HW_arg6
    · iintro %yld ⟨HR_arg10, HW_arg6⟩
      isplitl [HR_arg10]; · iexact HR_arg10
      iexists _; isplitl [HW_arg6]; · iexact HW_arg6
      ipureintro; rfl

end Cert.Kernel.Hand

end
-- ==== Proof.KernelBody.lean ====
/- What the kernel's body does at one grid point, in each of its five cases.  -/
module

public import proofs.«01_k».proof.Proof.KernelLoops
public import Idealize.ShloMosaic.Lib.Exec
public import Idealize.ShloMosaic.Lib.Tactic
public import Idealize.ShloMosaic.Lib.Pipeline.FrameBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The row of gamma and beta a block of channels starts from. -/
theorem off1_eq : ∀ i : grid0.Coords, k0_cond2 i = 1#1 → k0_off1 i = ![(i 0).val / 6, 0] ∧ (i 0).val / 6 < 8 := by decide +kernel

/-- The row of the channel sums a block of channels ends with. -/
theorem off4_eq : ∀ i : grid0.Coords, k0_cond4 i = 1#1 → k0_off4 i = ![(i 0).val / 6, 0] := by decide +kernel

/-- The first loop makes eight trips. -/
theorem trips1 : k0_t1_loop.trips = 8 := by decide +kernel

/-- The second loop makes eight trips. -/
theorem trips2 : k0_t2_loop.trips = 8 := by decide +kernel

variable (c : Dev nD) (i : grid0.Coords) (arg1 : Memref sig .tc .smem S1 .f32) (harg1 : arg1.IsWhole)
  (arg2 : Memref sig .tc .vmem S8x160x256 .bf16) (harg2 : arg2.IsWhole)
  (arg3 : Memref sig .tc .vmem S8x160x256 .fp8e5m2) (harg3 : arg3.IsWhole)
  (arg4 : Memref sig .tc .vmem S8x160 .f32) (harg4 : arg4.IsWhole)
  (arg5 : Memref sig .tc .vmem S8x160 .f32) (harg5 : arg5.IsWhole)
  (arg6 : Memref sig .tc .vmem S8x160x256 .fp8e5m2) (harg6 : arg6.IsWhole)
  (arg7 : Memref sig .tc .smem S1 .f32) (harg7 : arg7.IsWhole)
  (arg8 : Memref sig .tc .vmem S8x160 .f32) (harg8 : arg8.IsWhole)
  (arg9 : Memref sig .tc .vmem S8x160 .f32) (harg9 : arg9.IsWhole)
  (arg10 : Memref sig .tc .vmem S48x8x160x256 .f32) (harg10 : arg10.IsWhole)
  (arg11 : Memref sig .tc .vmem S160x128 .f32) (harg11 : arg11.IsWhole)
  (arg12 : Memref sig .tc .vmem S160x128 .f32) (harg12 : arg12.IsWhole)
  (arg13 : Memref sig .tc .vmem S160x128 .f32) (harg13 : arg13.IsWhole)
  (arg14 : Memref sig .tc .vmem S160x128 .f32) (harg14 : arg14.IsWhole)
  (arg15 : Memref sig .tc .vmem S8x128 .f32) (harg15 : arg15.IsWhole)

variable (X1 : Vec F S1 .f32) (X2 : Vec F S8x160x256 .bf16) (X3 : Vec F S8x160x256 .fp8e5m2) (X4 : Vec F S8x160 .f32) (X5 : Vec F S8x160 .f32) (X6 : Vec F S8x160x256 .fp8e5m2) (X7 : Vec F S1 .f32) (X8 : Vec F S8x160 .f32) (X9 : Vec F S8x160 .f32) (X10 : Vec F S48x8x160x256 .f32) (X11 : Vec F S160x128 .f32) (X12 : Vec F S160x128 .f32) (X13 : Vec F S160x128 .f32) (X14 : Vec F S160x128 .f32) (X15 : Vec F S8x128 .f32)

set_option maxHeartbeats 1000000 in
/-- The second half of the grid: the scale, and the codes of eight samples. -/
theorem bodyE (𝒱 : Variants) (bd : Option 𝒱.V) (E : Set ℕ) (h1 : Scalar.cmpi .ne (Scalar.extui (Scalar.cmpi .eq (BitVec.ofNat 32 (i 0).val) 0#32) : BitVec 32) 0#32 ≠ 1#1) (h2 : k0_cond2 i ≠ 1#1) (h3 : k0_cond3 i ≠ 1#1) (h4 : k0_cond4 i ≠ 1#1) (h5 : k0_cond5 i = 1#1) :
    (iprop((arg1.view.loc (c : Thread nD τ) ↦[arg1.view.set]{fullShare} harg1.unread X1) ∗ (arg2.view.loc (c : Thread nD τ) ↦[arg2.view.set]{fullShare} harg2.unread X2) ∗ (arg3.view.loc (c : Thread nD τ) ↦[arg3.view.set]{fullShare} harg3.unread X3) ∗ (arg4.view.loc (c : Thread nD τ) ↦[arg4.view.set]{fullShare} harg4.unread X4) ∗ (arg5.view.loc (c : Thread nD τ) ↦[arg5.view.set]{fullShare} harg5.unread X5) ∗ (arg6.view.loc (c : Thread nD τ) ↦[arg6.view.set]{fullShare} harg6.unread X6) ∗ (arg7.view.loc (c : Thread nD τ) ↦[arg7.view.set]{fullShare} harg7.unread X7) ∗ (arg8.view.loc (c : Thread nD τ) ↦[arg8.view.set]{fullShare} harg8.unread X8) ∗ (arg9.view.loc (c : Thread nD τ) ↦[arg9.view.set]{fullShare} harg9.unread X9) ∗ (arg10.view.loc (c : Thread nD τ) ↦[arg10.view.set]{fullShare} harg10.unread X10) ∗ (arg11.view.loc (c : Thread nD τ) ↦[arg11.view.set]{fullShare} harg11.unread X11) ∗ (arg12.view.loc (c : Thread nD τ) ↦[arg12.view.set]{fullShare} harg12.unread X12) ∗ (arg13.view.loc (c : Thread nD τ) ↦[arg13.view.set]{fullShare} harg13.unread X13) ∗ (arg14.view.loc (c : Thread nD τ) ↦[arg14.view.set]{fullShare} harg14.unread X14) ∗ (arg15.view.loc (c : Thread nD τ) ↦[arg15.view.set]{fullShare} harg15.unread X15)) : sProp 𝕄)
      ⊢ wp frame (wpE (defs₀ (F := F)) 𝒱 (c : Thread nD τ) bd) E (cc0_gn_silu_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => (iprop(owns (c : Thread nD τ) arg1 fullShare (X1) ∗ owns (c : Thread nD τ) arg2 fullShare (X2) ∗ owns (c : Thread nD τ) arg3 fullShare (X3) ∗ owns (c : Thread nD τ) arg4 fullShare (X4) ∗ owns (c : Thread nD τ) arg5 fullShare (X5) ∗ owns (c : Thread nD τ) arg6 fullShare (codesAt (expo X15) (expoBad X15) 126#32 X10 X6 ((i 0).val - 48) 8) ∗ owns (c : Thread nD τ) arg7 fullShare (fun _ => scaleOf X15) ∗ owns (c : Thread nD τ) arg8 fullShare (X8) ∗ owns (c : Thread nD τ) arg9 fullShare (X9) ∗ owns (c : Thread nD τ) arg10 fullShare (X10) ∗ owns (c : Thread nD τ) arg11 fullShare (X11) ∗ owns (c : Thread nD τ) arg12 fullShare (X12) ∗ owns (c : Thread nD τ) arg13 fullShare (X13) ∗ owns (c : Thread nD τ) arg14 fullShare (X14) ∗ owns (c : Thread nD τ) arg15 fullShare (X15)) : sProp 𝕄)) := by
  have hr15 := readAt_full harg15 X15 inb_S8x128_S8x128_0_0
  simp only [cc0_gn_silu_bwd_eq_skeleton]
  unfold cc0_gn_silu_bwd_skel
  iintro ⟨H1, H2, H3, H4, H5, H6, H7, H8, H9, H10, H11, H12, H13, H14, H15⟩
  sl_exec (disch := assumption)
  sl_step
  unfold owns
  isplitl [H1]
  · iexists _; isplitr; swap
    · iexact H1
    · ipureintro; exact harg1.read_unread _
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact codesF_read harg6 _ _ _ _ _ X6 _ trips2
  isplitl [H7]
  · iexists _; isplitr; swap
    · iexact H7
    · ipureintro; exact View.read_writes_full arg7.view _ inb_S1_S1_0 _ []
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; exact harg13.read_unread _
  isplitl [H14]
  · iexists _; isplitr; swap
    · iexact H14
    · ipureintro; exact harg14.read_unread _
  iexists _; isplitr; swap
  · iexact H15
  · ipureintro; exact harg15.read_unread _

set_option maxHeartbeats 1000000 in
/-- A step of the first half that neither starts nor ends a block of channels. -/
theorem bodyC (𝒱 : Variants) (bd : Option 𝒱.V) (E : Set ℕ) (h1 : Scalar.cmpi .ne (Scalar.extui (Scalar.cmpi .eq (BitVec.ofNat 32 (i 0).val) 0#32) : BitVec 32) 0#32 ≠ 1#1) (h2 : k0_cond2 i ≠ 1#1) (h3 : k0_cond3 i = 1#1) (h4 : k0_cond4 i ≠ 1#1) (h5 : k0_cond5 i ≠ 1#1) :
    (iprop((arg1.view.loc (c : Thread nD τ) ↦[arg1.view.set]{fullShare} harg1.unread X1) ∗ (arg2.view.loc (c : Thread nD τ) ↦[arg2.view.set]{fullShare} harg2.unread X2) ∗ (arg3.view.loc (c : Thread nD τ) ↦[arg3.view.set]{fullShare} harg3.unread X3) ∗ (arg4.view.loc (c : Thread nD τ) ↦[arg4.view.set]{fullShare} harg4.unread X4) ∗ (arg5.view.loc (c : Thread nD τ) ↦[arg5.view.set]{fullShare} harg5.unread X5) ∗ (arg6.view.loc (c : Thread nD τ) ↦[arg6.view.set]{fullShare} harg6.unread X6) ∗ (arg7.view.loc (c : Thread nD τ) ↦[arg7.view.set]{fullShare} harg7.unread X7) ∗ (arg8.view.loc (c : Thread nD τ) ↦[arg8.view.set]{fullShare} harg8.unread X8) ∗ (arg9.view.loc (c : Thread nD τ) ↦[arg9.view.set]{fullShare} harg9.unread X9) ∗ (arg10.view.loc (c : Thread nD τ) ↦[arg10.view.set]{fullShare} harg10.unread X10) ∗ (arg11.view.loc (c : Thread nD τ) ↦[arg11.view.set]{fullShare} harg11.unread X11) ∗ (arg12.view.loc (c : Thread nD τ) ↦[arg12.view.set]{fullShare} harg12.unread X12) ∗ (arg13.view.loc (c : Thread nD τ) ↦[arg13.view.set]{fullShare} harg13.unread X13) ∗ (arg14.view.loc (c : Thread nD τ) ↦[arg14.view.set]{fullShare} harg14.unread X14) ∗ (arg15.view.loc (c : Thread nD τ) ↦[arg15.view.set]{fullShare} harg15.unread X15)) : sProp 𝕄)
      ⊢ wp frame (wpE (defs₀ (F := F)) 𝒱 (c : Thread nD τ) bd) E (cc0_gn_silu_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => (iprop(owns (c : Thread nD τ) arg1 fullShare (X1) ∗ owns (c : Thread nD τ) arg2 fullShare (X2) ∗ owns (c : Thread nD τ) arg3 fullShare (X3) ∗ owns (c : Thread nD τ) arg4 fullShare (X4) ∗ owns (c : Thread nD τ) arg5 fullShare (X5) ∗ owns (c : Thread nD τ) arg6 fullShare (X6) ∗ owns (c : Thread nD τ) arg7 fullShare (X7) ∗ owns (c : Thread nD τ) arg8 fullShare (X8) ∗ owns (c : Thread nD τ) arg9 fullShare (X9) ∗ owns (c : Thread nD τ) arg10 fullShare (keptAt (dOf X1) X11 X12 X2 X3 X10 (i 0).val 8) ∗ owns (c : Thread nD τ) arg11 fullShare (X11) ∗ owns (c : Thread nD τ) arg12 fullShare (X12) ∗ owns (c : Thread nD τ) arg13 fullShare (gAt (dOf X1) X11 X12 X2 X3 X13 8) ∗ owns (c : Thread nD τ) arg14 fullShare (bAt (dOf X1) X11 X12 X2 X3 X14 8) ∗ owns (c : Thread nD τ) arg15 fullShare (k0_pay4 (mxAt (dOf X1) X11 X12 X2 X3 X15 8))) : sProp 𝕄)) := by
  have hr1 := readAt_full harg1 X1 inb_S1_S1_0
  have hr11 := readAt_full harg11 X11 inb_S160x128_S160x128_0_0
  have hr12 := readAt_full harg12 X12 inb_S160x128_S160x128_0_0
  have hr15 := readAt_full harg15 X15 inb_S8x128_S8x128_0_0
  simp only [cc0_gn_silu_bwd_eq_skeleton]
  unfold cc0_gn_silu_bwd_skel
  iintro ⟨H1, H2, H3, H4, H5, H6, H7, H8, H9, H10, H11, H12, H13, H14, H15⟩
  sl_exec (disch := assumption)
  sl_step
  unfold owns
  isplitl [H1]
  · iexists _; isplitr; swap
    · iexact H1
    · ipureintro; exact harg1.read_unread _
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact keptF_read harg10 _ _ _ _ _ _ X10 _ trips1
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; exact gF_read harg13 _ _ _ _ _ _ _ (harg13.read_unread X13) _ trips1
  isplitl [H14]
  · iexists _; isplitr; swap
    · iexact H14
    · ipureintro; exact bF_read harg14 _ _ _ _ _ _ _ (harg14.read_unread X14) _ trips1
  iexists _; isplitr; swap
  · iexact H15
  · ipureintro; exact (View.read_writes_full arg15.view _ inb_S8x128_S8x128_0_0 _ []).trans (congrArg k0_pay4 (congrArg (mxAt _ _ _ _ _ _) trips1))

set_option maxHeartbeats 1000000 in
/-- A step of the first half that starts a block of channels. -/
theorem bodyB (𝒱 : Variants) (bd : Option 𝒱.V) (E : Set ℕ) (h1 : Scalar.cmpi .ne (Scalar.extui (Scalar.cmpi .eq (BitVec.ofNat 32 (i 0).val) 0#32) : BitVec 32) 0#32 ≠ 1#1) (h2 : k0_cond2 i = 1#1) (h3 : k0_cond3 i = 1#1) (h4 : k0_cond4 i ≠ 1#1) (h5 : k0_cond5 i ≠ 1#1) :
    (iprop((arg1.view.loc (c : Thread nD τ) ↦[arg1.view.set]{fullShare} harg1.unread X1) ∗ (arg2.view.loc (c : Thread nD τ) ↦[arg2.view.set]{fullShare} harg2.unread X2) ∗ (arg3.view.loc (c : Thread nD τ) ↦[arg3.view.set]{fullShare} harg3.unread X3) ∗ (arg4.view.loc (c : Thread nD τ) ↦[arg4.view.set]{fullShare} harg4.unread X4) ∗ (arg5.view.loc (c : Thread nD τ) ↦[arg5.view.set]{fullShare} harg5.unread X5) ∗ (arg6.view.loc (c : Thread nD τ) ↦[arg6.view.set]{fullShare} harg6.unread X6) ∗ (arg7.view.loc (c : Thread nD τ) ↦[arg7.view.set]{fullShare} harg7.unread X7) ∗ (arg8.view.loc (c : Thread nD τ) ↦[arg8.view.set]{fullShare} harg8.unread X8) ∗ (arg9.view.loc (c : Thread nD τ) ↦[arg9.view.set]{fullShare} harg9.unread X9) ∗ (arg10.view.loc (c : Thread nD τ) ↦[arg10.view.set]{fullShare} harg10.unread X10) ∗ (arg11.view.loc (c : Thread nD τ) ↦[arg11.view.set]{fullShare} harg11.unread X11) ∗ (arg12.view.loc (c : Thread nD τ) ↦[arg12.view.set]{fullShare} harg12.unread X12) ∗ (arg13.view.loc (c : Thread nD τ) ↦[arg13.view.set]{fullShare} harg13.unread X13) ∗ (arg14.view.loc (c : Thread nD τ) ↦[arg14.view.set]{fullShare} harg14.unread X14) ∗ (arg15.view.loc (c : Thread nD τ) ↦[arg15.view.set]{fullShare} harg15.unread X15)) : sProp 𝕄)
      ⊢ wp frame (wpE (defs₀ (F := F)) 𝒱 (c : Thread nD τ) bd) E (cc0_gn_silu_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => (iprop(owns (c : Thread nD τ) arg1 fullShare (X1) ∗ owns (c : Thread nD τ) arg2 fullShare (X2) ∗ owns (c : Thread nD τ) arg3 fullShare (X3) ∗ owns (c : Thread nD τ) arg4 fullShare (X4) ∗ owns (c : Thread nD τ) arg5 fullShare (X5) ∗ owns (c : Thread nD τ) arg6 fullShare (X6) ∗ owns (c : Thread nD τ) arg7 fullShare (X7) ∗ owns (c : Thread nD τ) arg8 fullShare (X8) ∗ owns (c : Thread nD τ) arg9 fullShare (X9) ∗ owns (c : Thread nD τ) arg10 fullShare (keptAt (dOf X1) (k0_pay30 (rowOf X4 ((i 0).val / 6))) (k0_pay31 (rowOf X5 ((i 0).val / 6))) X2 X3 X10 (i 0).val 8) ∗ owns (c : Thread nD τ) arg11 fullShare ((k0_pay30 (rowOf X4 ((i 0).val / 6)))) ∗ owns (c : Thread nD τ) arg12 fullShare ((k0_pay31 (rowOf X5 ((i 0).val / 6)))) ∗ owns (c : Thread nD τ) arg13 fullShare (gAt (dOf X1) (k0_pay30 (rowOf X4 ((i 0).val / 6))) (k0_pay31 (rowOf X5 ((i 0).val / 6))) X2 X3 k0_pay28 8) ∗ owns (c : Thread nD τ) arg14 fullShare (bAt (dOf X1) (k0_pay30 (rowOf X4 ((i 0).val / 6))) (k0_pay31 (rowOf X5 ((i 0).val / 6))) X2 X3 k0_pay29 8) ∗ owns (c : Thread nD τ) arg15 fullShare (k0_pay4 (mxAt (dOf X1) (k0_pay30 (rowOf X4 ((i 0).val / 6))) (k0_pay31 (rowOf X5 ((i 0).val / 6))) X2 X3 X15 8))) : sProp 𝕄)) := by
  have hr1 := readAt_full harg1 X1 inb_S1_S1_0
  have hr4 := readAt_row harg4 X4 (k0_off1_inb i h2) _ (off1_eq i h2).2 (off1_eq i h2).1
  have hr5 := readAt_row harg5 X5 (k0_off1_inb i h2) _ (off1_eq i h2).2 (off1_eq i h2).1
  have hr15 := readAt_full harg15 X15 inb_S8x128_S8x128_0_0
  simp only [cc0_gn_silu_bwd_eq_skeleton]
  unfold cc0_gn_silu_bwd_skel
  iintro ⟨H1, H2, H3, H4, H5, H6, H7, H8, H9, H10, H11, H12, H13, H14, H15⟩
  sl_exec (disch := assumption)
  sl_step
  have e11 : bodyB.sl.v47 i arg11 X4 = (k0_pay30 (rowOf X4 ((i 0).val / 6))) := by
    delta bodyB.sl.v47
    exact (readAt_any harg11 _ inb_S160x128_S160x128_0_0).trans (View.read_writes_full arg11.view _ inb_S160x128_S160x128_0_0 _ [])
  have e12 : bodyB.sl.v50 i arg12 X5 = (k0_pay31 (rowOf X5 ((i 0).val / 6))) := by
    delta bodyB.sl.v50
    exact (readAt_any harg12 _ inb_S160x128_S160x128_0_0).trans (View.read_writes_full arg12.view _ inb_S160x128_S160x128_0_0 _ [])
  rw [e11, e12]
  unfold owns
  isplitl [H1]
  · iexists _; isplitr; swap
    · iexact H1
    · ipureintro; exact harg1.read_unread _
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact keptF_read harg10 _ _ _ _ _ _ X10 _ trips1
  isplitl [H11]
  · iexists _; isplitr; swap
    · iexact H11
    · ipureintro; exact (View.read_writes_full arg11.view _ inb_S160x128_S160x128_0_0 _ [])
  isplitl [H12]
  · iexists _; isplitr; swap
    · iexact H12
    · ipureintro; exact (View.read_writes_full arg12.view _ inb_S160x128_S160x128_0_0 _ [])
  isplitl [H13]
  · iexists _; isplitr; swap
    · iexact H13
    · ipureintro; exact gF_read harg13 _ _ _ _ _ _ _ (View.read_writes_full arg13.view _ inb_S160x128_S160x128_0_0 _ []) _ trips1
  isplitl [H14]
  · iexists _; isplitr; swap
    · iexact H14
    · ipureintro; exact bF_read harg14 _ _ _ _ _ _ _ (View.read_writes_full arg14.view _ inb_S160x128_S160x128_0_0 _ []) _ trips1
  iexists _; isplitr; swap
  · iexact H15
  · ipureintro; exact (View.read_writes_full arg15.view _ inb_S8x128_S8x128_0_0 _ []).trans (congrArg k0_pay4 (congrArg (mxAt _ _ _ _ _ _) trips1))

set_option maxHeartbeats 1000000 in
/-- The first step. -/
theorem bodyA (𝒱 : Variants) (bd : Option 𝒱.V) (E : Set ℕ) (h1 : Scalar.cmpi .ne (Scalar.extui (Scalar.cmpi .eq (BitVec.ofNat 32 (i 0).val) 0#32) : BitVec 32) 0#32 = 1#1) (h2 : k0_cond2 i = 1#1) (h3 : k0_cond3 i = 1#1) (h4 : k0_cond4 i ≠ 1#1) (h5 : k0_cond5 i ≠ 1#1) :
    (iprop((arg1.view.loc (c : Thread nD τ) ↦[arg1.view.set]{fullShare} harg1.unread X1) ∗ (arg2.view.loc (c : Thread nD τ) ↦[arg2.view.set]{fullShare} harg2.unread X2) ∗ (arg3.view.loc (c : Thread nD τ) ↦[arg3.view.set]{fullShare} harg3.unread X3) ∗ (arg4.view.loc (c : Thread nD τ) ↦[arg4.view.set]{fullShare} harg4.unread X4) ∗ (arg5.view.loc (c : Thread nD τ) ↦[arg5.view.set]{fullShare} harg5.unread X5) ∗ (arg6.view.loc (c : Thread nD τ) ↦[arg6.view.set]{fullShare} harg6.unread X6) ∗ (arg7.view.loc (c : Thread nD τ) ↦[arg7.view.set]{fullShare} harg7.unread X7) ∗ (arg8.view.loc (c : Thread nD τ) ↦[arg8.view.set]{fullShare} harg8.unread X8) ∗ (arg9.view.loc (c : Thread nD τ) ↦[arg9.view.set]{fullShare} harg9.unread X9) ∗ (arg10.view.loc (c : Thread nD τ) ↦[arg10.view.set]{fullShare} harg10.unread X10) ∗ (arg11.view.loc (c : Thread nD τ) ↦[arg11.view.set]{fullShare} harg11.unread X11) ∗ (arg12.view.loc (c : Thread nD τ) ↦[arg12.view.set]{fullShare} harg12.unread X12) ∗ (arg13.view.loc (c : Thread nD τ) ↦[arg13.view.set]{fullShare} harg13.unread X13) ∗ (arg14.view.loc (c : Thread nD τ) ↦[arg14.view.set]{fullShare} harg14.unread X14) ∗ (arg15.view.loc (c : Thread nD τ) ↦[arg15.view.set]{fullShare} harg15.unread X15)) : sProp 𝕄)
      ⊢ wp frame (wpE (defs₀ (F := F)) 𝒱 (c : Thread nD τ) bd) E (cc0_gn_silu_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => (iprop(owns (c : Thread nD τ) arg1 fullShare (X1) ∗ owns (c : Thread nD τ) arg2 fullShare (X2) ∗ owns (c : Thread nD τ) arg3 fullShare (X3) ∗ owns (c : Thread nD τ) arg4 fullShare (X4) ∗ owns (c : Thread nD τ) arg5 fullShare (X5) ∗ owns (c : Thread nD τ) arg6 fullShare (X6) ∗ owns (c : Thread nD τ) arg7 fullShare (X7) ∗ owns (c : Thread nD τ) arg8 fullShare (X8) ∗ owns (c : Thread nD τ) arg9 fullShare (X9) ∗ owns (c : Thread nD τ) arg10 fullShare (keptAt (dOf X1) (k0_pay30 (rowOf X4 ((i 0).val / 6))) (k0_pay31 (rowOf X5 ((i 0).val / 6))) X2 X3 X10 (i 0).val 8) ∗ owns (c : Thread nD τ) arg11 fullShare ((k0_pay30 (rowOf X4 ((i 0).val / 6)))) ∗ owns (c : Thread nD τ) arg12 fullShare ((k0_pay31 (rowOf X5 ((i 0).val / 6)))) ∗ owns (c : Thread nD τ) arg13 fullShare (gAt (dOf X1) (k0_pay30 (rowOf X4 ((i 0).val / 6))) (k0_pay31 (rowOf X5 ((i 0).val / 6))) X2 X3 k0_pay28 8) ∗ owns (c : Thread nD τ) arg14 fullShare (bAt (dOf X1) (k0_pay30 (rowOf X4 ((i 0).val / 6))) (k0_pay31 (rowOf X5 ((i 0).val / 6))) X2 X3 k0_pay29 8) ∗ owns (c : Thread nD τ) arg15 fullShare (k0_pay4 (mxAt (dOf X1) (k0_pay30 (rowOf X4 ((i 0).val / 6))) (k0_pay31 (rowOf X5 ((i 0).val / 6))) X2 X3 k0_pay27 8))) : sProp 𝕄)) := by
  have hr1 := readAt_full harg1 X1 inb_S1_S1_0
  have hr4 := readAt_row harg4 X4 (k0_off1_inb i h2) _ (off1_eq i h2).2 (off1_eq i h2).1
  have hr5 := readAt_row harg5 X5 (k0_off1_inb i h2) _ (off1_eq i h2).2 (off1_eq i h2).1
  simp only [cc0_gn_silu_bwd_eq_skeleton]
  unfold cc0_gn_silu_bwd_skel
  iintro ⟨H1, H2, H3, H4, H5, H6, H7, H8, H9, H10, H11, H12, H13, H14, H15⟩
  sl_exec (disch := assumption)
  sl_step
  have e11 : bodyA.sl.v47 i arg11 X4 = (k0_pay30 (rowOf X4 ((i 0).val / 6))) := by
    delta bodyA.sl.v47
    exact (readAt_any harg11 _ inb_S160x128_S160x128_0_0).trans (View.read_writes_full arg11.view _ inb_S160x128_S160x128_0_0 _ [])
  have e12 : bodyA.sl.v50 i arg12 X5 = (k0_pay31 (rowOf X5 ((i 0).val / 6))) := by
    delta bodyA.sl.v50
    exact (readAt_any harg12 _ inb_S160x128_S160x128_0_0).trans (View.read_writes_full arg12.view _ inb_S160x128_S160x128_0_0 _ [])
  rw [e11, e12]
  have e15 : bodyA.sl.v53 arg15 = (k0_pay27 : Vec F S8x128 .f32) := by
    delta bodyA.sl.v53
    exact (readAt_any harg15 _ inb_S8x128_S8x128_0_0).trans (View.read_writes_full arg15.view _ inb_S8x128_S8x128_0_0 _ [])
  rw [e15]
  unfold owns
  isplitl [H1]
  · iexists _; isplitr; swap
    · iexact H1
    · ipureintro; exact harg1.read_unread _
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact keptF_read harg10 _ _ _ _ _ _ X10 _ trips1
  isplitl [H11]
  · iexists _; isplitr; swap
    · iexact H11
    · ipureintro; exact (View.read_writes_full arg11.view _ inb_S160x128_S160x128_0_0 _ [])
  isplitl [H12]
  · iexists _; isplitr; swap
    · iexact H12
    · ipureintro; exact (View.read_writes_full arg12.view _ inb_S160x128_S160x128_0_0 _ [])
  isplitl [H13]
  · iexists _; isplitr; swap
    · iexact H13
    · ipureintro; exact gF_read harg13 _ _ _ _ _ _ _ (View.read_writes_full arg13.view _ inb_S160x128_S160x128_0_0 _ []) _ trips1
  isplitl [H14]
  · iexists _; isplitr; swap
    · iexact H14
    · ipureintro; exact bF_read harg14 _ _ _ _ _ _ _ (View.read_writes_full arg14.view _ inb_S160x128_S160x128_0_0 _ []) _ trips1
  iexists _; isplitr; swap
  · iexact H15
  · ipureintro; exact (View.read_writes_full arg15.view _ inb_S8x128_S8x128_0_0 _ _).trans (congrArg k0_pay4 (congrArg (mxAt _ _ _ _ _ _) trips1))

set_option maxHeartbeats 1000000 in
/-- A step of the first half that ends a block of channels. -/
theorem bodyD (𝒱 : Variants) (bd : Option 𝒱.V) (E : Set ℕ) (h1 : Scalar.cmpi .ne (Scalar.extui (Scalar.cmpi .eq (BitVec.ofNat 32 (i 0).val) 0#32) : BitVec 32) 0#32 ≠ 1#1) (h2 : k0_cond2 i ≠ 1#1) (h3 : k0_cond3 i = 1#1) (h4 : k0_cond4 i = 1#1) (h5 : k0_cond5 i ≠ 1#1) :
    (iprop((arg1.view.loc (c : Thread nD τ) ↦[arg1.view.set]{fullShare} harg1.unread X1) ∗ (arg2.view.loc (c : Thread nD τ) ↦[arg2.view.set]{fullShare} harg2.unread X2) ∗ (arg3.view.loc (c : Thread nD τ) ↦[arg3.view.set]{fullShare} harg3.unread X3) ∗ (arg4.view.loc (c : Thread nD τ) ↦[arg4.view.set]{fullShare} harg4.unread X4) ∗ (arg5.view.loc (c : Thread nD τ) ↦[arg5.view.set]{fullShare} harg5.unread X5) ∗ (arg6.view.loc (c : Thread nD τ) ↦[arg6.view.set]{fullShare} harg6.unread X6) ∗ (arg7.view.loc (c : Thread nD τ) ↦[arg7.view.set]{fullShare} harg7.unread X7) ∗ (arg8.view.loc (c : Thread nD τ) ↦[arg8.view.set]{fullShare} harg8.unread X8) ∗ (arg9.view.loc (c : Thread nD τ) ↦[arg9.view.set]{fullShare} harg9.unread X9) ∗ (arg10.view.loc (c : Thread nD τ) ↦[arg10.view.set]{fullShare} harg10.unread X10) ∗ (arg11.view.loc (c : Thread nD τ) ↦[arg11.view.set]{fullShare} harg11.unread X11) ∗ (arg12.view.loc (c : Thread nD τ) ↦[arg12.view.set]{fullShare} harg12.unread X12) ∗ (arg13.view.loc (c : Thread nD τ) ↦[arg13.view.set]{fullShare} harg13.unread X13) ∗ (arg14.view.loc (c : Thread nD τ) ↦[arg14.view.set]{fullShare} harg14.unread X14) ∗ (arg15.view.loc (c : Thread nD τ) ↦[arg15.view.set]{fullShare} harg15.unread X15)) : sProp 𝕄)
      ⊢ wp frame (wpE (defs₀ (F := F)) 𝒱 (c : Thread nD τ) bd) E (cc0_gn_silu_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => (iprop(owns (c : Thread nD τ) arg1 fullShare (X1) ∗ owns (c : Thread nD τ) arg2 fullShare (X2) ∗ owns (c : Thread nD τ) arg3 fullShare (X3) ∗ owns (c : Thread nD τ) arg4 fullShare (X4) ∗ owns (c : Thread nD τ) arg5 fullShare (X5) ∗ owns (c : Thread nD τ) arg6 fullShare (X6) ∗ owns (c : Thread nD τ) arg7 fullShare (X7) ∗ owns (c : Thread nD τ) arg8 fullShare (putRow X8 ((i 0).val / 6) (k0_pay5 (gAt (dOf X1) X11 X12 X2 X3 X13 8))) ∗ owns (c : Thread nD τ) arg9 fullShare (putRow X9 ((i 0).val / 6) (k0_pay6 (bAt (dOf X1) X11 X12 X2 X3 X14 8))) ∗ owns (c : Thread nD τ) arg10 fullShare (keptAt (dOf X1) X11 X12 X2 X3 X10 (i 0).val 8) ∗ owns (c : Thread nD τ) arg11 fullShare (X11) ∗ owns (c : Thread nD τ) arg12 fullShare (X12) ∗ owns (c : Thread nD τ) arg13 fullShare (gAt (dOf X1) X11 X12 X2 X3 X13 8) ∗ owns (c : Thread nD τ) arg14 fullShare (bAt (dOf X1) X11 X12 X2 X3 X14 8) ∗ owns (c : Thread nD τ) arg15 fullShare (k0_pay4 (mxAt (dOf X1) X11 X12 X2 X3 X15 8))) : sProp 𝕄)) := by
  have hr1 := readAt_full harg1 X1 inb_S1_S1_0
  have hr11 := readAt_full harg11 X11 inb_S160x128_S160x128_0_0
  have hr12 := readAt_full harg12 X12 inb_S160x128_S160x128_0_0
  have hr15 := readAt_full harg15 X15 inb_S8x128_S8x128_0_0
  simp only [cc0_gn_silu_bwd_eq_skeleton]
  unfold cc0_gn_silu_bwd_skel
  iintro ⟨H1, H2, H3, H4, H5, H6, H7, H8, H9, H10, H11, H12, H13, H14, H15⟩
  sl_exec (disch := assumption)
  sl_step
  unfold owns
  isplitl [H1]
  · iexists _; isplitr; swap
    · iexact H1
    · ipureintro; exact harg1.read_unread _
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; refine (writes_row harg8 X8 _ (k0_off4_inb i h4) _ (off4_eq i h4)).trans (congrArg (putRow X8 _) (congrArg k0_pay5 ?_))
      exact (readAt_any harg13 _ inb_S160x128_S160x128_0_0).trans (gF_read harg13 _ _ _ _ _ _ _ (harg13.read_unread X13) _ trips1)
  isplitl [H9]
  · iexists _; isplitr; swap
    · iexact H9
    · ipureintro; refine (writes_row harg9 X9 _ (k0_off4_inb i h4) _ (off4_eq i h4)).trans (congrArg (putRow X9 _) (congrArg k0_pay6 ?_))
      exact (readAt_any harg14 _ inb_S160x128_S160x128_0_0).trans (bF_read harg14 _ _ _ _ _ _ _ (harg14.read_unread X14) _ trips1)
  isplitl [H10]
  · iexists _; isplitr; swap
    · iexact H10
    · ipureintro; exact keptF_read harg10 _ _ _ _ _ _ X10 _ trips1
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; exact gF_read harg13 _ _ _ _ _ _ _ (harg13.read_unread X13) _ trips1
  isplitl [H14]
  · iexists _; isplitr; swap
    · iexact H14
    · ipureintro; exact bF_read harg14 _ _ _ _ _ _ _ (harg14.read_unread X14) _ trips1
  iexists _; isplitr; swap
  · iexact H15
  · ipureintro; exact (View.read_writes_full arg15.view _ inb_S8x128_S8x128_0_0 _ []).trans (congrArg k0_pay4 (congrArg (mxAt _ _ _ _ _ _) trips1))

end Cert.Kernel.Hand

end
-- ==== Proof.KernelTrack.lean ====
/- What the buffers that live across the grid hold before each of its points. -/
module

public import proofs.«01_k».proof.Proof.KernelState
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (c : Dev nD)

/-- Point `k` of the grid. -/
def pt (k : ℕ) : Fin cfg0.N := ⟨k % 96, lt_of_lt_of_eq (Nat.mod_lt _ (by decide)) N_0.symm⟩

/-- The point with the number of `t` is `t`. -/
theorem pt_val (t : Fin cfg0.N) : pt t.val = t :=
  Fin.ext (Nat.mod_eq_of_lt (lt_of_lt_of_eq t.isLt N_0))

/-- The scale of the incoming gradient, as point `k` finds it. -/
def dV (k : ℕ) : Elt F .f32 := dOf (F := F) (iblk m c 0 (pt k))

/-- The block of activations of point `k`. -/
def xB (k : ℕ) : Vec F S8x160x256 .bf16 := iblk m c 1 (pt k)

/-- The block of gradient codes of point `k`. -/
def yB (k : ℕ) : Vec F S8x160x256 .fp8e5m2 := iblk m c 2 (pt k)

/-- The column of gamma that point `k` works with. -/
def stepG (k : ℕ) : Vec F S160x128 .f32 := k0_pay30 (rowOf (F := F) (iblk m c 3 (pt (6 * (k / 6)))) (k / 6))

/-- The column of beta that point `k` works with. -/
def stepB (k : ℕ) : Vec F S160x128 .f32 := k0_pay31 (rowOf (F := F) (iblk m c 4 (pt (6 * (k / 6)))) (k / 6))

/-- The input gradient of sample `s` at point `k`. -/
def gradAt (k s : ℕ) : Vec F S1x1x160x256 .f32 :=
  dxRow (dV m c k) (stepG m c k) (stepB m c k) (sampleRow (xB m c k) s) (sampleRow (yB m c k) s)

/-- The running sum for gamma after point `k`. -/
def accG : ℕ → Vec F S160x128 .f32
  | 0 => gAt (dV m c 0) (stepG m c 0) (stepB m c 0) (xB m c 0) (yB m c 0) k0_pay28 8
  | k + 1 => gAt (dV m c (k + 1)) (stepG m c (k + 1)) (stepB m c (k + 1)) (xB m c (k + 1)) (yB m c (k + 1))
      (if (k + 1) % 6 = 0 then k0_pay28 else accG k) 8

/-- The running sum for beta after point `k`. -/
def accB : ℕ → Vec F S160x128 .f32
  | 0 => bAt (dV m c 0) (stepG m c 0) (stepB m c 0) (xB m c 0) (yB m c 0) k0_pay29 8
  | k + 1 => bAt (dV m c (k + 1)) (stepG m c (k + 1)) (stepB m c (k + 1)) (xB m c (k + 1)) (yB m c (k + 1))
      (if (k + 1) % 6 = 0 then k0_pay29 else accB k) 8

/-- The running maximum of absolute values after point `k`. -/
def amaxAt : ℕ → Vec F S8x128 .f32
  | 0 => k0_pay4 (mxAt (dV m c 0) (stepG m c 0) (stepB m c 0) (xB m c 0) (yB m c 0) k0_pay27 8)
  | k + 1 => k0_pay4 (mxAt (dV m c (k + 1)) (stepG m c (k + 1)) (stepB m c (k + 1)) (xB m c (k + 1)) (yB m c (k + 1)) (amaxAt k) 8)

/-- The first point of a row of the grid starts the sum for gamma at zero. -/
theorem accG_start (k : ℕ) (h : k % 6 = 0) :
    accG m c k = gAt (dV m c k) (stepG m c k) (stepB m c k) (xB m c k) (yB m c k) k0_pay28 8 := by
  cases k with
  | zero => rfl
  | succ k => rw [accG, if_pos h]

/-- The first point of a row of the grid starts the sum for beta at zero. -/
theorem accB_start (k : ℕ) (h : k % 6 = 0) :
    accB m c k = bAt (dV m c k) (stepG m c k) (stepB m c k) (xB m c k) (yB m c k) k0_pay29 8 := by
  cases k with
  | zero => rfl
  | succ k => rw [accB, if_pos h]

/-- Every other point of a row of the grid adds to the sum for gamma of the point before. -/
theorem accG_next (k : ℕ) (h : k % 6 ≠ 0) :
    accG m c k = gAt (dV m c k) (stepG m c k) (stepB m c k) (xB m c k) (yB m c k) (accG m c (k - 1)) 8 := by
  cases k with
  | zero => exact absurd rfl h
  | succ k => rw [accG, if_neg h, Nat.add_sub_cancel]

/-- Every other point of a row of the grid adds to the sum for beta of the point before. -/
theorem accB_next (k : ℕ) (h : k % 6 ≠ 0) :
    accB m c k = bAt (dV m c k) (stepG m c k) (stepB m c k) (xB m c k) (yB m c k) (accB m c (k - 1)) 8 := by
  cases k with
  | zero => exact absurd rfl h
  | succ k => rw [accB, if_neg h, Nat.add_sub_cancel]

/-- Every point but the first extends the running maximum of the point before. -/
theorem amaxAt_next (k : ℕ) (h : k ≠ 0) :
    amaxAt m c k = k0_pay4 (mxAt (dV m c k) (stepG m c k) (stepB m c k) (xB m c k) (yB m c k) (amaxAt m c (k - 1)) 8) := by
  cases k with
  | zero => exact absurd rfl h
  | succ k => rw [amaxAt, Nat.add_sub_cancel]

/-- Within a row of the grid the column of gamma stays. -/
theorem stepG_next (k : ℕ) (h : k % 6 ≠ 0) : stepG m c (k - 1) = stepG m c k := by
  unfold stepG; rw [show (k - 1) / 6 = k / 6 by omega]

/-- Within a row of the grid the column of beta stays. -/
theorem stepB_next (k : ℕ) (h : k % 6 ≠ 0) : stepB m c (k - 1) = stepB m c k := by
  unfold stepB; rw [show (k - 1) / 6 = k / 6 by omega]

/-- The first point of a row of the grid lays out the row of gamma that the whole row works with. -/
theorem stepG_start (k : ℕ) (h : k % 6 = 0) : k0_pay30 (rowOf (F := F) (iblk m c 3 (pt k)) (k / 6)) = stepG m c k := by
  unfold stepG; rw [show 6 * (k / 6) = k by omega]

/-- The first point of a row of the grid lays out the row of beta that the whole row works with. -/
theorem stepB_start (k : ℕ) (h : k % 6 = 0) : k0_pay31 (rowOf (F := F) (iblk m c 4 (pt k)) (k / 6)) = stepB m c k := by
  unfold stepB; rw [show 6 * (k / 6) = k by omega]

/-- What the buffers that live across the grid hold before point `n`: nothing is known before the first point; after
it, the columns, sums and maximum of the last point of the first half, and the input gradients of all its points so far. -/
structure Inv (n : ℕ) (Z : Vec F S48x8x160x256 .f32) (g b ag ab : Vec F S160x128 .f32) (ax : Vec F S8x128 .f32) : Prop where
  hg : 0 < n → g = stepG m c (min n 48 - 1)
  hb : 0 < n → b = stepB m c (min n 48 - 1)
  hag : 0 < n → ag = accG m c (min n 48 - 1)
  hab : 0 < n → ab = accB m c (min n 48 - 1)
  hax : 0 < n → ax = amaxAt m c (min n 48 - 1)
  hZ : ∀ k s, k < min n 48 → s < 8 → keptRow Z k s = gradAt m c k s

/-- Before the first point nothing is asked of the buffers. -/
theorem inv_zero (Z : Vec F S48x8x160x256 .f32) (g b ag ab : Vec F S160x128 .f32) (ax : Vec F S8x128 .f32) :
    Inv m c 0 Z g b ag ab ax where
  hg h := absurd h (Nat.lt_irrefl 0)
  hb h := absurd h (Nat.lt_irrefl 0)
  hag h := absurd h (Nat.lt_irrefl 0)
  hab h := absurd h (Nat.lt_irrefl 0)
  hax h := absurd h (Nat.lt_irrefl 0)
  hZ k s hk _ := absurd hk (by simp)

/-- A row of the kept gradients after step `t` has stored its eight. -/
theorem keptRow_keptAt (d : Elt F .f32) (g b : Vec F S160x128 .f32) (X : Vec F S8x160x256 .bf16) (Y : Vec F S8x160x256 .fp8e5m2)
    (Z : Vec F S48x8x160x256 .f32) (t k s : ℕ) (hk : k < 48) (hs : s < 8) :
    keptRow (keptAt d g b X Y Z t 8) k s = if k = t then dxRow d g b (sampleRow X s) (sampleRow Y s) else keptRow Z k s := by
  funext j
  have hk' : k % 48 = k := Nat.mod_eq_of_lt hk
  have hs' : s % 8 = s := Nat.mod_eq_of_lt hs
  have e : keptRow (keptAt d g b X Y Z t 8) k s j = if k % 48 = t ∧ s % 8 < 8 then
      dxRow d g b (sampleRow X (s % 8)) (sampleRow Y (s % 8)) (ix4 (n0 := 1) (n1 := 1) (n2 := 160) (n3 := 256) 0 0 (j 2) (j 3))
      else keptRow Z k s j := rfl
  rw [e, hk', hs']
  have ej : (ix4 (n0 := 1) (n1 := 1) (n2 := 160) (n3 := 256) 0 0 (j 2) (j 3) : S1x1x160x256.Idx) = j := by
    funext a
    match a with
    | ⟨0, _⟩ => exact Fin.ext (by have : (j 0).val < 1 := (j 0).isLt
                                  show 0 = (j 0).val; omega)
    | ⟨1, _⟩ => exact Fin.ext (by have : (j 1).val < 1 := (j 1).isLt
                                  show 0 = (j 1).val; omega)
    | ⟨2, _⟩ => rfl
    | ⟨3, _⟩ => rfl
  rw [ej]
  by_cases h : k = t
  · rw [if_pos ⟨h, hs⟩, if_pos h]
  · rw [if_neg (fun h' => h h'.1), if_neg h]

/-- A step of the first half, from columns, sums and maximum that are right after it, and the gradients it adds. -/
theorem inv_step (t : ℕ) (ht : t < 48) {Z : Vec F S48x8x160x256 .f32} {g b ag ab : Vec F S160x128 .f32} {ax : Vec F S8x128 .f32}
    (h : ∀ k s, k < t → s < 8 → keptRow Z k s = gradAt m c k s)
    (hg : g = stepG m c t) (hb : b = stepB m c t) (hag : ag = accG m c t) (hab : ab = accB m c t) (hax : ax = amaxAt m c t) :
    Inv m c (t + 1) (keptAt (dV m c t) (stepG m c t) (stepB m c t) (xB m c t) (yB m c t) Z t 8) g b ag ab ax := by
  have e : min (t + 1) 48 - 1 = t := by omega
  refine ⟨fun _ => e.symm ▸ hg, fun _ => e.symm ▸ hb, fun _ => e.symm ▸ hag, fun _ => e.symm ▸ hab, fun _ => e.symm ▸ hax, fun k s hk hs => ?_⟩
  rw [keptRow_keptAt _ _ _ _ _ _ _ _ _ (by omega) hs]
  by_cases hkt : k = t
  · rw [if_pos hkt, hkt]; rfl
  · rw [if_neg hkt]; exact h k s (by omega) hs

/-- A step of the second half changes none of it. -/
theorem inv_keep (t : ℕ) (ht : 48 ≤ t) {Z : Vec F S48x8x160x256 .f32} {g b ag ab : Vec F S160x128 .f32} {ax : Vec F S8x128 .f32}
    (h : Inv m c t Z g b ag ab ax) : Inv m c (t + 1) Z g b ag ab ax := by
  have e : min (t + 1) 48 = min t 48 := by omega
  obtain ⟨h1, h2, h3, h4, h5, h6⟩ := h
  exact ⟨fun _ => e ▸ h1 (by omega), fun _ => e ▸ h2 (by omega), fun _ => e ▸ h3 (by omega), fun _ => e ▸ h4 (by omega),
    fun _ => e ▸ h5 (by omega), fun k s hk hs => h6 k s (e ▸ hk) hs⟩

/-- The exponent of the whole tensor. -/
def expoF : IVec S8x128 32 := expo (amaxAt m c 47)

/-- Where it is out of the normal range. -/
def expoBadF : IVec S8x128 1 := expoBad (amaxAt m c 47)

/-- The block of codes of point `t` of the second half. -/
def codesBlk (t : ℕ) : Vec F S8x160x256 .fp8e5m2 := fun j =>
  codesOf (expoF m c) (expoBadF m c) 126#32 (gradAt m c (t - 48) (j 0).val) (ix3 (n0 := 1) (n1 := 160) (n2 := 256) 0 (j 1) (j 2))

/-- What a point of the second half leaves in the block of codes. -/
theorem codes_step (t : ℕ) (ht : 48 ≤ t) (ht' : t < 96) {Z : Vec F S48x8x160x256 .f32} {g b ag ab : Vec F S160x128 .f32} {ax : Vec F S8x128 .f32}
    (h : Inv m c t Z g b ag ab ax) (W : Vec F S8x160x256 .fp8e5m2) :
    codesAt (expo ax) (expoBad ax) 126#32 Z W (t - 48) 8 = codesBlk m c t := by
  have e : min t 48 - 1 = 47 := by omega
  have hax := h.hax (by omega)
  rw [e] at hax
  funext j
  have hj : (j 0).val < 8 := (j 0).isLt
  unfold codesAt codesBlk expoF expoBadF
  rw [if_pos hj, hax, h.hZ (t - 48) (j 0).val (by omega) hj]

/-- What the body may leave in each window's buffer at point `t`, given what it found there: the inputs as found; in
the second half the block of codes and the scale; a row of each of the channel sums at the end of a block of channels. -/
def afterW (w : Fin cfg0.W) (t : Fin cfg0.N) : (Y X : (cfg0.win w).block.Idx → Elt F (cfg0.win w).elt) → Prop :=
  match w with
  | ⟨0, _⟩ => fun Y X => X = Y
  | ⟨1, _⟩ => fun Y X => X = Y
  | ⟨2, _⟩ => fun Y X => X = Y
  | ⟨3, _⟩ => fun Y X => X = Y
  | ⟨4, _⟩ => fun Y X => X = Y
  | ⟨5, _⟩ => fun _ X => 48 ≤ t.val → X = codesBlk m c t.val
  | ⟨6, _⟩ => fun _ X => 48 ≤ t.val → X = fun _ => scaleOf (amaxAt m c 47)
  | ⟨7, _⟩ => fun Y X => X = if t.val < 48 ∧ t.val % 6 = 5 then putRow (F := F) Y (t.val / 6) (k0_pay5 (accG m c t.val)) else Y
  | ⟨8, _⟩ => fun Y X => X = if t.val < 48 ∧ t.val % 6 = 5 then putRow (F := F) Y (t.val / 6) (k0_pay6 (accB m c t.val)) else Y

end Cert.Kernel.Hand

end
-- ==== Proof.KernelPoint.lean ====
/- The body at any grid point: from buffers that hold what the earlier points left, to buffers that hold what the next
point expects. -/
module

public import proofs.«01_k».proof.Proof.KernelBody
public import proofs.«01_k».proof.Proof.KernelTrack

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A whole buffer held at `X`, at its raw contents. -/
theorem owns_raw {sp : Space} {sh : Shape} {e : EltTy} (c : Dev nD) {arg : Memref sig .tc sp sh e} (harg : arg.IsWhole) (X : sh.Idx → Elt F e) :
    (owns (c : Thread nD τ) arg fullShare X : sProp 𝕄) ⊢ (arg.view.loc (c : Thread nD τ) ↦[arg.view.set]{fullShare} harg.unread X) := by
  unfold owns
  iintro ⟨%f, %hf, H⟩
  rw [harg.eq_unread hf]
  iexact H

/-- The branch conditions of a point, by its number. -/
theorem conds : ∀ t : Fin grid0.N,
    ((Scalar.cmpi .ne (Scalar.extui (Scalar.cmpi .eq (BitVec.ofNat 32 (grid0.coords t 0).val) 0#32) : BitVec 32) 0#32 = 1#1) ↔ t.val = 0)
    ∧ (k0_cond2 (grid0.coords t) = 1#1 ↔ t.val < 48 ∧ t.val % 6 = 0) ∧ (k0_cond3 (grid0.coords t) = 1#1 ↔ t.val < 48)
    ∧ (k0_cond4 (grid0.coords t) = 1#1 ↔ t.val < 48 ∧ t.val % 6 = 5) ∧ (k0_cond5 (grid0.coords t) = 1#1 ↔ 48 ≤ t.val)
    ∧ (grid0.coords t 0).val = t.val := by decide +kernel

variable (m : (ℓ : Loc nD τ sig) → Buf (Elt F) ℓ)
variable (c : Dev nD) (t : Fin cfg0.N) (arg1 : Memref sig .tc .smem S1 .f32) (harg1 : arg1.IsWhole)
  (arg2 : Memref sig .tc .vmem S8x160x256 .bf16) (harg2 : arg2.IsWhole)
  (arg3 : Memref sig .tc .vmem S8x160x256 .fp8e5m2) (harg3 : arg3.IsWhole)
  (arg4 : Memref sig .tc .vmem S8x160 .f32) (harg4 : arg4.IsWhole)
  (arg5 : Memref sig .tc .vmem S8x160 .f32) (harg5 : arg5.IsWhole)
  (arg6 : Memref sig .tc .vmem S8x160x256 .fp8e5m2) (harg6 : arg6.IsWhole)
  (arg7 : Memref sig .tc .smem S1 .f32) (harg7 : arg7.IsWhole)
  (arg8 : Memref sig .tc .vmem S8x160 .f32) (harg8 : arg8.IsWhole)
  (arg9 : Memref sig .tc .vmem S8x160 .f32) (harg9 : arg9.IsWhole)
  (arg10 : Memref sig .tc .vmem S48x8x160x256 .f32) (harg10 : arg10.IsWhole)
  (arg11 : Memref sig .tc .vmem S160x128 .f32) (harg11 : arg11.IsWhole)
  (arg12 : Memref sig .tc .vmem S160x128 .f32) (harg12 : arg12.IsWhole)
  (arg13 : Memref sig .tc .vmem S160x128 .f32) (harg13 : arg13.IsWhole)
  (arg14 : Memref sig .tc .vmem S160x128 .f32) (harg14 : arg14.IsWhole)
  (arg15 : Memref sig .tc .vmem S8x128 .f32) (harg15 : arg15.IsWhole)

/-- What holds of the buffers after point `t`, given what the channel sums held before it. -/
def Good (X8 X9 : Vec F S8x160 .f32) (Y6 : Vec F S8x160x256 .fp8e5m2) (Y7 : Vec F S1 .f32) (Y8 : Vec F S8x160 .f32) (Y9 : Vec F S8x160 .f32) (Y10 : Vec F S48x8x160x256 .f32) (Y11 : Vec F S160x128 .f32) (Y12 : Vec F S160x128 .f32) (Y13 : Vec F S160x128 .f32) (Y14 : Vec F S160x128 .f32) (Y15 : Vec F S8x128 .f32) : Prop :=
  (48 ≤ t.val → Y6 = codesBlk m c t.val) ∧ (48 ≤ t.val → Y7 = fun _ => scaleOf (amaxAt m c 47)) ∧ (Y8 = if t.val < 48 ∧ t.val % 6 = 5 then putRow (F := F) X8 (t.val / 6) (k0_pay5 (accG m c t.val)) else X8) ∧ (Y9 = if t.val < 48 ∧ t.val % 6 = 5 then putRow (F := F) X9 (t.val / 6) (k0_pay6 (accB m c t.val)) else X9) ∧ Inv m c (t.val + 1) Y10 Y11 Y12 Y13 Y14 Y15

variable (X1 : Vec F S1 .f32) (X2 : Vec F S8x160x256 .bf16) (X3 : Vec F S8x160x256 .fp8e5m2) (X4 : Vec F S8x160 .f32) (X5 : Vec F S8x160 .f32) (X6 : Vec F S8x160x256 .fp8e5m2) (X7 : Vec F S1 .f32) (X8 : Vec F S8x160 .f32) (X9 : Vec F S8x160 .f32) (X10 : Vec F S48x8x160x256 .f32) (X11 : Vec F S160x128 .f32) (X12 : Vec F S160x128 .f32) (X13 : Vec F S160x128 .f32) (X14 : Vec F S160x128 .f32) (X15 : Vec F S8x128 .f32)

/-- All the buffers of a point, at their raw contents. -/
theorem owns_all :
    (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15) : sProp 𝕄)
      ⊢ (iprop((arg1.view.loc (c : Thread nD τ) ↦[arg1.view.set]{fullShare} harg1.unread X1) ∗ (arg2.view.loc (c : Thread nD τ) ↦[arg2.view.set]{fullShare} harg2.unread X2) ∗ (arg3.view.loc (c : Thread nD τ) ↦[arg3.view.set]{fullShare} harg3.unread X3) ∗ (arg4.view.loc (c : Thread nD τ) ↦[arg4.view.set]{fullShare} harg4.unread X4) ∗ (arg5.view.loc (c : Thread nD τ) ↦[arg5.view.set]{fullShare} harg5.unread X5) ∗ (arg6.view.loc (c : Thread nD τ) ↦[arg6.view.set]{fullShare} harg6.unread X6) ∗ (arg7.view.loc (c : Thread nD τ) ↦[arg7.view.set]{fullShare} harg7.unread X7) ∗ (arg8.view.loc (c : Thread nD τ) ↦[arg8.view.set]{fullShare} harg8.unread X8) ∗ (arg9.view.loc (c : Thread nD τ) ↦[arg9.view.set]{fullShare} harg9.unread X9) ∗ (arg10.view.loc (c : Thread nD τ) ↦[arg10.view.set]{fullShare} harg10.unread X10) ∗ (arg11.view.loc (c : Thread nD τ) ↦[arg11.view.set]{fullShare} harg11.unread X11) ∗ (arg12.view.loc (c : Thread nD τ) ↦[arg12.view.set]{fullShare} harg12.unread X12) ∗ (arg13.view.loc (c : Thread nD τ) ↦[arg13.view.set]{fullShare} harg13.unread X13) ∗ (arg14.view.loc (c : Thread nD τ) ↦[arg14.view.set]{fullShare} harg14.unread X14) ∗ (arg15.view.loc (c : Thread nD τ) ↦[arg15.view.set]{fullShare} harg15.unread X15)) : sProp 𝕄) := by
  iintro ⟨H1, H2, H3, H4, H5, H6, H7, H8, H9, H10, H11, H12, H13, H14, H15⟩
  isplitl [H1]; · iapply (owns_raw c harg1 X1); iexact H1
  isplitl [H2]; · iapply (owns_raw c harg2 X2); iexact H2
  isplitl [H3]; · iapply (owns_raw c harg3 X3); iexact H3
  isplitl [H4]; · iapply (owns_raw c harg4 X4); iexact H4
  isplitl [H5]; · iapply (owns_raw c harg5 X5); iexact H5
  isplitl [H6]; · iapply (owns_raw c harg6 X6); iexact H6
  isplitl [H7]; · iapply (owns_raw c harg7 X7); iexact H7
  isplitl [H8]; · iapply (owns_raw c harg8 X8); iexact H8
  isplitl [H9]; · iapply (owns_raw c harg9 X9); iexact H9
  isplitl [H10]; · iapply (owns_raw c harg10 X10); iexact H10
  isplitl [H11]; · iapply (owns_raw c harg11 X11); iexact H11
  isplitl [H12]; · iapply (owns_raw c harg12 X12); iexact H12
  isplitl [H13]; · iapply (owns_raw c harg13 X13); iexact H13
  isplitl [H14]; · iapply (owns_raw c harg14 X14); iexact H14
  iapply (owns_raw c harg15 X15); iexact H15

set_option maxHeartbeats 1000000 in
/-- The body at point `t`. -/
theorem body_point (e1 : X1 = iblk m c 0 t) (e2 : X2 = iblk m c 1 t) (e3 : X3 = iblk m c 2 t) (e4 : X4 = iblk m c 3 t) (e5 : X5 = iblk m c 4 t)
    (hI : Inv m c t.val X10 X11 X12 X13 X14 X15) :
    (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15) : sProp 𝕄)
      ⊢ wp frame (wpE (defs₀ (F := F)) Variants.none (c : Thread nD τ) none) Set.univ (cc0_gn_silu_bwd (F := F) (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => (iprop(∃ (Y6 : Vec F S8x160x256 .fp8e5m2) (Y7 : Vec F S1 .f32) (Y8 : Vec F S8x160 .f32) (Y9 : Vec F S8x160 .f32) (Y10 : Vec F S48x8x160x256 .f32) (Y11 : Vec F S160x128 .f32) (Y12 : Vec F S160x128 .f32) (Y13 : Vec F S160x128 .f32) (Y14 : Vec F S160x128 .f32) (Y15 : Vec F S8x128 .f32), ⌜Good m c t X8 X9 Y6 Y7 Y8 Y9 Y10 Y11 Y12 Y13 Y14 Y15⌝ ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14 ∗ owns (c : Thread nD τ) arg15 fullShare Y15) : sProp 𝕄)) := by
  obtain ⟨c1, c2, c3, c4, c5, c0⟩ := conds t
  have hN : t.val < 96 := lt_of_lt_of_eq t.isLt N_0
  have d1 : dOf X1 = dV m c t.val := by rw [e1]; unfold dV; rw [pt_val]
  have d2 : X2 = xB m c t.val := by rw [e2]; unfold xB; rw [pt_val]
  have d3 : X3 = yB m c t.val := by rw [e3]; unfold yB; rw [pt_val]
  have hZ := hI.hZ
  refine (owns_all c arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X5 X6 X7 X8 X9 X10 X11 X12 X13 X14 X15).trans ?_
  by_cases h48 : 48 ≤ t.val
  · have n3 : ¬ t.val < 48 := by omega
    refine triple_restated (bodyE c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X5 X6 X7 X8 X9 X10 X11 X12 X13 X14 X15 Variants.none none Set.univ (fun h => absurd (c1.mp h) (by omega)) (fun h => absurd (c2.mp h) (by omega)) (fun h => absurd (c3.mp h) n3) (fun h => absurd (c4.mp h) (by omega)) (c5.mpr h48)) rfl .rfl fun _ => ?_
    iintro H
    iexists _, _, _, _, _, _, _, _, _, _
    isplitr; swap
    · iexact H
    · ipureintro
      rw [c0]
      exact ⟨fun _ => codes_step m c t.val h48 hN hI X6, fun _ => by rw [hI.hax (by omega), show min t.val 48 - 1 = 47 by omega],
        (if_neg (by omega)).symm, (if_neg (by omega)).symm, inv_keep m c t.val h48 hI⟩
  have l48 : t.val < 48 := by omega
  by_cases h0 : t.val = 0
  · have h6 : t.val % 6 = 0 := by omega
    refine triple_restated (bodyA c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X5 X6 X7 X8 X9 X10 X11 X12 X13 X14 X15 Variants.none none Set.univ (c1.mpr h0) (c2.mpr ⟨l48, h6⟩) (c3.mpr l48) (fun h => absurd (c4.mp h) (by omega)) (fun h => absurd (c5.mp h) (by omega))) rfl .rfl fun _ => ?_
    iintro H
    iexists _, _, _, _, _, _, _, _, _, _
    isplitr; swap
    · iexact H
    · ipureintro
      rw [c0]
      have eG : k0_pay30 (rowOf X4 (t.val / 6)) = stepG m c t.val := by rw [e4, ← stepG_start m c t.val h6, pt_val]
      have eB : k0_pay31 (rowOf X5 (t.val / 6)) = stepB m c t.val := by rw [e5, ← stepB_start m c t.val h6, pt_val]
      rw [eG, eB, d1, d2, d3]
      refine ⟨fun h => absurd h (by omega), fun h => absurd h (by omega), (if_neg (by omega)).symm, (if_neg (by omega)).symm, inv_step m c t.val l48 (fun k s hk hs => hZ k s (by omega) hs) rfl rfl (accG_start m c _ h6).symm (accB_start m c _ h6).symm ?_⟩
      rw [h0]; rfl
  by_cases h6 : t.val % 6 = 0
  · skip
    refine triple_restated (bodyB c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X5 X6 X7 X8 X9 X10 X11 X12 X13 X14 X15 Variants.none none Set.univ (fun h => absurd (c1.mp h) h0) (c2.mpr ⟨l48, h6⟩) (c3.mpr l48) (fun h => absurd (c4.mp h) (by omega)) (fun h => absurd (c5.mp h) (by omega))) rfl .rfl fun _ => ?_
    iintro H
    iexists _, _, _, _, _, _, _, _, _, _
    isplitr; swap
    · iexact H
    · ipureintro
      rw [c0]
      have eG : k0_pay30 (rowOf X4 (t.val / 6)) = stepG m c t.val := by rw [e4, ← stepG_start m c t.val h6, pt_val]
      have eB : k0_pay31 (rowOf X5 (t.val / 6)) = stepB m c t.val := by rw [e5, ← stepB_start m c t.val h6, pt_val]
      rw [eG, eB, d1, d2, d3]
      have f15 : X15 = amaxAt m c (t.val - 1) := by rw [hI.hax (by omega), show min t.val 48 = t.val by omega]
      exact ⟨fun h => absurd h (by omega), fun h => absurd h (by omega), (if_neg (by omega)).symm, (if_neg (by omega)).symm, inv_step m c t.val l48 (fun k s hk hs => hZ k s (by omega) hs) rfl rfl (accG_start m c _ h6).symm (accB_start m c _ h6).symm (f15 ▸ (amaxAt_next m c _ h0).symm)⟩
  by_cases h5 : t.val % 6 = 5
  · skip
    refine triple_restated (bodyD c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X5 X6 X7 X8 X9 X10 X11 X12 X13 X14 X15 Variants.none none Set.univ (fun h => absurd (c1.mp h) h0) (fun h => absurd (c2.mp h) (by omega)) (c3.mpr l48) (c4.mpr ⟨l48, h5⟩) (fun h => absurd (c5.mp h) (by omega))) rfl .rfl fun _ => ?_
    iintro H
    iexists _, _, _, _, _, _, _, _, _, _
    isplitr; swap
    · iexact H
    · ipureintro
      rw [c0]
      have e48 : min t.val 48 = t.val := by omega
      have eG : X11 = stepG m c t.val := by rw [hI.hg (by omega), e48, stepG_next m c _ h6]
      have eB : X12 = stepB m c t.val := by rw [hI.hb (by omega), e48, stepB_next m c _ h6]
      rw [eG, eB, d1, d2, d3]
      have f13 : X13 = accG m c (t.val - 1) := by rw [hI.hag (by omega), e48]
      have f14 : X14 = accB m c (t.val - 1) := by rw [hI.hab (by omega), e48]
      have f15 : X15 = amaxAt m c (t.val - 1) := by rw [hI.hax (by omega), show min t.val 48 = t.val by omega]
      have g13 := (show gAt (dV m c t.val) (stepG m c t.val) (stepB m c t.val) (xB m c t.val) (yB m c t.val) X13 8 = accG m c t.val from f13 ▸ (accG_next m c _ h6).symm)
      have g14 := (show bAt (dV m c t.val) (stepG m c t.val) (stepB m c t.val) (xB m c t.val) (yB m c t.val) X14 8 = accB m c t.val from f14 ▸ (accB_next m c _ h6).symm)
      exact ⟨fun h => absurd h (by omega), fun h => absurd h (by omega), (congrArg (putRow X8 _) (congrArg k0_pay5 g13)).trans (if_pos ⟨l48, h5⟩).symm, (congrArg (putRow X9 _) (congrArg k0_pay6 g14)).trans (if_pos ⟨l48, h5⟩).symm,
        inv_step m c t.val l48 (fun k s hk hs => hZ k s (by omega) hs) rfl rfl g13 g14 (f15 ▸ (amaxAt_next m c _ h0).symm)⟩
  · skip
    refine triple_restated (bodyC c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X5 X6 X7 X8 X9 X10 X11 X12 X13 X14 X15 Variants.none none Set.univ (fun h => absurd (c1.mp h) h0) (fun h => absurd (c2.mp h) (by omega)) (c3.mpr l48) (fun h => absurd (c4.mp h) (by omega)) (fun h => absurd (c5.mp h) (by omega))) rfl .rfl fun _ => ?_
    iintro H
    iexists _, _, _, _, _, _, _, _, _, _
    isplitr; swap
    · iexact H
    · ipureintro
      rw [c0]
      have e48 : min t.val 48 = t.val := by omega
      have eG : X11 = stepG m c t.val := by rw [hI.hg (by omega), e48, stepG_next m c _ h6]
      have eB : X12 = stepB m c t.val := by rw [hI.hb (by omega), e48, stepB_next m c _ h6]
      rw [eG, eB, d1, d2, d3]
      have f13 : X13 = accG m c (t.val - 1) := by rw [hI.hag (by omega), e48]
      have f14 : X14 = accB m c (t.val - 1) := by rw [hI.hab (by omega), e48]
      have f15 : X15 = amaxAt m c (t.val - 1) := by rw [hI.hax (by omega), show min t.val 48 = t.val by omega]
      exact ⟨fun h => absurd h (by omega), fun h => absurd h (by omega), (if_neg (by omega)).symm, (if_neg (by omega)).symm, inv_step m c t.val l48 (fun k s hk hs => hZ k s (by omega) hs) rfl rfl (f13 ▸ (accG_next m c _ h6).symm) (f14 ▸ (accB_next m c _ h6).symm) (f15 ▸ (amaxAt_next m c _ h0).symm)⟩

end Cert.Kernel.Hand

end
-- ==== Proof.KernelRun.lean ====
/- The run of the kernel: its proof data, the body obligation, and what every final state holds. -/
module

public import proofs.«01_k».proof.Proof.KernelPoint
public import Idealize.ShloMosaic.Lib.Pipeline.ArrRel

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is kept between points: the six buffers that live across the grid hold what `Inv` says, and the random
generator's register is held. -/
def keeps (c : Dev nD) (n : ℕ) : sProp 𝕄 :=
  iprop((∃ (Z : Vec F S48x8x160x256 .f32) (g : Vec F S160x128 .f32) (b : Vec F S160x128 .f32) (ag : Vec F S160x128 .f32) (ab : Vec F S160x128 .f32) (ax : Vec F S8x128 .f32), ⌜Inv m c n Z g b ag ab ax⌝ ∗ owns (c : Thread nD τ) (Memref.whole cc0_scratch0) fullShare Z ∗ owns (c : Thread nD τ) (Memref.whole cc0_scratch1) fullShare g ∗ owns (c : Thread nD τ) (Memref.whole cc0_scratch2) fullShare b ∗ owns (c : Thread nD τ) (Memref.whole cc0_scratch3) fullShare ag ∗ owns (c : Thread nD τ) (Memref.whole cc0_scratch4) fullShare ab ∗ owns (c : Thread nD τ) (Memref.whole cc0_scratch5) fullShare ax) ∗ ∃ r, prngReg c r)

/-- The proof data: each array as the region finds it, what the body may leave in each window (`afterW`), and what is
kept between points (`keeps`). -/
def rdat (c : Dev nD) : Pipeline.RDat τ (Elt F) Unit ℕ (UR sig nD τ) ℕ cfg0 c where
  A w := V m c (Pipeline.arrRef spec0 w)
  after w t := afterW m c w t
  Φ n := keeps m c n.val
  q _ := fullShare
  owed _ := 0

/-- The array of window `w` starts as the array that the memory holds for it. -/
theorem rdat_A (c : Dev nD) (w : Fin cfg0.W) : (rdat m c).A w = V m c (Pipeline.arrRef spec0 w) := by dsimp only [rdat]

/-- Input window 0 holds its block at every point. -/
theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  exact hd.trans (by unfold Pipeline.RDat.fetched Pipeline.RDat.blockOf iblk; rw [rdat_A]; try rfl)

/-- Input window 1 holds its block at every point. -/
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  exact hd.trans (by unfold Pipeline.RDat.fetched Pipeline.RDat.blockOf iblk; rw [rdat_A]; try rfl)

/-- Input window 2 holds its block at every point. -/
theorem finds2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  exact hd.trans (by unfold Pipeline.RDat.fetched Pipeline.RDat.blockOf iblk; rw [rdat_A]; try rfl)

/-- Input window 3 holds its block at every point. -/
theorem finds3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  exact hd.trans (by unfold Pipeline.RDat.fetched Pipeline.RDat.blockOf iblk; rw [rdat_A]; try rfl)

/-- Input window 4 holds its block at every point. -/
theorem finds4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  exact hd.trans (by unfold Pipeline.RDat.fetched Pipeline.RDat.blockOf iblk; rw [rdat_A]; try rfl)

/-- The body that the pipeline calls at point `t`, with the slots of that point, is the body at that point. -/
theorem defs₀_row (t : Fin cfg0.N) : defs₀ (F := F) .tc cfg0.body (cfg0.bodyArgs t (cfg0.slots t)) = bodyAt0 t := by
  unfold defs₀; rw [Defs.onTc_tc]

set_option maxHeartbeats 1000000 in
/-- The body at a point, in the form the run asks for. -/
theorem sound_body (c : Dev nD) (t : Fin cfg0.N) (Y : (w : Fin cfg0.W) → (cfg0.win w).block.Idx → Elt F (cfg0.win w).elt)
    (hY : ∀ w, (rdat m c).Finds w t (Y w)) :
    (iprop(keeps m c t.val ∗ (rdat m c).owesAt () t.castSucc ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8)) : sProp 𝕄)
      ⊢ wp frame (wpE (defs₀ (F := F)) Variants.none (c : Thread nD τ) none) Set.univ (bodyAt0 t)
          (fun _ => (iprop(keeps m c (t.val + 1) ∗ (rdat m c).owesAt () t.castSucc ∗ (∃ X, ⌜afterW m c 0 t (Y 0) X⌝ ∗ owns (c : Thread nD τ) (win0_0.stage (cfg0.slots t 0)) fullShare X) ∗ (∃ X, ⌜afterW m c 1 t (Y 1) X⌝ ∗ owns (c : Thread nD τ) (win0_1.stage (cfg0.slots t 1)) fullShare X) ∗ (∃ X, ⌜afterW m c 2 t (Y 2) X⌝ ∗ owns (c : Thread nD τ) (win0_2.stage (cfg0.slots t 2)) fullShare X) ∗ (∃ X, ⌜afterW m c 3 t (Y 3) X⌝ ∗ owns (c : Thread nD τ) (win0_3.stage (cfg0.slots t 3)) fullShare X) ∗ (∃ X, ⌜afterW m c 4 t (Y 4) X⌝ ∗ owns (c : Thread nD τ) (win0_4.stage (cfg0.slots t 4)) fullShare X) ∗ (∃ X, ⌜afterW m c 5 t (Y 5) X⌝ ∗ owns (c : Thread nD τ) (win0_5.stage (cfg0.slots t 5)) fullShare X) ∗ (∃ X, ⌜afterW m c 6 t (Y 6) X⌝ ∗ owns (c : Thread nD τ) (win0_6.stage (cfg0.slots t 6)) fullShare X) ∗ (∃ X, ⌜afterW m c 7 t (Y 7) X⌝ ∗ owns (c : Thread nD τ) (win0_7.stage (cfg0.slots t 7)) fullShare X) ∗ (∃ X, ⌜afterW m c 8 t (Y 8) X⌝ ∗ owns (c : Thread nD τ) (win0_8.stage (cfg0.slots t 8)) fullShare X)) : sProp 𝕄)) := by
  unfold keeps
  iintro ⟨⟨⟨%Z, %g, %b, %ag, %ab, %ax, %hI, S0, S1, S2, S3, S4, S5⟩, HR⟩, HO, W0, W1, W2, W3, W4, W5, W6, W7, W8⟩
  iapply wp_wand_r
  isplitl [S0 S1 S2 S3 S4 S5 W0 W1 W2 W3 W4 W5 W6 W7 W8]
  · iapply (body_point m c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Y 0) (Y 1) (Y 2) (Y 3) (Y 4) (Y 5) (Y 6) (Y 7) (Y 8) Z g b ag ab ax (finds0 m c t _ (hY 0)) (finds1 m c t _ (hY 1)) (finds2 m c t _ (hY 2)) (finds3 m c t _ (hY 3)) (finds4 m c t _ (hY 4)) hI)
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [S0]; · iexact S0
    isplitl [S1]; · iexact S1
    isplitl [S2]; · iexact S2
    isplitl [S3]; · iexact S3
    isplitl [S4]; · iexact S4
    iexact S5
  iintro %a ⟨%Y6, %Y7, %Y8, %Y9, %Y10, %Y11, %Y12, %Y13, %Y14, %Y15, %hG, W0, W1, W2, W3, W4, W5, W6, W7, W8, S0, S1, S2, S3, S4, S5⟩
  obtain ⟨g5, g6, g7, g8, gI⟩ := hG
  isplitl [S0 S1 S2 S3 S4 S5 HR]
  · isplitr [HR]
    · iexists Y10, Y11, Y12, Y13, Y14, Y15
      isplitr; · ipureintro; exact gI
      isplitl [S0]; · iexact S0
      isplitl [S1]; · iexact S1
      isplitl [S2]; · iexact S2
      isplitl [S3]; · iexact S3
      isplitl [S4]; · iexact S4
      iexact S5
    · iexact HR
  isplitl [HO]; · iexact HO
  isplitl [W0]
  · iexists (Y 0); isplitr; swap
    · iexact W0
    · ipureintro; exact rfl
  isplitl [W1]
  · iexists (Y 1); isplitr; swap
    · iexact W1
    · ipureintro; exact rfl
  isplitl [W2]
  · iexists (Y 2); isplitr; swap
    · iexact W2
    · ipureintro; exact rfl
  isplitl [W3]
  · iexists (Y 3); isplitr; swap
    · iexact W3
    · ipureintro; exact rfl
  isplitl [W4]
  · iexists (Y 4); isplitr; swap
    · iexact W4
    · ipureintro; exact rfl
  isplitl [W5]
  · iexists Y6; isplitr; swap
    · iexact W5
    · ipureintro; exact g5
  isplitl [W6]
  · iexists Y7; isplitr; swap
    · iexact W6
    · ipureintro; exact g6
  isplitl [W7]
  · iexists Y8; isplitr; swap
    · iexact W7
    · ipureintro; exact g7
  · iexists Y9; isplitr; swap
    · iexact W8
    · ipureintro; exact g8

/-- What the run asks of the body, at every point. -/
theorem body_obligation (c : Dev nD) : (rdat m c).BodyObligation (defs₀ (F := F)) Variants.none () Set.univ := fun t Y hY => by
  rw [bigSep_W0, bigSep_W0, defs₀_row]
  exact triple_restated (sound_body m c t Y hY) rfl .rfl fun _ => .rfl

/-- Before the first point the scratch buffers, whatever they hold, satisfy what is kept from point to point. -/
theorem keeps_in (c : Dev nD) : (Pipeline.ΦA spec0 c : sProp 𝕄) ⊢ keeps m c 0 := by
  unfold Pipeline.ΦA keeps
  rw [scopedRest0_eq]
  simp only [owns_whole]
  iintro ⟨⟨⟨%Z, S0⟩, ⟨%g, S1⟩, ⟨%b, S2⟩, ⟨%ag, S3⟩, ⟨%ab, S4⟩, ⟨%ax, S5⟩⟩, HR⟩
  isplitr [HR]
  · iexists Z, g, b, ag, ab, ax
    isplitr; · ipureintro; exact inv_zero m c Z g b ag ab ax
    isplitl [S0]; · iexact S0
    isplitl [S1]; · iexact S1
    isplitl [S2]; · iexact S2
    isplitl [S3]; · iexact S3
    isplitl [S4]; · iexact S4
    iexact S5
  · iexact HR

/-- What is kept from point to point gives the scratch buffers back, whatever they hold. -/
theorem keeps_out (c : Dev nD) (n : ℕ) : keeps m c n ⊢ (Pipeline.ΦA spec0 c : sProp 𝕄) := by
  unfold Pipeline.ΦA keeps
  rw [scopedRest0_eq]
  simp only [owns_whole]
  iintro ⟨⟨%Z, %g, %b, %ag, %ab, %ax, -, S0, S1, S2, S3, S4, S5⟩, HR⟩
  isplitr [HR]
  · isplitl [S0]; · iexists Z; iexact S0
    isplitl [S1]; · iexists g; iexact S1
    isplitl [S2]; · iexists b; iexact S2
    isplitl [S3]; · iexists ag; iexact S3
    isplitl [S4]; · iexists ab; iexact S4
    iexists ax; iexact S5
  · iexact HR

set_option backward.isDefEq.respectTransparency.types false in
/-- THE RUN: it terminates, every array of the pipeline holds something the proof data allow, every other buffer is
untouched, and every semaphore counter is at zero. -/
theorem run_main : θ_run defs (onTc (τ := τ) (main (F := F))) (s₀ m ρ) (fun r => Pipeline.RDat.FramePost cfg0 (rdat m) (V m) r ∧ r.2.sem = fun _ => 0) :=
  Pipeline.RDat.θ_run_frame_track (Q' := fun r => Pipeline.RDat.FramePost cfg0 (rdat m) (V m) r ∧ r.2.sem = fun _ => 0) cfgs (0 : Fin 1) launch0 defs₀ Variants.none (rdat m) m ρ main
    (hbody := fun c => body_obligation m c) (hshare := fun c => (rdat m c).share_full fun _ => rfl)
    (howed := fun _ _ => rfl) (V := V m) (hmain := hmain m Variants.none) (hA := rdat_A m) (hin := fun c => keeps_in m c) (hout := fun c => keeps_out m c _)
    (hQ' := fun _ h => h)

/-- Every argument array ends as it began. -/
theorem args_of {r : PUnit × MemSt nD τ sig (Elt F)} (h : Pipeline.RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(Pipeline.RDat.FramePost.arr_in h c 1 rfl).trans ((rdat_A m c 1).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (Pipeline.RDat.FramePost.arr_in h c 2 rfl).trans ((rdat_A m c 2).trans (V_main_arg3 m c)),
    ((h c).2 main_arg4 (Pipeline.mem_restRefs_of main_arg4 (by decide) (by decide))).trans (V_main_arg4 m c)⟩

/-- THE FRAME: the run terminates with every argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args_of m h.1 c, h.2⟩) (run_main m ρ)

end Cert.Kernel.Hand

end
-- ==== Proof.KernelIdealState.lean ====
/- What one grid point of the kernel computes, as plain functions of the blocks it reads: the gradient of one
   sample, the running maximum and the two running sums over the eight samples of a block, and the codes of one
   sample. Every function is written with the payloads of the kernel's skeleton.  -/
module

public import proofs.«01_k».proof.Proof.Gen.KernelIdeal.Loops
public import Idealize.ShloMosaic.Lib.Pipeline.FrameBody
public import Idealize.ShloMosaic.Lib.VecWindow
public import Idealize.ShloMosaic.Lib.WholeRead
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Sample `k` of a block of eight samples. -/
def sampleRow {e : EltTy} (X : Vec F S8x160x256 e) (k : ℕ) : Vec F S1x160x256 e :=
  fun j => X (ix3 (n0 := 8) (n1 := 160) (n2 := 256) ⟨k % 8, Nat.mod_lt _ (by decide)⟩ (j 1) (j 2))

/-- The input gradient of one sample's block: `d` the scale of the incoming gradient, `g` and `b` the columns of the
affine parameters, `x` the activation, `y` the codes of the incoming gradient. -/
def dxBlk (d : Elt F .f32) (g b : Vec F S160x128 .f32) (x : Vec F S1x160x256 .bf16) (y : Vec F S1x160x256 .fp8e5m2) :
    FVec F S160x256 .f32 :=
  k0_pay20 (k0_pay1 g) (k0_pay11 x) (k0_pay12 x) (k0_pay15 d (k0_pay1 g) (k0_pay2 b) x y) (k0_pay16 (k0_pay1 g) (k0_pay2 b) x)

/-- The same gradient in the shape it is stored in. -/
def dxRow (d : Elt F .f32) (g b : Vec F S160x128 .f32) (x : Vec F S1x160x256 .bf16) (y : Vec F S1x160x256 .fp8e5m2) :
    FVec F S1x1x160x256 .f32 :=
  k0_pay21 (k0_pay1 g) (k0_pay11 x) (k0_pay12 x) (k0_pay15 d (k0_pay1 g) (k0_pay2 b) x y) (k0_pay16 (k0_pay1 g) (k0_pay2 b) x)

/-- The running sum for the scale parameter after one more sample. -/
def gAdd (d : Elt F .f32) (g b : Vec F S160x128 .f32) (x : Vec F S1x160x256 .bf16) (y : Vec F S1x160x256 .fp8e5m2)
    (A : Vec F S160x128 .f32) : FVec F S160x128 .f32 :=
  k0_pay19 (k0_pay12 x) (k0_pay15 d (k0_pay1 g) (k0_pay2 b) x y) (k0_pay16 (k0_pay1 g) (k0_pay2 b) x) A

/-- The running sum for the offset parameter after one more sample. -/
def bAdd (d : Elt F .f32) (g b : Vec F S160x128 .f32) (x : Vec F S1x160x256 .bf16) (y : Vec F S1x160x256 .fp8e5m2)
    (A : Vec F S160x128 .f32) : FVec F S160x128 .f32 :=
  k0_pay18 (k0_pay15 d (k0_pay1 g) (k0_pay2 b) x y) (k0_pay16 (k0_pay1 g) (k0_pay2 b) x) A

/-- The running maximum of absolute values after one more sample. -/
def mxAdd (d : Elt F .f32) (g b : Vec F S160x128 .f32) (x : Vec F S1x160x256 .bf16) (y : Vec F S1x160x256 .fp8e5m2)
    (A : Vec F S8x128 .f32) : FVec F S8x128 .f32 :=
  k0_pay3 A (dxBlk d g b x y)

/-- The running maximum after the first `k` samples of the block. -/
def mxAt (d : Elt F .f32) (g b : Vec F S160x128 .f32) (X : Vec F S8x160x256 .bf16) (Y : Vec F S8x160x256 .fp8e5m2)
    (A : Vec F S8x128 .f32) : ℕ → Vec F S8x128 .f32
  | 0 => A
  | k + 1 => mxAdd d g b (sampleRow X k) (sampleRow Y k) (mxAt d g b X Y A k)

/-- The running sum for the scale parameter after the first `k` samples of the block. -/
def gAt (d : Elt F .f32) (g b : Vec F S160x128 .f32) (X : Vec F S8x160x256 .bf16) (Y : Vec F S8x160x256 .fp8e5m2)
    (A : Vec F S160x128 .f32) : ℕ → Vec F S160x128 .f32
  | 0 => A
  | k + 1 => gAdd d g b (sampleRow X k) (sampleRow Y k) (gAt d g b X Y A k)

/-- The running sum for the offset parameter after the first `k` samples of the block. -/
def bAt (d : Elt F .f32) (g b : Vec F S160x128 .f32) (X : Vec F S8x160x256 .bf16) (Y : Vec F S8x160x256 .fp8e5m2)
    (A : Vec F S160x128 .f32) : ℕ → Vec F S160x128 .f32
  | 0 => A
  | k + 1 => bAdd d g b (sampleRow X k) (sampleRow Y k) (bAt d g b X Y A k)

/-- The gradients kept for the second half of the grid, after the first `k` samples of step `t`. -/
def keptAt (d : Elt F .f32) (g b : Vec F S160x128 .f32) (X : Vec F S8x160x256 .bf16) (Y : Vec F S8x160x256 .fp8e5m2)
    (Z : Vec F S48x8x160x256 .f32) (t k : ℕ) : Vec F S48x8x160x256 .f32 :=
  fun j => if (j 0).val = t ∧ (j 1).val < k then
      dxRow d g b (sampleRow X (j 1).val) (sampleRow Y (j 1).val) (ix4 (n0 := 1) (n1 := 1) (n2 := 160) (n3 := 256) 0 0 (j 2) (j 3))
    else Z j

/-- The gradient of sample `k` of step `t`, out of the ones kept. -/
def keptRow (Z : Vec F S48x8x160x256 .f32) (t k : ℕ) : Vec F S1x1x160x256 .f32 :=
  fun j => Z (ix4 (n0 := 48) (n1 := 8) (n2 := 160) (n3 := 256) ⟨t % 48, Nat.mod_lt _ (by decide)⟩ ⟨k % 8, Nat.mod_lt _ (by decide)⟩ (j 2) (j 3))

/-- The exponent the quantiser works with, from the running maximum. -/
def expo (A : Vec F S8x128 .f32) : IVec S8x128 32 := k0_pay25 (k0_pay22 A) (k0_pay23 A) (k0_pay24 A)

/-- Where that exponent is out of the normal range. -/
def expoBad (A : Vec F S8x128 .f32) : IVec S8x128 1 := k0_pay26 (k0_pay22 A) (k0_pay23 A) (k0_pay24 A)

/-- The scale, from the running maximum. -/
def scaleOf (A : Vec F S8x128 .f32) : F .f32 := k0_pay8 (expo A) (expoBad A) 126#32

/-- The codes of one kept gradient, from the exponent `e`, where it is out of range `q`, and the bias `w`. -/
def codesOf (e : IVec S8x128 32) (q : IVec S8x128 1) (w : BitVec 32) (Z : Vec F S1x1x160x256 .f32) : FVec F S1x160x256 .fp8e5m2 :=
  k0_pay9 e q w Z

/-- The block of codes with its first `k` samples of step `t` filled in. -/
def codesAt (e : IVec S8x128 32) (q : IVec S8x128 1) (w : BitVec 32) (Z : Vec F S48x8x160x256 .f32) (W : Vec F S8x160x256 .fp8e5m2) (t k : ℕ) : Vec F S8x160x256 .fp8e5m2 :=
  fun j => if (j 0).val < k then codesOf e q w (keptRow Z t (j 0).val) (ix3 (n0 := 1) (n1 := 160) (n2 := 256) 0 (j 1) (j 2)) else W j

/-- The one entry of an array of one. -/
def dOf (X : Vec F S1 .f32) : Elt F .f32 := X (Shape.Idx.first (by decide))

/-- Row `r` of an array of eight rows. -/
def rowOf (X : Vec F S8x160 .f32) (r : ℕ) : Vec F S1x160 .f32 :=
  fun j => X (ix2 (n0 := 8) (n1 := 160) ⟨r % 8, Nat.mod_lt _ (by decide)⟩ (j 1))

/-- An array of eight rows with row `r` replaced. -/
def putRow (X : Vec F S8x160 .f32) (r : ℕ) (v : Vec F S1x160 .f32) : Vec F S8x160 .f32 :=
  fun j => if (j 0).val = r then v (ix2 (n0 := 1) (n1 := 160) 0 (j 1)) else X j

/-- Reading one row of an array of eight rows. -/
theorem readAt_row {arg : Memref sig .tc .vmem S8x160 .f32} (harg : arg.IsWhole) (X : Vec F S8x160 .f32)
    {off : Fin 2 → ℕ} (inb : ∀ a, off a + S1x160.size a ≤ S8x160.size a) (r : ℕ) (hr : r < 8) (ho : off = ![r, 0]) :
    View.readAt (Elt F) arg.view (Rect.unit (s := S8x160) off S1x160.size inb).toLoadRect (harg.unread X) = rowOf X r := by
  subst ho
  funext x
  rw [harg.readAt_unread]
  unfold rowOf
  congr 1
  funext a
  apply Fin.ext
  match a with
  | ⟨0, _⟩ => have : (x 0).val < 1 := (x 0).isLt
              show r + 1 * (x 0).val = r % 8; omega
  | ⟨1, _⟩ => show 0 + 1 * (x 1).val = (x 1).val; omega

/-- Storing one row. -/
theorem writes_row {arg : Memref sig .tc .vmem S8x160 .f32} (harg : arg.IsWhole) (X : Vec F S8x160 .f32) (v : Vec F S1x160 .f32)
    {off : Fin 2 → ℕ} (inb : ∀ a, off a + S1x160.size a ≤ S8x160.size a) (r : ℕ) (ho : off = ![r, 0]) :
    arg.view.read (Elt F) (arg.view.writes (Elt F) (harg.unread X) [⟨Rect.unit (s := S8x160) off S1x160.size inb, v⟩]) = putRow X r v := by
  funext y
  rw [View.read_writes_cons_unit arg.view _ inb _ [] y ho, View.writes_nil, harg.read_unread]
  unfold putRow
  by_cases h : ∀ a, (![r, 0] : Fin 2 → ℕ) a ≤ (y a).val ∧ (y a).val < (![r, 0] : Fin 2 → ℕ) a + S1x160.size a
  · rw [dif_pos h]
    have h0 : r ≤ (y 0).val ∧ (y 0).val < r + 1 := h 0
    have e0 : (y 0).val = r := by omega
    rw [if_pos e0]
    congr 1
    funext a
    apply Fin.ext
    match a with
    | ⟨0, _⟩ => show (y 0).val - r = 0; omega
    | ⟨1, _⟩ => show (y 1).val - 0 = (y 1).val; omega
  · rw [dif_neg h]
    have hn : ¬ (y 0).val = r := fun e0 => h fun a => by
      match a with
      | ⟨0, _⟩ => show r ≤ (y 0).val ∧ (y 0).val < r + 1; omega
      | ⟨1, _⟩ => have := (y 1).isLt; exact ⟨Nat.zero_le _, by show (y 1).val < 0 + 160; rw [Nat.zero_add]; exact this⟩
    rw [if_neg hn]

/-- Reading one sample of a block held whole. -/
theorem readAt_sample {e : EltTy} {arg : Memref sig .tc .vmem S8x160x256 e} (harg : arg.IsWhole) (X : Vec F S8x160x256 e)
    {off : Fin 3 → ℕ} (inb : ∀ a, off a + S1x160x256.size a ≤ S8x160x256.size a) (k : ℕ) (hk : k < 8) (ho : off = ![k, 0, 0]) :
    View.readAt (Elt F) arg.view (Rect.unit (s := S8x160x256) off S1x160x256.size inb).toLoadRect (harg.unread X) = sampleRow X k := by
  subst ho
  funext x
  rw [harg.readAt_unread]
  unfold sampleRow
  congr 1
  funext a
  apply Fin.ext
  match a with
  | ⟨0, _⟩ => have : (x 0).val < 1 := (x 0).isLt
              show k + 1 * (x 0).val = k % 8; omega
  | ⟨1, _⟩ => show 0 + 1 * (x 1).val = (x 1).val; omega
  | ⟨2, _⟩ => show 0 + 1 * (x 2).val = (x 2).val; omega

/-- Reading one kept gradient. -/
theorem readAt_kept {arg : Memref sig .tc .vmem S48x8x160x256 .f32} (harg : arg.IsWhole) (X : Vec F S48x8x160x256 .f32)
    {off : Fin 4 → ℕ} (inb : ∀ a, off a + S1x1x160x256.size a ≤ S48x8x160x256.size a) (t k : ℕ) (ht : t < 48) (hk : k < 8) (ho : off = ![t, k, 0, 0]) :
    View.readAt (Elt F) arg.view (Rect.unit (s := S48x8x160x256) off S1x1x160x256.size inb).toLoadRect (harg.unread X) = keptRow X t k := by
  subst ho
  funext x
  rw [harg.readAt_unread]
  unfold keptRow
  congr 1
  funext a
  apply Fin.ext
  match a with
  | ⟨0, _⟩ => have : (x 0).val < 1 := (x 0).isLt
              show t + 1 * (x 0).val = t % 48; omega
  | ⟨1, _⟩ => have : (x 1).val < 1 := (x 1).isLt
              show k + 1 * (x 1).val = k % 8; omega
  | ⟨2, _⟩ => show 0 + 1 * (x 2).val = (x 2).val; omega
  | ⟨3, _⟩ => show 0 + 1 * (x 3).val = (x 3).val; omega

/-- A load of a whole buffer held at `X` reads `X`. -/
theorem readAt_full {sp : Space} {s : Shape} {e : EltTy} {arg : Memref sig .tc sp s e} (harg : arg.IsWhole) (X : s.Idx → Elt F e)
    {off : Fin s.rank → ℕ} (inb : ∀ a, off a + s.size a ≤ s.size a) :
    View.readAt (Elt F) arg.view (Rect.unit (s := s) off s.size inb).toLoadRect (harg.unread X) = X := by
  funext x
  rw [harg.readAt_unread]
  congr 1
  funext a
  apply Fin.ext
  have h0 : off a = 0 := by have := inb a; omega
  show off a + 1 * (x a).val = (x a).val
  omega

/-- A load of a whole buffer reads its contents. -/
theorem readAt_any {sp : Space} {s : Shape} {e : EltTy} {arg : Memref sig .tc sp s e} (harg : arg.IsWhole) (f : BufTy.Contents (Elt F) arg.view.ty)
    {off : Fin s.rank → ℕ} (inb : ∀ a, off a + s.size a ≤ s.size a) :
    View.readAt (Elt F) arg.view (Rect.unit (s := s) off s.size inb).toLoadRect f = arg.view.read (Elt F) f := by
  have h := readAt_full harg (arg.view.read (Elt F) f) inb
  rwa [harg.unread_read] at h

/-- A store of a whole buffer leaves it at what was stored. -/
theorem writes_full {sp : Space} {s : Shape} {e : EltTy} {arg : Memref sig .tc sp s e} (harg : arg.IsWhole) (f : BufTy.Contents (Elt F) arg.view.ty)
    {off : Fin s.rank → ℕ} (inb : ∀ a, off a + s.size a ≤ s.size a) (w : s.Idx → Elt F e) (L : List (View.Piece (Elt F) s e)) :
    arg.view.writes (Elt F) f (⟨Rect.unit (s := s) off s.size inb, w⟩ :: L) = harg.unread w :=
  harg.eq_unread (View.read_writes_full arg.view f inb w L)

/-- Storing the gradient of sample `k` of step `t` extends the kept gradients by that sample. -/
theorem writes_kept {arg : Memref sig .tc .vmem S48x8x160x256 .f32} (harg : arg.IsWhole)
    (d : Elt F .f32) (g b : Vec F S160x128 .f32) (X : Vec F S8x160x256 .bf16) (Y : Vec F S8x160x256 .fp8e5m2)
    (Z : Vec F S48x8x160x256 .f32) {off : Fin 4 → ℕ} (inb : ∀ a, off a + S1x1x160x256.size a ≤ S48x8x160x256.size a) (t k : ℕ) (ho : off = ![t, k, 0, 0]) :
    arg.view.writes (Elt F) (harg.unread (keptAt d g b X Y Z t k))
        [⟨Rect.unit (s := S48x8x160x256) off S1x1x160x256.size inb, dxRow d g b (sampleRow X k) (sampleRow Y k)⟩]
      = harg.unread (keptAt d g b X Y Z t (k + 1)) := by
  refine harg.eq_unread (funext fun y => ?_)
  rw [View.read_writes_cons_unit arg.view _ inb _ [] y ho, View.writes_nil, harg.read_unread]
  unfold keptAt
  by_cases h : ∀ a, (![t, k, 0, 0] : Fin 4 → ℕ) a ≤ (y a).val ∧ (y a).val < (![t, k, 0, 0] : Fin 4 → ℕ) a + S1x1x160x256.size a
  · rw [dif_pos h]
    have h0 : t ≤ (y 0).val ∧ (y 0).val < t + 1 := h 0
    have h1 : k ≤ (y 1).val ∧ (y 1).val < k + 1 := h 1
    have e0 : (y 0).val = t := by omega
    have e1 : (y 1).val = k := by omega
    rw [if_pos ⟨e0, by omega⟩, e1]
    congr 1
    funext a
    apply Fin.ext
    match a with
    | ⟨0, _⟩ => show (y 0).val - t = 0; omega
    | ⟨1, _⟩ => show (y 1).val - k = 0; omega
    | ⟨2, _⟩ => show (y 2).val - 0 = (y 2).val; omega
    | ⟨3, _⟩ => show (y 3).val - 0 = (y 3).val; omega
  · rw [dif_neg h]
    have hn : ¬ ((y 0).val = t ∧ (y 1).val = k) := fun ⟨e0, e1⟩ => h fun a => by
      match a with
      | ⟨0, _⟩ => show t ≤ (y 0).val ∧ (y 0).val < t + 1; omega
      | ⟨1, _⟩ => show k ≤ (y 1).val ∧ (y 1).val < k + 1; omega
      | ⟨2, _⟩ => have := (y 2).isLt; exact ⟨Nat.zero_le _, by show (y 2).val < 0 + 160; rw [Nat.zero_add]; exact this⟩
      | ⟨3, _⟩ => have := (y 3).isLt; exact ⟨Nat.zero_le _, by show (y 3).val < 0 + 256; rw [Nat.zero_add]; exact this⟩
    by_cases hc : (y 0).val = t ∧ (y 1).val < k
    · rw [if_pos hc, if_pos ⟨hc.1, by omega⟩]
    · rw [if_neg hc, if_neg (by omega)]

/-- Storing the codes of sample `k` extends the block of codes by that sample. -/
theorem writes_codes {arg : Memref sig .tc .vmem S8x160x256 .fp8e5m2} (harg : arg.IsWhole)
    (e : IVec S8x128 32) (q : IVec S8x128 1) (w : BitVec 32) (Z : Vec F S48x8x160x256 .f32) (W : Vec F S8x160x256 .fp8e5m2) {off : Fin 3 → ℕ}
    (inb : ∀ a, off a + S1x160x256.size a ≤ S8x160x256.size a) (t k : ℕ) (ho : off = ![k, 0, 0]) :
    arg.view.writes (Elt F) (harg.unread (codesAt e q w Z W t k))
        [⟨Rect.unit (s := S8x160x256) off S1x160x256.size inb, codesOf e q w (keptRow Z t k)⟩]
      = harg.unread (codesAt e q w Z W t (k + 1)) := by
  refine harg.eq_unread (funext fun y => ?_)
  rw [View.read_writes_cons_unit arg.view _ inb _ [] y ho, View.writes_nil, harg.read_unread]
  unfold codesAt
  by_cases h : ∀ a, (![k, 0, 0] : Fin 3 → ℕ) a ≤ (y a).val ∧ (y a).val < (![k, 0, 0] : Fin 3 → ℕ) a + S1x160x256.size a
  · rw [dif_pos h]
    have h0 : k ≤ (y 0).val ∧ (y 0).val < k + 1 := h 0
    have e0 : (y 0).val = k := by omega
    rw [if_pos (by omega), e0]
    congr 1
    funext a
    apply Fin.ext
    match a with
    | ⟨0, _⟩ => show (y 0).val - k = 0; omega
    | ⟨1, _⟩ => show (y 1).val - 0 = (y 1).val; omega
    | ⟨2, _⟩ => show (y 2).val - 0 = (y 2).val; omega
  · rw [dif_neg h]
    have hn : ¬ (y 0).val = k := fun e0 => h fun a => by
      match a with
      | ⟨0, _⟩ => show k ≤ (y 0).val ∧ (y 0).val < k + 1; omega
      | ⟨1, _⟩ => have := (y 1).isLt; exact ⟨Nat.zero_le _, by show (y 1).val < 0 + 160; rw [Nat.zero_add]; exact this⟩
      | ⟨2, _⟩ => have := (y 2).isLt; exact ⟨Nat.zero_le _, by show (y 2).val < 0 + 256; rw [Nat.zero_add]; exact this⟩
    by_cases hc : (y 0).val < k
    · rw [if_pos hc, if_pos (by omega)]
    · rw [if_neg hc, if_neg (by omega)]

/-- Before the first sample the kept gradients are as they were. -/
theorem keptAt_zero (d : Elt F .f32) (g b : Vec F S160x128 .f32) (X : Vec F S8x160x256 .bf16) (Y : Vec F S8x160x256 .fp8e5m2)
    (Z : Vec F S48x8x160x256 .f32) (t : ℕ) : keptAt d g b X Y Z t 0 = Z := by
  funext j; unfold keptAt; rw [if_neg (by omega)]

/-- Before the first sample the block of codes is as it was. -/
theorem codesAt_zero (e : IVec S8x128 32) (q : IVec S8x128 1) (w : BitVec 32) (Z : Vec F S48x8x160x256 .f32) (W : Vec F S8x160x256 .fp8e5m2) (t : ℕ) :
    codesAt e q w Z W t 0 = W := by
  funext j; unfold codesAt; rw [if_neg (by omega)]

end Cert.KernelIdeal.Hand

end
-- ==== Proof.KernelIdealLoops.lean ====
/- The two counted loops of the kernel: what one trip does, and the invariants they keep, in the plain functions of
   the state module.  -/
module

public import proofs.«01_k».proof.Proof.KernelIdealState
public import Idealize.ShloMosaic.Lib.Exec
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The kept gradients are read at the step that wrote them, forty-eight points before. -/
theorem off5_eq : ∀ (i : grid0.Coords) (k : Fin k0_t2_loop.trips), k0_cond5 i = 1#1 → k0_off5 i k = ![(i 0).val - 48, k.val, 0, 0] := by
  decide +kernel

/-- What one trip of the first loop holds: the two input blocks it reads and the three buffers it writes. -/
abbrev Trip1 (c : Dev nD) (arg2 : Memref sig .tc .vmem S8x160x256 .bf16) (arg3 : Memref sig .tc .vmem S8x160x256 .fp8e5m2) (arg10 : Memref sig .tc .vmem S48x8x160x256 .f32) (arg13 : Memref sig .tc .vmem S160x128 .f32) (arg14 : Memref sig .tc .vmem S160x128 .f32) (X_arg2 : BufTy.Contents (Elt F) arg2.view.ty) (X_arg3 : BufTy.Contents (Elt F) arg3.view.ty) (f_arg10 : BufTy.Contents (Elt F) arg10.view.ty) (f_arg13 : BufTy.Contents (Elt F) arg13.view.ty) (f_arg14 : BufTy.Contents (Elt F) arg14.view.ty) : sProp 𝕄 :=
  iprop((arg2.view.loc (c : Thread nD τ) ↦[arg2.view.set]{fullShare} X_arg2) ∗ (arg3.view.loc (c : Thread nD τ) ↦[arg3.view.set]{fullShare} X_arg3) ∗ (arg10.view.loc (c : Thread nD τ) ↦[arg10.view.set]{fullShare} f_arg10) ∗ (arg13.view.loc (c : Thread nD τ) ↦[arg13.view.set]{fullShare} f_arg13) ∗ (arg14.view.loc (c : Thread nD τ) ↦[arg14.view.set]{fullShare} f_arg14))

/-- What one trip of the second loop holds: the kept gradients it reads and the block of codes it writes. -/
abbrev Trip2 (c : Dev nD) (arg10 : Memref sig .tc .vmem S48x8x160x256 .f32) (arg6 : Memref sig .tc .vmem S8x160x256 .fp8e5m2) (X_arg10 : BufTy.Contents (Elt F) arg10.view.ty) (f_arg6 : BufTy.Contents (Elt F) arg6.view.ty) : sProp 𝕄 :=
  iprop((arg10.view.loc (c : Thread nD τ) ↦[arg10.view.set]{fullShare} X_arg10) ∗ (arg6.view.loc (c : Thread nD τ) ↦[arg6.view.set]{fullShare} f_arg6))

variable (c : Dev nD) (i : grid0.Coords) (arg1 : Memref sig .tc .smem S1 .f32) (harg1 : arg1.IsWhole)
  (arg2 : Memref sig .tc .vmem S8x160x256 .bf16) (harg2 : arg2.IsWhole)
  (arg3 : Memref sig .tc .vmem S8x160x256 .fp8e5m2) (harg3 : arg3.IsWhole)
  (arg4 : Memref sig .tc .vmem S8x160 .f32) (harg4 : arg4.IsWhole)
  (arg5 : Memref sig .tc .vmem S8x160 .f32) (harg5 : arg5.IsWhole)
  (arg6 : Memref sig .tc .vmem S8x160x256 .fp8e5m2) (harg6 : arg6.IsWhole)
  (arg7 : Memref sig .tc .smem S1 .f32) (harg7 : arg7.IsWhole)
  (arg8 : Memref sig .tc .vmem S8x160 .f32) (harg8 : arg8.IsWhole)
  (arg9 : Memref sig .tc .vmem S8x160 .f32) (harg9 : arg9.IsWhole)
  (arg10 : Memref sig .tc .vmem S48x8x160x256 .f32) (harg10 : arg10.IsWhole)
  (arg11 : Memref sig .tc .vmem S160x128 .f32) (harg11 : arg11.IsWhole)
  (arg12 : Memref sig .tc .vmem S160x128 .f32) (harg12 : arg12.IsWhole)
  (arg13 : Memref sig .tc .vmem S160x128 .f32) (harg13 : arg13.IsWhole)
  (arg14 : Memref sig .tc .vmem S160x128 .f32) (harg14 : arg14.IsWhole)
  (arg15 : Memref sig .tc .vmem S8x128 .f32) (harg15 : arg15.IsWhole)

/-- One trip of the first loop, at the contents it finds: it keeps the sample's gradient, adds to the two sums and
takes the sample into the running maximum. -/
theorem trip1 (𝒱 : Variants) (bd : Option 𝒱.V) (arg0 : BitVec 32) (k0_h3 : k0_cond3 i = 1#1) (v46 : Elt F .f32) (v47 v50 : Vec F S160x128 .f32)
    (X2 : Vec F S8x160x256 .bf16) (X3 : Vec F S8x160x256 .fp8e5m2) (k : Fin k0_t1_loop.trips) (acc : Vec F S8x128 .f32)
    (E : Set ℕ) (Z : Vec F S48x8x160x256 .f32) (Y13 Y14 : Vec F S160x128 .f32) :
    Trip1 (F := F) c arg2 arg3 arg10 arg13 arg14 (harg2.unread X2) (harg3.unread X3)
        (harg10.unread (keptAt v46 v47 v50 X2 X3 Z (i 0).val k.val)) (harg13.unread Y13) (harg14.unread Y14)
       ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_h3 v46 v47 v50 k acc)
          (fun yld => iprop(⌜yld = mxAdd v46 v47 v50 (sampleRow X2 k.val) (sampleRow X3 k.val) acc⌝
            ∗ Trip1 (F := F) c arg2 arg3 arg10 arg13 arg14 (harg2.unread X2) (harg3.unread X3)
                (harg10.unread (keptAt v46 v47 v50 X2 X3 Z (i 0).val (k.val + 1)))
                (harg13.unread (gAdd v46 v47 v50 (sampleRow X2 k.val) (sampleRow X3 k.val) Y13))
                (harg14.unread (bAdd v46 v47 v50 (sampleRow X2 k.val) (sampleRow X3 k.val) Y14)))) := by
  have hk : k.val < 8 := Nat.lt_of_lt_of_le k.isLt k0_t1_abs.2.1
  have hr2 := readAt_sample harg2 X2 (k0_off2_inb i k k0_h3) k.val hk (k0_off2_eq k)
  have hr3 := readAt_sample harg3 X3 (k0_off2_inb i k k0_h3) k.val hk (k0_off2_eq k)
  have hr13 := readAt_full harg13 Y13 inb_S160x128_S160x128_0_0
  have hr14 := readAt_full harg14 Y14 inb_S160x128_S160x128_0_0
  have hw10 := writes_kept harg10 v46 v47 v50 X2 X3 Z (k0_off3_inb i k k0_h3) (i 0).val k.val (k0_off3_eq i k)
  have hw13 := writes_full harg13 (harg13.unread Y13) inb_S160x128_S160x128_0_0 (gAdd v46 v47 v50 (sampleRow X2 k.val) (sampleRow X3 k.val) Y13) []
  have hw14 := writes_full harg14 (harg14.unread Y14) inb_S160x128_S160x128_0_0 (bAdd v46 v47 v50 (sampleRow X2 k.val) (sampleRow X3 k.val) Y14) []
  rw [← hw10, ← hw13, ← hw14]
  unfold mxAdd dxBlk dxRow gAdd bAdd
  unfold k0_t1_body
  iintro ⟨HR_arg2, HR_arg3, HW_arg10, HW_arg13, HW_arg14⟩
  sl_exec
  sl_step
  delta trip1.sl.r_5 trip1.sl.r_4 trip1.sl.r_3 trip1.sl.r_2 trip1.sl.r_1 trip1.sl.r
  sl_close

/-- One trip of the second loop: the codes of the sample's kept gradient. -/
theorem trip2 (𝒱 : Variants) (bd : Option 𝒱.V) (k0_h5 : k0_cond5 i = 1#1) (e : IVec S8x128 32) (q : IVec S8x128 1) (w : BitVec 32) (Z : Vec F S48x8x160x256 .f32)
    (W : Vec F S8x160x256 .fp8e5m2) (k : Fin k0_t2_loop.trips) (E : Set ℕ) (u : Unit) :
    Trip2 (F := F) c arg10 arg6 (harg10.unread Z) (harg6.unread (codesAt e q w Z W ((i 0).val - 48) k.val))
       ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h5 e q w k u)
          (fun yld => Trip2 (F := F) c arg10 arg6 (harg10.unread Z) (harg6.unread (codesAt e q w Z W ((i 0).val - 48) (k.val + 1)))) := by
  have hk : k.val < 8 := Nat.lt_of_lt_of_le k.isLt k0_t2_abs.2.1
  have ho5 : k0_off5 i k = ![(i 0).val - 48, k.val, 0, 0] := off5_eq i k k0_h5
  have ht : (i 0).val - 48 < 48 := by have := (i 0).isLt; have : (i 0).val < 96 := this; omega
  have hr10 := readAt_kept harg10 Z (k0_off5_inb i k k0_h5) ((i 0).val - 48) k.val ht hk ho5
  have hw6 := writes_codes harg6 e q w Z W (k0_off6_inb i k k0_h5) ((i 0).val - 48) k.val (k0_off6_eq k)
  rw [← hw6]
  unfold codesOf
  unfold k0_t2_body
  iintro ⟨HR_arg10, HW_arg6⟩
  sl_exec
  sl_step
  sl_close

/-- The kept gradients as the first loop's invariant carries them, from the contents `G` at loop entry. -/
def keptF {arg : Memref sig .tc .vmem S48x8x160x256 .f32} (harg : arg.IsWhole) (d : Elt F .f32) (g b : Vec F S160x128 .f32)
    (X : Vec F S8x160x256 .bf16) (Y : Vec F S8x160x256 .fp8e5m2) (t : ℕ) (G : BufTy.Contents (Elt F) arg.view.ty) : ℕ → BufTy.Contents (Elt F) arg.view.ty
  | 0 => G
  | k + 1 => harg.unread (keptAt d g b X Y (arg.view.read (Elt F) G) t (k + 1))

/-- The sum for the scale parameter as the first loop's invariant carries it. -/
def gF {arg : Memref sig .tc .vmem S160x128 .f32} (harg : arg.IsWhole) (d : Elt F .f32) (g b : Vec F S160x128 .f32)
    (X : Vec F S8x160x256 .bf16) (Y : Vec F S8x160x256 .fp8e5m2) (G : BufTy.Contents (Elt F) arg.view.ty) : ℕ → BufTy.Contents (Elt F) arg.view.ty
  | 0 => G
  | k + 1 => harg.unread (gAt d g b X Y (arg.view.read (Elt F) G) (k + 1))

/-- The sum for the offset parameter as the first loop's invariant carries it. -/
def bF {arg : Memref sig .tc .vmem S160x128 .f32} (harg : arg.IsWhole) (d : Elt F .f32) (g b : Vec F S160x128 .f32)
    (X : Vec F S8x160x256 .bf16) (Y : Vec F S8x160x256 .fp8e5m2) (G : BufTy.Contents (Elt F) arg.view.ty) : ℕ → BufTy.Contents (Elt F) arg.view.ty
  | 0 => G
  | k + 1 => harg.unread (bAt d g b X Y (arg.view.read (Elt F) G) (k + 1))

/-- The block of codes as the second loop's invariant carries it. -/
def codesF {arg : Memref sig .tc .vmem S8x160x256 .fp8e5m2} (harg : arg.IsWhole) (e : IVec S8x128 32) (q : IVec S8x128 1) (w : BitVec 32) (Z : Vec F S48x8x160x256 .f32)
    (t : ℕ) (G : BufTy.Contents (Elt F) arg.view.ty) : ℕ → BufTy.Contents (Elt F) arg.view.ty
  | 0 => G
  | k + 1 => harg.unread (codesAt e q w Z (arg.view.read (Elt F) G) t (k + 1))

/-- The kept gradients in the invariant, before any trip, are the buffer that holds `keptAt`. -/
theorem keptF_eq {arg : Memref sig .tc .vmem S48x8x160x256 .f32} (harg : arg.IsWhole) (d : Elt F .f32) (g b : Vec F S160x128 .f32)
    (X : Vec F S8x160x256 .bf16) (Y : Vec F S8x160x256 .fp8e5m2) (t : ℕ) (G : BufTy.Contents (Elt F) arg.view.ty) (k : ℕ) :
    keptF harg d g b X Y t G k = harg.unread (keptAt d g b X Y (arg.view.read (Elt F) G) t k) := by
  cases k with
  | zero => rw [keptAt_zero, harg.unread_read]; rfl
  | succ k => rfl

/-- The sum for the scale parameter in the invariant, before any trip, is the buffer that holds `gAt`. -/
theorem gF_eq {arg : Memref sig .tc .vmem S160x128 .f32} (harg : arg.IsWhole) (d : Elt F .f32) (g b : Vec F S160x128 .f32)
    (X : Vec F S8x160x256 .bf16) (Y : Vec F S8x160x256 .fp8e5m2) (G : BufTy.Contents (Elt F) arg.view.ty) (k : ℕ) :
    gF harg d g b X Y G k = harg.unread (gAt d g b X Y (arg.view.read (Elt F) G) k) := by
  cases k with
  | zero => exact (harg.unread_read G).symm
  | succ k => rfl

/-- The sum for the offset parameter in the invariant, before any trip, is the buffer that holds `bAt`. -/
theorem bF_eq {arg : Memref sig .tc .vmem S160x128 .f32} (harg : arg.IsWhole) (d : Elt F .f32) (g b : Vec F S160x128 .f32)
    (X : Vec F S8x160x256 .bf16) (Y : Vec F S8x160x256 .fp8e5m2) (G : BufTy.Contents (Elt F) arg.view.ty) (k : ℕ) :
    bF harg d g b X Y G k = harg.unread (bAt d g b X Y (arg.view.read (Elt F) G) k) := by
  cases k with
  | zero => exact (harg.unread_read G).symm
  | succ k => rfl

/-- The block of codes in the invariant, before any trip, is the buffer that holds `codesAt`. -/
theorem codesF_eq {arg : Memref sig .tc .vmem S8x160x256 .fp8e5m2} (harg : arg.IsWhole) (e : IVec S8x128 32) (q : IVec S8x128 1) (w : BitVec 32) (Z : Vec F S48x8x160x256 .f32)
    (t : ℕ) (G : BufTy.Contents (Elt F) arg.view.ty) (k : ℕ) :
    codesF harg e q w Z t G k = harg.unread (codesAt e q w Z (arg.view.read (Elt F) G) t k) := by
  cases k with
  | zero => rw [codesAt_zero, harg.unread_read]; rfl
  | succ k => rfl

/-- Read after the eight trips, the kept gradients are `keptAt` of all eight samples. -/
theorem keptF_read {arg : Memref sig .tc .vmem S48x8x160x256 .f32} (harg : arg.IsWhole) (d : Elt F .f32) (g b : Vec F S160x128 .f32)
    (X : Vec F S8x160x256 .bf16) (Y : Vec F S8x160x256 .fp8e5m2) (t : ℕ) (Z : Vec F S48x8x160x256 .f32) (n : ℕ) (hn : n = 8) :
    arg.view.read (Elt F) (keptF harg d g b X Y t (harg.unread Z) n) = keptAt d g b X Y Z t 8 := by
  rw [keptF_eq, harg.read_unread, harg.read_unread, hn]

/-- Read after the eight trips, the sum for the scale parameter is `gAt` of all eight samples. -/
theorem gF_read {arg : Memref sig .tc .vmem S160x128 .f32} (harg : arg.IsWhole) (d : Elt F .f32) (g b : Vec F S160x128 .f32)
    (X : Vec F S8x160x256 .bf16) (Y : Vec F S8x160x256 .fp8e5m2) (G : BufTy.Contents (Elt F) arg.view.ty) (A : Vec F S160x128 .f32)
    (hA : arg.view.read (Elt F) G = A) (n : ℕ) (hn : n = 8) :
    arg.view.read (Elt F) (gF harg d g b X Y G n) = gAt d g b X Y A 8 := by
  rw [gF_eq, harg.read_unread, hA, hn]

/-- Read after the eight trips, the sum for the offset parameter is `bAt` of all eight samples. -/
theorem bF_read {arg : Memref sig .tc .vmem S160x128 .f32} (harg : arg.IsWhole) (d : Elt F .f32) (g b : Vec F S160x128 .f32)
    (X : Vec F S8x160x256 .bf16) (Y : Vec F S8x160x256 .fp8e5m2) (G : BufTy.Contents (Elt F) arg.view.ty) (A : Vec F S160x128 .f32)
    (hA : arg.view.read (Elt F) G = A) (n : ℕ) (hn : n = 8) :
    arg.view.read (Elt F) (bF harg d g b X Y G n) = bAt d g b X Y A 8 := by
  rw [bF_eq, harg.read_unread, hA, hn]

/-- Read after the eight trips, the block of codes is `codesAt` of all eight samples. -/
theorem codesF_read {arg : Memref sig .tc .vmem S8x160x256 .fp8e5m2} (harg : arg.IsWhole) (e : IVec S8x128 32) (q : IVec S8x128 1) (w : BitVec 32)
    (Z : Vec F S48x8x160x256 .f32) (t : ℕ) (W : Vec F S8x160x256 .fp8e5m2) (n : ℕ) (hn : n = 8) :
    arg.view.read (Elt F) (codesF harg e q w Z t (harg.unread W) n) = codesAt e q w Z W t 8 := by
  rw [codesF_eq, harg.read_unread, harg.read_unread, hn]

set_option warn.classDefReducibility false in
/-- The first loop by its invariant: before trip `k` the first `k` samples are done. -/
@[sl_loop] def loop1 (𝒱 : Variants) (bd : Option 𝒱.V) (E : Set ℕ) (arg0 : BitVec 32) (k0_h3 : k0_cond3 i = 1#1)
    (v46 : Elt F .f32) (v47 v50 : Vec F S160x128 .f32) (X2 : Vec F S8x160x256 .bf16) (X3 : Vec F S8x160x256 .fp8e5m2)
    (G10 : BufTy.Contents (Elt F) arg10.view.ty) (G13 : BufTy.Contents (Elt F) arg13.view.ty) (G14 : BufTy.Contents (Elt F) arg14.view.ty)
    (init : Vec F S8x128 .f32) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_h3 v46 v47 v50 init where
  inv k acc := iprop((arg2.view.loc (c : Thread nD τ) ↦[arg2.view.set]{fullShare} harg2.unread X2)
    ∗ (arg3.view.loc (c : Thread nD τ) ↦[arg3.view.set]{fullShare} harg3.unread X3)
    ∗ (∃ f, (arg10.view.loc (c : Thread nD τ) ↦[arg10.view.set]{fullShare} f) ∗ ⌜f = keptF harg10 v46 v47 v50 X2 X3 (i 0).val G10 k⌝)
    ∗ (∃ f, (arg13.view.loc (c : Thread nD τ) ↦[arg13.view.set]{fullShare} f) ∗ ⌜f = gF harg13 v46 v47 v50 X2 X3 G13 k⌝)
    ∗ (∃ f, (arg14.view.loc (c : Thread nD τ) ↦[arg14.view.set]{fullShare} f) ∗ ⌜f = bF harg14 v46 v47 v50 X2 X3 G14 k⌝)
    ∗ ⌜acc = mxAt v46 v47 v50 X2 X3 init k⌝)
  step k acc := by
    iintro ⟨HR_arg2, HR_arg3, ⟨%f_arg10, HW_arg10, %h_arg10⟩, ⟨%f_arg13, HW_arg13, %h_arg13⟩, ⟨%f_arg14, HW_arg14, %h_arg14⟩, %h_acc⟩
    rw [keptF_eq] at h_arg10
    rw [gF_eq] at h_arg13
    rw [bF_eq] at h_arg14
    subst h_acc h_arg10 h_arg13 h_arg14
    iapply (wp_wand_r Idealize.ShloMosaic.frame (wpE (defs₀ (F := F)) 𝒱 (c : Thread nD τ) bd) E)
    isplitl [HR_arg2 HR_arg3 HW_arg10 HW_arg13 HW_arg14]
    · iapply (trip1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 𝒱 bd arg0 k0_h3 v46 v47 v50 X2 X3 k (mxAt v46 v47 v50 X2 X3 init k) E
        (arg10.view.read (Elt F) G10) (gAt v46 v47 v50 X2 X3 (arg13.view.read (Elt F) G13) k) (bAt v46 v47 v50 X2 X3 (arg14.view.read (Elt F) G14) k))
      isplitl [HR_arg2]; · iexact HR_arg2
      isplitl [HR_arg3]; · iexact HR_arg3
      isplitl [HW_arg10]; · iexact HW_arg10
      isplitl [HW_arg13]; · iexact HW_arg13
      iexact HW_arg14
    · iintro %yld ⟨%h_res, HR_arg2, HR_arg3, HW_arg10, HW_arg13, HW_arg14⟩
      subst h_res
      isplitl [HR_arg2]; · iexact HR_arg2
      isplitl [HR_arg3]; · iexact HR_arg3
      isplitl [HW_arg10]
      · iexists _; isplitl [HW_arg10]; · iexact HW_arg10
        ipureintro; rfl
      isplitl [HW_arg13]
      · iexists _; isplitl [HW_arg13]; · iexact HW_arg13
        ipureintro; rfl
      isplitl [HW_arg14]
      · iexists _; isplitl [HW_arg14]; · iexact HW_arg14
        ipureintro; rfl
      ipureintro; rfl

set_option warn.classDefReducibility false in
/-- The second loop by its invariant: before trip `k` the codes of the first `k` samples are written. -/
@[sl_loop] def loop2 (𝒱 : Variants) (bd : Option 𝒱.V) (E : Set ℕ) (k0_h5 : k0_cond5 i = 1#1)
    (e : IVec S8x128 32) (q : IVec S8x128 1) (w : BitVec 32) (Z : Vec F S48x8x160x256 .f32) (G6 : BufTy.Contents (Elt F) arg6.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h5 e q w where
  inv k acc := iprop((arg10.view.loc (c : Thread nD τ) ↦[arg10.view.set]{fullShare} harg10.unread Z)
    ∗ (∃ f, (arg6.view.loc (c : Thread nD τ) ↦[arg6.view.set]{fullShare} f) ∗ ⌜f = codesF harg6 e q w Z ((i 0).val - 48) G6 k⌝))
  step k acc := by
    iintro ⟨HR_arg10, ⟨%f_arg6, HW_arg6, %h_arg6⟩⟩
    rw [codesF_eq] at h_arg6
    subst h_arg6
    iapply (wp_wand_r Idealize.ShloMosaic.frame (wpE (defs₀ (F := F)) 𝒱 (c : Thread nD τ) bd) E)
    isplitl [HR_arg10 HW_arg6]
    · iapply (trip2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 𝒱 bd k0_h5 e q w Z (arg6.view.read (Elt F) G6) k E acc)
      isplitl [HR_arg10]; · iexact HR_arg10
      iexact HW_arg6
    · iintro %yld ⟨HR_arg10, HW_arg6⟩
      isplitl [HR_arg10]; · iexact HR_arg10
      iexists _; isplitl [HW_arg6]; · iexact HW_arg6
      ipureintro; rfl

end Cert.KernelIdeal.Hand

end
-- ==== Proof.KernelIdealBody.lean ====
/- What the kernel's body does at one grid point, in each of its five cases.  -/
module

public import proofs.«01_k».proof.Proof.KernelIdealLoops
public import Idealize.ShloMosaic.Lib.Exec
public import Idealize.ShloMosaic.Lib.Tactic
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The row of gamma and beta a block of channels starts from. -/
theorem off1_eq : ∀ i : grid0.Coords, k0_cond2 i = 1#1 → k0_off1 i = ![(i 0).val / 6, 0] ∧ (i 0).val / 6 < 8 := by decide +kernel

/-- The row of the channel sums a block of channels ends with. -/
theorem off4_eq : ∀ i : grid0.Coords, k0_cond4 i = 1#1 → k0_off4 i = ![(i 0).val / 6, 0] := by decide +kernel

/-- The first loop makes eight trips. -/
theorem trips1 : k0_t1_loop.trips = 8 := by decide +kernel

/-- The second loop makes eight trips. -/
theorem trips2 : k0_t2_loop.trips = 8 := by decide +kernel

variable (c : Dev nD) (i : grid0.Coords) (arg1 : Memref sig .tc .smem S1 .f32) (harg1 : arg1.IsWhole)
  (arg2 : Memref sig .tc .vmem S8x160x256 .bf16) (harg2 : arg2.IsWhole)
  (arg3 : Memref sig .tc .vmem S8x160x256 .fp8e5m2) (harg3 : arg3.IsWhole)
  (arg4 : Memref sig .tc .vmem S8x160 .f32) (harg4 : arg4.IsWhole)
  (arg5 : Memref sig .tc .vmem S8x160 .f32) (harg5 : arg5.IsWhole)
  (arg6 : Memref sig .tc .vmem S8x160x256 .fp8e5m2) (harg6 : arg6.IsWhole)
  (arg7 : Memref sig .tc .smem S1 .f32) (harg7 : arg7.IsWhole)
  (arg8 : Memref sig .tc .vmem S8x160 .f32) (harg8 : arg8.IsWhole)
  (arg9 : Memref sig .tc .vmem S8x160 .f32) (harg9 : arg9.IsWhole)
  (arg10 : Memref sig .tc .vmem S48x8x160x256 .f32) (harg10 : arg10.IsWhole)
  (arg11 : Memref sig .tc .vmem S160x128 .f32) (harg11 : arg11.IsWhole)
  (arg12 : Memref sig .tc .vmem S160x128 .f32) (harg12 : arg12.IsWhole)
  (arg13 : Memref sig .tc .vmem S160x128 .f32) (harg13 : arg13.IsWhole)
  (arg14 : Memref sig .tc .vmem S160x128 .f32) (harg14 : arg14.IsWhole)
  (arg15 : Memref sig .tc .vmem S8x128 .f32) (harg15 : arg15.IsWhole)

variable (X1 : Vec F S1 .f32) (X2 : Vec F S8x160x256 .bf16) (X3 : Vec F S8x160x256 .fp8e5m2) (X4 : Vec F S8x160 .f32) (X5 : Vec F S8x160 .f32) (X6 : Vec F S8x160x256 .fp8e5m2) (X7 : Vec F S1 .f32) (X8 : Vec F S8x160 .f32) (X9 : Vec F S8x160 .f32) (X10 : Vec F S48x8x160x256 .f32) (X11 : Vec F S160x128 .f32) (X12 : Vec F S160x128 .f32) (X13 : Vec F S160x128 .f32) (X14 : Vec F S160x128 .f32) (X15 : Vec F S8x128 .f32)

set_option maxHeartbeats 1000000 in
/-- The second half of the grid: the scale, and the codes of eight samples. -/
theorem bodyE (𝒱 : Variants) (bd : Option 𝒱.V) (E : Set ℕ) (h1 : Scalar.cmpi .ne (Scalar.extui (Scalar.cmpi .eq (BitVec.ofNat 32 (i 0).val) 0#32) : BitVec 32) 0#32 ≠ 1#1) (h2 : k0_cond2 i ≠ 1#1) (h3 : k0_cond3 i ≠ 1#1) (h4 : k0_cond4 i ≠ 1#1) (h5 : k0_cond5 i = 1#1) :
    (iprop((arg1.view.loc (c : Thread nD τ) ↦[arg1.view.set]{fullShare} harg1.unread X1) ∗ (arg2.view.loc (c : Thread nD τ) ↦[arg2.view.set]{fullShare} harg2.unread X2) ∗ (arg3.view.loc (c : Thread nD τ) ↦[arg3.view.set]{fullShare} harg3.unread X3) ∗ (arg4.view.loc (c : Thread nD τ) ↦[arg4.view.set]{fullShare} harg4.unread X4) ∗ (arg5.view.loc (c : Thread nD τ) ↦[arg5.view.set]{fullShare} harg5.unread X5) ∗ (arg6.view.loc (c : Thread nD τ) ↦[arg6.view.set]{fullShare} harg6.unread X6) ∗ (arg7.view.loc (c : Thread nD τ) ↦[arg7.view.set]{fullShare} harg7.unread X7) ∗ (arg8.view.loc (c : Thread nD τ) ↦[arg8.view.set]{fullShare} harg8.unread X8) ∗ (arg9.view.loc (c : Thread nD τ) ↦[arg9.view.set]{fullShare} harg9.unread X9) ∗ (arg10.view.loc (c : Thread nD τ) ↦[arg10.view.set]{fullShare} harg10.unread X10) ∗ (arg11.view.loc (c : Thread nD τ) ↦[arg11.view.set]{fullShare} harg11.unread X11) ∗ (arg12.view.loc (c : Thread nD τ) ↦[arg12.view.set]{fullShare} harg12.unread X12) ∗ (arg13.view.loc (c : Thread nD τ) ↦[arg13.view.set]{fullShare} harg13.unread X13) ∗ (arg14.view.loc (c : Thread nD τ) ↦[arg14.view.set]{fullShare} harg14.unread X14) ∗ (arg15.view.loc (c : Thread nD τ) ↦[arg15.view.set]{fullShare} harg15.unread X15)) : sProp 𝕄)
      ⊢ wp frame (wpE (defs₀ (F := F)) 𝒱 (c : Thread nD τ) bd) E (cc0_gn_silu_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => (iprop(owns (c : Thread nD τ) arg1 fullShare (X1) ∗ owns (c : Thread nD τ) arg2 fullShare (X2) ∗ owns (c : Thread nD τ) arg3 fullShare (X3) ∗ owns (c : Thread nD τ) arg4 fullShare (X4) ∗ owns (c : Thread nD τ) arg5 fullShare (X5) ∗ owns (c : Thread nD τ) arg6 fullShare (codesAt (expo X15) (expoBad X15) 126#32 X10 X6 ((i 0).val - 48) 8) ∗ owns (c : Thread nD τ) arg7 fullShare (fun _ => scaleOf X15) ∗ owns (c : Thread nD τ) arg8 fullShare (X8) ∗ owns (c : Thread nD τ) arg9 fullShare (X9) ∗ owns (c : Thread nD τ) arg10 fullShare (X10) ∗ owns (c : Thread nD τ) arg11 fullShare (X11) ∗ owns (c : Thread nD τ) arg12 fullShare (X12) ∗ owns (c : Thread nD τ) arg13 fullShare (X13) ∗ owns (c : Thread nD τ) arg14 fullShare (X14) ∗ owns (c : Thread nD τ) arg15 fullShare (X15)) : sProp 𝕄)) := by
  have hr15 := readAt_full harg15 X15 inb_S8x128_S8x128_0_0
  simp only [cc0_gn_silu_bwd_eq_skeleton]
  unfold cc0_gn_silu_bwd_skel
  iintro ⟨H1, H2, H3, H4, H5, H6, H7, H8, H9, H10, H11, H12, H13, H14, H15⟩
  sl_exec (disch := assumption)
  sl_step
  unfold owns
  isplitl [H1]
  · iexists _; isplitr; swap
    · iexact H1
    · ipureintro; exact harg1.read_unread _
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact codesF_read harg6 _ _ _ _ _ X6 _ trips2
  isplitl [H7]
  · iexists _; isplitr; swap
    · iexact H7
    · ipureintro; exact View.read_writes_full arg7.view _ inb_S1_S1_0 _ []
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; exact harg13.read_unread _
  isplitl [H14]
  · iexists _; isplitr; swap
    · iexact H14
    · ipureintro; exact harg14.read_unread _
  iexists _; isplitr; swap
  · iexact H15
  · ipureintro; exact harg15.read_unread _

set_option maxHeartbeats 1000000 in
/-- A step of the first half that neither starts nor ends a block of channels. -/
theorem bodyC (𝒱 : Variants) (bd : Option 𝒱.V) (E : Set ℕ) (h1 : Scalar.cmpi .ne (Scalar.extui (Scalar.cmpi .eq (BitVec.ofNat 32 (i 0).val) 0#32) : BitVec 32) 0#32 ≠ 1#1) (h2 : k0_cond2 i ≠ 1#1) (h3 : k0_cond3 i = 1#1) (h4 : k0_cond4 i ≠ 1#1) (h5 : k0_cond5 i ≠ 1#1) :
    (iprop((arg1.view.loc (c : Thread nD τ) ↦[arg1.view.set]{fullShare} harg1.unread X1) ∗ (arg2.view.loc (c : Thread nD τ) ↦[arg2.view.set]{fullShare} harg2.unread X2) ∗ (arg3.view.loc (c : Thread nD τ) ↦[arg3.view.set]{fullShare} harg3.unread X3) ∗ (arg4.view.loc (c : Thread nD τ) ↦[arg4.view.set]{fullShare} harg4.unread X4) ∗ (arg5.view.loc (c : Thread nD τ) ↦[arg5.view.set]{fullShare} harg5.unread X5) ∗ (arg6.view.loc (c : Thread nD τ) ↦[arg6.view.set]{fullShare} harg6.unread X6) ∗ (arg7.view.loc (c : Thread nD τ) ↦[arg7.view.set]{fullShare} harg7.unread X7) ∗ (arg8.view.loc (c : Thread nD τ) ↦[arg8.view.set]{fullShare} harg8.unread X8) ∗ (arg9.view.loc (c : Thread nD τ) ↦[arg9.view.set]{fullShare} harg9.unread X9) ∗ (arg10.view.loc (c : Thread nD τ) ↦[arg10.view.set]{fullShare} harg10.unread X10) ∗ (arg11.view.loc (c : Thread nD τ) ↦[arg11.view.set]{fullShare} harg11.unread X11) ∗ (arg12.view.loc (c : Thread nD τ) ↦[arg12.view.set]{fullShare} harg12.unread X12) ∗ (arg13.view.loc (c : Thread nD τ) ↦[arg13.view.set]{fullShare} harg13.unread X13) ∗ (arg14.view.loc (c : Thread nD τ) ↦[arg14.view.set]{fullShare} harg14.unread X14) ∗ (arg15.view.loc (c : Thread nD τ) ↦[arg15.view.set]{fullShare} harg15.unread X15)) : sProp 𝕄)
      ⊢ wp frame (wpE (defs₀ (F := F)) 𝒱 (c : Thread nD τ) bd) E (cc0_gn_silu_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => (iprop(owns (c : Thread nD τ) arg1 fullShare (X1) ∗ owns (c : Thread nD τ) arg2 fullShare (X2) ∗ owns (c : Thread nD τ) arg3 fullShare (X3) ∗ owns (c : Thread nD τ) arg4 fullShare (X4) ∗ owns (c : Thread nD τ) arg5 fullShare (X5) ∗ owns (c : Thread nD τ) arg6 fullShare (X6) ∗ owns (c : Thread nD τ) arg7 fullShare (X7) ∗ owns (c : Thread nD τ) arg8 fullShare (X8) ∗ owns (c : Thread nD τ) arg9 fullShare (X9) ∗ owns (c : Thread nD τ) arg10 fullShare (keptAt (dOf X1) X11 X12 X2 X3 X10 (i 0).val 8) ∗ owns (c : Thread nD τ) arg11 fullShare (X11) ∗ owns (c : Thread nD τ) arg12 fullShare (X12) ∗ owns (c : Thread nD τ) arg13 fullShare (gAt (dOf X1) X11 X12 X2 X3 X13 8) ∗ owns (c : Thread nD τ) arg14 fullShare (bAt (dOf X1) X11 X12 X2 X3 X14 8) ∗ owns (c : Thread nD τ) arg15 fullShare (k0_pay4 (mxAt (dOf X1) X11 X12 X2 X3 X15 8))) : sProp 𝕄)) := by
  have hr1 := readAt_full harg1 X1 inb_S1_S1_0
  have hr11 := readAt_full harg11 X11 inb_S160x128_S160x128_0_0
  have hr12 := readAt_full harg12 X12 inb_S160x128_S160x128_0_0
  have hr15 := readAt_full harg15 X15 inb_S8x128_S8x128_0_0
  simp only [cc0_gn_silu_bwd_eq_skeleton]
  unfold cc0_gn_silu_bwd_skel
  iintro ⟨H1, H2, H3, H4, H5, H6, H7, H8, H9, H10, H11, H12, H13, H14, H15⟩
  sl_exec (disch := assumption)
  sl_step
  unfold owns
  isplitl [H1]
  · iexists _; isplitr; swap
    · iexact H1
    · ipureintro; exact harg1.read_unread _
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact keptF_read harg10 _ _ _ _ _ _ X10 _ trips1
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; exact gF_read harg13 _ _ _ _ _ _ _ (harg13.read_unread X13) _ trips1
  isplitl [H14]
  · iexists _; isplitr; swap
    · iexact H14
    · ipureintro; exact bF_read harg14 _ _ _ _ _ _ _ (harg14.read_unread X14) _ trips1
  iexists _; isplitr; swap
  · iexact H15
  · ipureintro; exact (View.read_writes_full arg15.view _ inb_S8x128_S8x128_0_0 _ []).trans (congrArg k0_pay4 (congrArg (mxAt _ _ _ _ _ _) trips1))

set_option maxHeartbeats 1000000 in
/-- A step of the first half that starts a block of channels. -/
theorem bodyB (𝒱 : Variants) (bd : Option 𝒱.V) (E : Set ℕ) (h1 : Scalar.cmpi .ne (Scalar.extui (Scalar.cmpi .eq (BitVec.ofNat 32 (i 0).val) 0#32) : BitVec 32) 0#32 ≠ 1#1) (h2 : k0_cond2 i = 1#1) (h3 : k0_cond3 i = 1#1) (h4 : k0_cond4 i ≠ 1#1) (h5 : k0_cond5 i ≠ 1#1) :
    (iprop((arg1.view.loc (c : Thread nD τ) ↦[arg1.view.set]{fullShare} harg1.unread X1) ∗ (arg2.view.loc (c : Thread nD τ) ↦[arg2.view.set]{fullShare} harg2.unread X2) ∗ (arg3.view.loc (c : Thread nD τ) ↦[arg3.view.set]{fullShare} harg3.unread X3) ∗ (arg4.view.loc (c : Thread nD τ) ↦[arg4.view.set]{fullShare} harg4.unread X4) ∗ (arg5.view.loc (c : Thread nD τ) ↦[arg5.view.set]{fullShare} harg5.unread X5) ∗ (arg6.view.loc (c : Thread nD τ) ↦[arg6.view.set]{fullShare} harg6.unread X6) ∗ (arg7.view.loc (c : Thread nD τ) ↦[arg7.view.set]{fullShare} harg7.unread X7) ∗ (arg8.view.loc (c : Thread nD τ) ↦[arg8.view.set]{fullShare} harg8.unread X8) ∗ (arg9.view.loc (c : Thread nD τ) ↦[arg9.view.set]{fullShare} harg9.unread X9) ∗ (arg10.view.loc (c : Thread nD τ) ↦[arg10.view.set]{fullShare} harg10.unread X10) ∗ (arg11.view.loc (c : Thread nD τ) ↦[arg11.view.set]{fullShare} harg11.unread X11) ∗ (arg12.view.loc (c : Thread nD τ) ↦[arg12.view.set]{fullShare} harg12.unread X12) ∗ (arg13.view.loc (c : Thread nD τ) ↦[arg13.view.set]{fullShare} harg13.unread X13) ∗ (arg14.view.loc (c : Thread nD τ) ↦[arg14.view.set]{fullShare} harg14.unread X14) ∗ (arg15.view.loc (c : Thread nD τ) ↦[arg15.view.set]{fullShare} harg15.unread X15)) : sProp 𝕄)
      ⊢ wp frame (wpE (defs₀ (F := F)) 𝒱 (c : Thread nD τ) bd) E (cc0_gn_silu_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => (iprop(owns (c : Thread nD τ) arg1 fullShare (X1) ∗ owns (c : Thread nD τ) arg2 fullShare (X2) ∗ owns (c : Thread nD τ) arg3 fullShare (X3) ∗ owns (c : Thread nD τ) arg4 fullShare (X4) ∗ owns (c : Thread nD τ) arg5 fullShare (X5) ∗ owns (c : Thread nD τ) arg6 fullShare (X6) ∗ owns (c : Thread nD τ) arg7 fullShare (X7) ∗ owns (c : Thread nD τ) arg8 fullShare (X8) ∗ owns (c : Thread nD τ) arg9 fullShare (X9) ∗ owns (c : Thread nD τ) arg10 fullShare (keptAt (dOf X1) (k0_pay30 (rowOf X4 ((i 0).val / 6))) (k0_pay31 (rowOf X5 ((i 0).val / 6))) X2 X3 X10 (i 0).val 8) ∗ owns (c : Thread nD τ) arg11 fullShare ((k0_pay30 (rowOf X4 ((i 0).val / 6)))) ∗ owns (c : Thread nD τ) arg12 fullShare ((k0_pay31 (rowOf X5 ((i 0).val / 6)))) ∗ owns (c : Thread nD τ) arg13 fullShare (gAt (dOf X1) (k0_pay30 (rowOf X4 ((i 0).val / 6))) (k0_pay31 (rowOf X5 ((i 0).val / 6))) X2 X3 k0_pay28 8) ∗ owns (c : Thread nD τ) arg14 fullShare (bAt (dOf X1) (k0_pay30 (rowOf X4 ((i 0).val / 6))) (k0_pay31 (rowOf X5 ((i 0).val / 6))) X2 X3 k0_pay29 8) ∗ owns (c : Thread nD τ) arg15 fullShare (k0_pay4 (mxAt (dOf X1) (k0_pay30 (rowOf X4 ((i 0).val / 6))) (k0_pay31 (rowOf X5 ((i 0).val / 6))) X2 X3 X15 8))) : sProp 𝕄)) := by
  have hr1 := readAt_full harg1 X1 inb_S1_S1_0
  have hr4 := readAt_row harg4 X4 (k0_off1_inb i h2) _ (off1_eq i h2).2 (off1_eq i h2).1
  have hr5 := readAt_row harg5 X5 (k0_off1_inb i h2) _ (off1_eq i h2).2 (off1_eq i h2).1
  have hr15 := readAt_full harg15 X15 inb_S8x128_S8x128_0_0
  simp only [cc0_gn_silu_bwd_eq_skeleton]
  unfold cc0_gn_silu_bwd_skel
  iintro ⟨H1, H2, H3, H4, H5, H6, H7, H8, H9, H10, H11, H12, H13, H14, H15⟩
  sl_exec (disch := assumption)
  sl_step
  have e11 : bodyB.sl.v47 i arg11 X4 = (k0_pay30 (rowOf X4 ((i 0).val / 6))) := by
    delta bodyB.sl.v47
    exact (readAt_any harg11 _ inb_S160x128_S160x128_0_0).trans (View.read_writes_full arg11.view _ inb_S160x128_S160x128_0_0 _ [])
  have e12 : bodyB.sl.v50 i arg12 X5 = (k0_pay31 (rowOf X5 ((i 0).val / 6))) := by
    delta bodyB.sl.v50
    exact (readAt_any harg12 _ inb_S160x128_S160x128_0_0).trans (View.read_writes_full arg12.view _ inb_S160x128_S160x128_0_0 _ [])
  rw [e11, e12]
  unfold owns
  isplitl [H1]
  · iexists _; isplitr; swap
    · iexact H1
    · ipureintro; exact harg1.read_unread _
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact keptF_read harg10 _ _ _ _ _ _ X10 _ trips1
  isplitl [H11]
  · iexists _; isplitr; swap
    · iexact H11
    · ipureintro; exact (View.read_writes_full arg11.view _ inb_S160x128_S160x128_0_0 _ [])
  isplitl [H12]
  · iexists _; isplitr; swap
    · iexact H12
    · ipureintro; exact (View.read_writes_full arg12.view _ inb_S160x128_S160x128_0_0 _ [])
  isplitl [H13]
  · iexists _; isplitr; swap
    · iexact H13
    · ipureintro; exact gF_read harg13 _ _ _ _ _ _ _ (View.read_writes_full arg13.view _ inb_S160x128_S160x128_0_0 _ []) _ trips1
  isplitl [H14]
  · iexists _; isplitr; swap
    · iexact H14
    · ipureintro; exact bF_read harg14 _ _ _ _ _ _ _ (View.read_writes_full arg14.view _ inb_S160x128_S160x128_0_0 _ []) _ trips1
  iexists _; isplitr; swap
  · iexact H15
  · ipureintro; exact (View.read_writes_full arg15.view _ inb_S8x128_S8x128_0_0 _ []).trans (congrArg k0_pay4 (congrArg (mxAt _ _ _ _ _ _) trips1))

set_option maxHeartbeats 1000000 in
/-- The first step. -/
theorem bodyA (𝒱 : Variants) (bd : Option 𝒱.V) (E : Set ℕ) (h1 : Scalar.cmpi .ne (Scalar.extui (Scalar.cmpi .eq (BitVec.ofNat 32 (i 0).val) 0#32) : BitVec 32) 0#32 = 1#1) (h2 : k0_cond2 i = 1#1) (h3 : k0_cond3 i = 1#1) (h4 : k0_cond4 i ≠ 1#1) (h5 : k0_cond5 i ≠ 1#1) :
    (iprop((arg1.view.loc (c : Thread nD τ) ↦[arg1.view.set]{fullShare} harg1.unread X1) ∗ (arg2.view.loc (c : Thread nD τ) ↦[arg2.view.set]{fullShare} harg2.unread X2) ∗ (arg3.view.loc (c : Thread nD τ) ↦[arg3.view.set]{fullShare} harg3.unread X3) ∗ (arg4.view.loc (c : Thread nD τ) ↦[arg4.view.set]{fullShare} harg4.unread X4) ∗ (arg5.view.loc (c : Thread nD τ) ↦[arg5.view.set]{fullShare} harg5.unread X5) ∗ (arg6.view.loc (c : Thread nD τ) ↦[arg6.view.set]{fullShare} harg6.unread X6) ∗ (arg7.view.loc (c : Thread nD τ) ↦[arg7.view.set]{fullShare} harg7.unread X7) ∗ (arg8.view.loc (c : Thread nD τ) ↦[arg8.view.set]{fullShare} harg8.unread X8) ∗ (arg9.view.loc (c : Thread nD τ) ↦[arg9.view.set]{fullShare} harg9.unread X9) ∗ (arg10.view.loc (c : Thread nD τ) ↦[arg10.view.set]{fullShare} harg10.unread X10) ∗ (arg11.view.loc (c : Thread nD τ) ↦[arg11.view.set]{fullShare} harg11.unread X11) ∗ (arg12.view.loc (c : Thread nD τ) ↦[arg12.view.set]{fullShare} harg12.unread X12) ∗ (arg13.view.loc (c : Thread nD τ) ↦[arg13.view.set]{fullShare} harg13.unread X13) ∗ (arg14.view.loc (c : Thread nD τ) ↦[arg14.view.set]{fullShare} harg14.unread X14) ∗ (arg15.view.loc (c : Thread nD τ) ↦[arg15.view.set]{fullShare} harg15.unread X15)) : sProp 𝕄)
      ⊢ wp frame (wpE (defs₀ (F := F)) 𝒱 (c : Thread nD τ) bd) E (cc0_gn_silu_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => (iprop(owns (c : Thread nD τ) arg1 fullShare (X1) ∗ owns (c : Thread nD τ) arg2 fullShare (X2) ∗ owns (c : Thread nD τ) arg3 fullShare (X3) ∗ owns (c : Thread nD τ) arg4 fullShare (X4) ∗ owns (c : Thread nD τ) arg5 fullShare (X5) ∗ owns (c : Thread nD τ) arg6 fullShare (X6) ∗ owns (c : Thread nD τ) arg7 fullShare (X7) ∗ owns (c : Thread nD τ) arg8 fullShare (X8) ∗ owns (c : Thread nD τ) arg9 fullShare (X9) ∗ owns (c : Thread nD τ) arg10 fullShare (keptAt (dOf X1) (k0_pay30 (rowOf X4 ((i 0).val / 6))) (k0_pay31 (rowOf X5 ((i 0).val / 6))) X2 X3 X10 (i 0).val 8) ∗ owns (c : Thread nD τ) arg11 fullShare ((k0_pay30 (rowOf X4 ((i 0).val / 6)))) ∗ owns (c : Thread nD τ) arg12 fullShare ((k0_pay31 (rowOf X5 ((i 0).val / 6)))) ∗ owns (c : Thread nD τ) arg13 fullShare (gAt (dOf X1) (k0_pay30 (rowOf X4 ((i 0).val / 6))) (k0_pay31 (rowOf X5 ((i 0).val / 6))) X2 X3 k0_pay28 8) ∗ owns (c : Thread nD τ) arg14 fullShare (bAt (dOf X1) (k0_pay30 (rowOf X4 ((i 0).val / 6))) (k0_pay31 (rowOf X5 ((i 0).val / 6))) X2 X3 k0_pay29 8) ∗ owns (c : Thread nD τ) arg15 fullShare (k0_pay4 (mxAt (dOf X1) (k0_pay30 (rowOf X4 ((i 0).val / 6))) (k0_pay31 (rowOf X5 ((i 0).val / 6))) X2 X3 k0_pay27 8))) : sProp 𝕄)) := by
  have hr1 := readAt_full harg1 X1 inb_S1_S1_0
  have hr4 := readAt_row harg4 X4 (k0_off1_inb i h2) _ (off1_eq i h2).2 (off1_eq i h2).1
  have hr5 := readAt_row harg5 X5 (k0_off1_inb i h2) _ (off1_eq i h2).2 (off1_eq i h2).1
  simp only [cc0_gn_silu_bwd_eq_skeleton]
  unfold cc0_gn_silu_bwd_skel
  iintro ⟨H1, H2, H3, H4, H5, H6, H7, H8, H9, H10, H11, H12, H13, H14, H15⟩
  sl_exec (disch := assumption)
  sl_step
  have e11 : bodyA.sl.v47 i arg11 X4 = (k0_pay30 (rowOf X4 ((i 0).val / 6))) := by
    delta bodyA.sl.v47
    exact (readAt_any harg11 _ inb_S160x128_S160x128_0_0).trans (View.read_writes_full arg11.view _ inb_S160x128_S160x128_0_0 _ [])
  have e12 : bodyA.sl.v50 i arg12 X5 = (k0_pay31 (rowOf X5 ((i 0).val / 6))) := by
    delta bodyA.sl.v50
    exact (readAt_any harg12 _ inb_S160x128_S160x128_0_0).trans (View.read_writes_full arg12.view _ inb_S160x128_S160x128_0_0 _ [])
  rw [e11, e12]
  have e15 : bodyA.sl.v53 arg15 = (k0_pay27 : Vec F S8x128 .f32) := by
    delta bodyA.sl.v53
    exact (readAt_any harg15 _ inb_S8x128_S8x128_0_0).trans (View.read_writes_full arg15.view _ inb_S8x128_S8x128_0_0 _ [])
  rw [e15]
  unfold owns
  isplitl [H1]
  · iexists _; isplitr; swap
    · iexact H1
    · ipureintro; exact harg1.read_unread _
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact keptF_read harg10 _ _ _ _ _ _ X10 _ trips1
  isplitl [H11]
  · iexists _; isplitr; swap
    · iexact H11
    · ipureintro; exact (View.read_writes_full arg11.view _ inb_S160x128_S160x128_0_0 _ [])
  isplitl [H12]
  · iexists _; isplitr; swap
    · iexact H12
    · ipureintro; exact (View.read_writes_full arg12.view _ inb_S160x128_S160x128_0_0 _ [])
  isplitl [H13]
  · iexists _; isplitr; swap
    · iexact H13
    · ipureintro; exact gF_read harg13 _ _ _ _ _ _ _ (View.read_writes_full arg13.view _ inb_S160x128_S160x128_0_0 _ []) _ trips1
  isplitl [H14]
  · iexists _; isplitr; swap
    · iexact H14
    · ipureintro; exact bF_read harg14 _ _ _ _ _ _ _ (View.read_writes_full arg14.view _ inb_S160x128_S160x128_0_0 _ []) _ trips1
  iexists _; isplitr; swap
  · iexact H15
  · ipureintro; exact (View.read_writes_full arg15.view _ inb_S8x128_S8x128_0_0 _ _).trans (congrArg k0_pay4 (congrArg (mxAt _ _ _ _ _ _) trips1))

set_option maxHeartbeats 1000000 in
/-- A step of the first half that ends a block of channels. -/
theorem bodyD (𝒱 : Variants) (bd : Option 𝒱.V) (E : Set ℕ) (h1 : Scalar.cmpi .ne (Scalar.extui (Scalar.cmpi .eq (BitVec.ofNat 32 (i 0).val) 0#32) : BitVec 32) 0#32 ≠ 1#1) (h2 : k0_cond2 i ≠ 1#1) (h3 : k0_cond3 i = 1#1) (h4 : k0_cond4 i = 1#1) (h5 : k0_cond5 i ≠ 1#1) :
    (iprop((arg1.view.loc (c : Thread nD τ) ↦[arg1.view.set]{fullShare} harg1.unread X1) ∗ (arg2.view.loc (c : Thread nD τ) ↦[arg2.view.set]{fullShare} harg2.unread X2) ∗ (arg3.view.loc (c : Thread nD τ) ↦[arg3.view.set]{fullShare} harg3.unread X3) ∗ (arg4.view.loc (c : Thread nD τ) ↦[arg4.view.set]{fullShare} harg4.unread X4) ∗ (arg5.view.loc (c : Thread nD τ) ↦[arg5.view.set]{fullShare} harg5.unread X5) ∗ (arg6.view.loc (c : Thread nD τ) ↦[arg6.view.set]{fullShare} harg6.unread X6) ∗ (arg7.view.loc (c : Thread nD τ) ↦[arg7.view.set]{fullShare} harg7.unread X7) ∗ (arg8.view.loc (c : Thread nD τ) ↦[arg8.view.set]{fullShare} harg8.unread X8) ∗ (arg9.view.loc (c : Thread nD τ) ↦[arg9.view.set]{fullShare} harg9.unread X9) ∗ (arg10.view.loc (c : Thread nD τ) ↦[arg10.view.set]{fullShare} harg10.unread X10) ∗ (arg11.view.loc (c : Thread nD τ) ↦[arg11.view.set]{fullShare} harg11.unread X11) ∗ (arg12.view.loc (c : Thread nD τ) ↦[arg12.view.set]{fullShare} harg12.unread X12) ∗ (arg13.view.loc (c : Thread nD τ) ↦[arg13.view.set]{fullShare} harg13.unread X13) ∗ (arg14.view.loc (c : Thread nD τ) ↦[arg14.view.set]{fullShare} harg14.unread X14) ∗ (arg15.view.loc (c : Thread nD τ) ↦[arg15.view.set]{fullShare} harg15.unread X15)) : sProp 𝕄)
      ⊢ wp frame (wpE (defs₀ (F := F)) 𝒱 (c : Thread nD τ) bd) E (cc0_gn_silu_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => (iprop(owns (c : Thread nD τ) arg1 fullShare (X1) ∗ owns (c : Thread nD τ) arg2 fullShare (X2) ∗ owns (c : Thread nD τ) arg3 fullShare (X3) ∗ owns (c : Thread nD τ) arg4 fullShare (X4) ∗ owns (c : Thread nD τ) arg5 fullShare (X5) ∗ owns (c : Thread nD τ) arg6 fullShare (X6) ∗ owns (c : Thread nD τ) arg7 fullShare (X7) ∗ owns (c : Thread nD τ) arg8 fullShare (putRow X8 ((i 0).val / 6) (k0_pay5 (gAt (dOf X1) X11 X12 X2 X3 X13 8))) ∗ owns (c : Thread nD τ) arg9 fullShare (putRow X9 ((i 0).val / 6) (k0_pay6 (bAt (dOf X1) X11 X12 X2 X3 X14 8))) ∗ owns (c : Thread nD τ) arg10 fullShare (keptAt (dOf X1) X11 X12 X2 X3 X10 (i 0).val 8) ∗ owns (c : Thread nD τ) arg11 fullShare (X11) ∗ owns (c : Thread nD τ) arg12 fullShare (X12) ∗ owns (c : Thread nD τ) arg13 fullShare (gAt (dOf X1) X11 X12 X2 X3 X13 8) ∗ owns (c : Thread nD τ) arg14 fullShare (bAt (dOf X1) X11 X12 X2 X3 X14 8) ∗ owns (c : Thread nD τ) arg15 fullShare (k0_pay4 (mxAt (dOf X1) X11 X12 X2 X3 X15 8))) : sProp 𝕄)) := by
  have hr1 := readAt_full harg1 X1 inb_S1_S1_0
  have hr11 := readAt_full harg11 X11 inb_S160x128_S160x128_0_0
  have hr12 := readAt_full harg12 X12 inb_S160x128_S160x128_0_0
  have hr15 := readAt_full harg15 X15 inb_S8x128_S8x128_0_0
  simp only [cc0_gn_silu_bwd_eq_skeleton]
  unfold cc0_gn_silu_bwd_skel
  iintro ⟨H1, H2, H3, H4, H5, H6, H7, H8, H9, H10, H11, H12, H13, H14, H15⟩
  sl_exec (disch := assumption)
  sl_step
  unfold owns
  isplitl [H1]
  · iexists _; isplitr; swap
    · iexact H1
    · ipureintro; exact harg1.read_unread _
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; refine (writes_row harg8 X8 _ (k0_off4_inb i h4) _ (off4_eq i h4)).trans (congrArg (putRow X8 _) (congrArg k0_pay5 ?_))
      exact (readAt_any harg13 _ inb_S160x128_S160x128_0_0).trans (gF_read harg13 _ _ _ _ _ _ _ (harg13.read_unread X13) _ trips1)
  isplitl [H9]
  · iexists _; isplitr; swap
    · iexact H9
    · ipureintro; refine (writes_row harg9 X9 _ (k0_off4_inb i h4) _ (off4_eq i h4)).trans (congrArg (putRow X9 _) (congrArg k0_pay6 ?_))
      exact (readAt_any harg14 _ inb_S160x128_S160x128_0_0).trans (bF_read harg14 _ _ _ _ _ _ _ (harg14.read_unread X14) _ trips1)
  isplitl [H10]
  · iexists _; isplitr; swap
    · iexact H10
    · ipureintro; exact keptF_read harg10 _ _ _ _ _ _ X10 _ trips1
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; exact gF_read harg13 _ _ _ _ _ _ _ (harg13.read_unread X13) _ trips1
  isplitl [H14]
  · iexists _; isplitr; swap
    · iexact H14
    · ipureintro; exact bF_read harg14 _ _ _ _ _ _ _ (harg14.read_unread X14) _ trips1
  iexists _; isplitr; swap
  · iexact H15
  · ipureintro; exact (View.read_writes_full arg15.view _ inb_S8x128_S8x128_0_0 _ []).trans (congrArg k0_pay4 (congrArg (mxAt _ _ _ _ _ _) trips1))

end Cert.KernelIdeal.Hand

end
-- ==== Proof.KernelIdealTrack.lean ====
/- What the buffers that live across the grid hold before each of its points. -/
module

public import proofs.«01_k».proof.Proof.KernelIdealState
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (c : Dev nD)

/-- Point `k` of the grid. -/
def pt (k : ℕ) : Fin cfg0.N := ⟨k % 96, lt_of_lt_of_eq (Nat.mod_lt _ (by decide)) N_0.symm⟩

/-- The point with the number of `t` is `t`. -/
theorem pt_val (t : Fin cfg0.N) : pt t.val = t :=
  Fin.ext (Nat.mod_eq_of_lt (lt_of_lt_of_eq t.isLt N_0))

/-- The scale of the incoming gradient, as point `k` finds it. -/
def dV (k : ℕ) : Elt F .f32 := dOf (F := F) (iblk m c 0 (pt k))

/-- The block of activations of point `k`. -/
def xB (k : ℕ) : Vec F S8x160x256 .bf16 := iblk m c 1 (pt k)

/-- The block of gradient codes of point `k`. -/
def yB (k : ℕ) : Vec F S8x160x256 .fp8e5m2 := iblk m c 2 (pt k)

/-- The column of gamma that point `k` works with. -/
def stepG (k : ℕ) : Vec F S160x128 .f32 := k0_pay30 (rowOf (F := F) (iblk m c 3 (pt (6 * (k / 6)))) (k / 6))

/-- The column of beta that point `k` works with. -/
def stepB (k : ℕ) : Vec F S160x128 .f32 := k0_pay31 (rowOf (F := F) (iblk m c 4 (pt (6 * (k / 6)))) (k / 6))

/-- The input gradient of sample `s` at point `k`. -/
def gradAt (k s : ℕ) : Vec F S1x1x160x256 .f32 :=
  dxRow (dV m c k) (stepG m c k) (stepB m c k) (sampleRow (xB m c k) s) (sampleRow (yB m c k) s)

/-- The running sum for gamma after point `k`. -/
def accG : ℕ → Vec F S160x128 .f32
  | 0 => gAt (dV m c 0) (stepG m c 0) (stepB m c 0) (xB m c 0) (yB m c 0) k0_pay28 8
  | k + 1 => gAt (dV m c (k + 1)) (stepG m c (k + 1)) (stepB m c (k + 1)) (xB m c (k + 1)) (yB m c (k + 1))
      (if (k + 1) % 6 = 0 then k0_pay28 else accG k) 8

/-- The running sum for beta after point `k`. -/
def accB : ℕ → Vec F S160x128 .f32
  | 0 => bAt (dV m c 0) (stepG m c 0) (stepB m c 0) (xB m c 0) (yB m c 0) k0_pay29 8
  | k + 1 => bAt (dV m c (k + 1)) (stepG m c (k + 1)) (stepB m c (k + 1)) (xB m c (k + 1)) (yB m c (k + 1))
      (if (k + 1) % 6 = 0 then k0_pay29 else accB k) 8

/-- The running maximum of absolute values after point `k`. -/
def amaxAt : ℕ → Vec F S8x128 .f32
  | 0 => k0_pay4 (mxAt (dV m c 0) (stepG m c 0) (stepB m c 0) (xB m c 0) (yB m c 0) k0_pay27 8)
  | k + 1 => k0_pay4 (mxAt (dV m c (k + 1)) (stepG m c (k + 1)) (stepB m c (k + 1)) (xB m c (k + 1)) (yB m c (k + 1)) (amaxAt k) 8)

/-- The first point of a row of the grid starts the sum for gamma at zero. -/
theorem accG_start (k : ℕ) (h : k % 6 = 0) :
    accG m c k = gAt (dV m c k) (stepG m c k) (stepB m c k) (xB m c k) (yB m c k) k0_pay28 8 := by
  cases k with
  | zero => rfl
  | succ k => rw [accG, if_pos h]

/-- The first point of a row of the grid starts the sum for beta at zero. -/
theorem accB_start (k : ℕ) (h : k % 6 = 0) :
    accB m c k = bAt (dV m c k) (stepG m c k) (stepB m c k) (xB m c k) (yB m c k) k0_pay29 8 := by
  cases k with
  | zero => rfl
  | succ k => rw [accB, if_pos h]

/-- Every other point of a row of the grid adds to the sum for gamma of the point before. -/
theorem accG_next (k : ℕ) (h : k % 6 ≠ 0) :
    accG m c k = gAt (dV m c k) (stepG m c k) (stepB m c k) (xB m c k) (yB m c k) (accG m c (k - 1)) 8 := by
  cases k with
  | zero => exact absurd rfl h
  | succ k => rw [accG, if_neg h, Nat.add_sub_cancel]

/-- Every other point of a row of the grid adds to the sum for beta of the point before. -/
theorem accB_next (k : ℕ) (h : k % 6 ≠ 0) :
    accB m c k = bAt (dV m c k) (stepG m c k) (stepB m c k) (xB m c k) (yB m c k) (accB m c (k - 1)) 8 := by
  cases k with
  | zero => exact absurd rfl h
  | succ k => rw [accB, if_neg h, Nat.add_sub_cancel]

/-- Every point but the first extends the running maximum of the point before. -/
theorem amaxAt_next (k : ℕ) (h : k ≠ 0) :
    amaxAt m c k = k0_pay4 (mxAt (dV m c k) (stepG m c k) (stepB m c k) (xB m c k) (yB m c k) (amaxAt m c (k - 1)) 8) := by
  cases k with
  | zero => exact absurd rfl h
  | succ k => rw [amaxAt, Nat.add_sub_cancel]

/-- Within a row of the grid the column of gamma stays. -/
theorem stepG_next (k : ℕ) (h : k % 6 ≠ 0) : stepG m c (k - 1) = stepG m c k := by
  unfold stepG; rw [show (k - 1) / 6 = k / 6 by omega]

/-- Within a row of the grid the column of beta stays. -/
theorem stepB_next (k : ℕ) (h : k % 6 ≠ 0) : stepB m c (k - 1) = stepB m c k := by
  unfold stepB; rw [show (k - 1) / 6 = k / 6 by omega]

/-- The first point of a row of the grid lays out the row of gamma that the whole row works with. -/
theorem stepG_start (k : ℕ) (h : k % 6 = 0) : k0_pay30 (rowOf (F := F) (iblk m c 3 (pt k)) (k / 6)) = stepG m c k := by
  unfold stepG; rw [show 6 * (k / 6) = k by omega]

/-- The first point of a row of the grid lays out the row of beta that the whole row works with. -/
theorem stepB_start (k : ℕ) (h : k % 6 = 0) : k0_pay31 (rowOf (F := F) (iblk m c 4 (pt k)) (k / 6)) = stepB m c k := by
  unfold stepB; rw [show 6 * (k / 6) = k by omega]

/-- What the buffers that live across the grid hold before point `n`: nothing is known before the first point; after
it, the columns, sums and maximum of the last point of the first half, and the input gradients of all its points so far. -/
structure Inv (n : ℕ) (Z : Vec F S48x8x160x256 .f32) (g b ag ab : Vec F S160x128 .f32) (ax : Vec F S8x128 .f32) : Prop where
  hg : 0 < n → g = stepG m c (min n 48 - 1)
  hb : 0 < n → b = stepB m c (min n 48 - 1)
  hag : 0 < n → ag = accG m c (min n 48 - 1)
  hab : 0 < n → ab = accB m c (min n 48 - 1)
  hax : 0 < n → ax = amaxAt m c (min n 48 - 1)
  hZ : ∀ k s, k < min n 48 → s < 8 → keptRow Z k s = gradAt m c k s

/-- Before the first point nothing is asked of the buffers. -/
theorem inv_zero (Z : Vec F S48x8x160x256 .f32) (g b ag ab : Vec F S160x128 .f32) (ax : Vec F S8x128 .f32) :
    Inv m c 0 Z g b ag ab ax where
  hg h := absurd h (Nat.lt_irrefl 0)
  hb h := absurd h (Nat.lt_irrefl 0)
  hag h := absurd h (Nat.lt_irrefl 0)
  hab h := absurd h (Nat.lt_irrefl 0)
  hax h := absurd h (Nat.lt_irrefl 0)
  hZ k s hk _ := absurd hk (by simp)

/-- A row of the kept gradients after step `t` has stored its eight. -/
theorem keptRow_keptAt (d : Elt F .f32) (g b : Vec F S160x128 .f32) (X : Vec F S8x160x256 .bf16) (Y : Vec F S8x160x256 .fp8e5m2)
    (Z : Vec F S48x8x160x256 .f32) (t k s : ℕ) (hk : k < 48) (hs : s < 8) :
    keptRow (keptAt d g b X Y Z t 8) k s = if k = t then dxRow d g b (sampleRow X s) (sampleRow Y s) else keptRow Z k s := by
  funext j
  have hk' : k % 48 = k := Nat.mod_eq_of_lt hk
  have hs' : s % 8 = s := Nat.mod_eq_of_lt hs
  have e : keptRow (keptAt d g b X Y Z t 8) k s j = if k % 48 = t ∧ s % 8 < 8 then
      dxRow d g b (sampleRow X (s % 8)) (sampleRow Y (s % 8)) (ix4 (n0 := 1) (n1 := 1) (n2 := 160) (n3 := 256) 0 0 (j 2) (j 3))
      else keptRow Z k s j := rfl
  rw [e, hk', hs']
  have ej : (ix4 (n0 := 1) (n1 := 1) (n2 := 160) (n3 := 256) 0 0 (j 2) (j 3) : S1x1x160x256.Idx) = j := by
    funext a
    match a with
    | ⟨0, _⟩ => exact Fin.ext (by have : (j 0).val < 1 := (j 0).isLt
                                  show 0 = (j 0).val; omega)
    | ⟨1, _⟩ => exact Fin.ext (by have : (j 1).val < 1 := (j 1).isLt
                                  show 0 = (j 1).val; omega)
    | ⟨2, _⟩ => rfl
    | ⟨3, _⟩ => rfl
  rw [ej]
  by_cases h : k = t
  · rw [if_pos ⟨h, hs⟩, if_pos h]
  · rw [if_neg (fun h' => h h'.1), if_neg h]

/-- A step of the first half, from columns, sums and maximum that are right after it, and the gradients it adds. -/
theorem inv_step (t : ℕ) (ht : t < 48) {Z : Vec F S48x8x160x256 .f32} {g b ag ab : Vec F S160x128 .f32} {ax : Vec F S8x128 .f32}
    (h : ∀ k s, k < t → s < 8 → keptRow Z k s = gradAt m c k s)
    (hg : g = stepG m c t) (hb : b = stepB m c t) (hag : ag = accG m c t) (hab : ab = accB m c t) (hax : ax = amaxAt m c t) :
    Inv m c (t + 1) (keptAt (dV m c t) (stepG m c t) (stepB m c t) (xB m c t) (yB m c t) Z t 8) g b ag ab ax := by
  have e : min (t + 1) 48 - 1 = t := by omega
  refine ⟨fun _ => e.symm ▸ hg, fun _ => e.symm ▸ hb, fun _ => e.symm ▸ hag, fun _ => e.symm ▸ hab, fun _ => e.symm ▸ hax, fun k s hk hs => ?_⟩
  rw [keptRow_keptAt _ _ _ _ _ _ _ _ _ (by omega) hs]
  by_cases hkt : k = t
  · rw [if_pos hkt, hkt]; rfl
  · rw [if_neg hkt]; exact h k s (by omega) hs

/-- A step of the second half changes none of it. -/
theorem inv_keep (t : ℕ) (ht : 48 ≤ t) {Z : Vec F S48x8x160x256 .f32} {g b ag ab : Vec F S160x128 .f32} {ax : Vec F S8x128 .f32}
    (h : Inv m c t Z g b ag ab ax) : Inv m c (t + 1) Z g b ag ab ax := by
  have e : min (t + 1) 48 = min t 48 := by omega
  obtain ⟨h1, h2, h3, h4, h5, h6⟩ := h
  exact ⟨fun _ => e ▸ h1 (by omega), fun _ => e ▸ h2 (by omega), fun _ => e ▸ h3 (by omega), fun _ => e ▸ h4 (by omega),
    fun _ => e ▸ h5 (by omega), fun k s hk hs => h6 k s (e ▸ hk) hs⟩

/-- The exponent of the whole tensor. -/
def expoF : IVec S8x128 32 := expo (amaxAt m c 47)

/-- Where it is out of the normal range. -/
def expoBadF : IVec S8x128 1 := expoBad (amaxAt m c 47)

/-- The block of codes of point `t` of the second half. -/
def codesBlk (t : ℕ) : Vec F S8x160x256 .fp8e5m2 := fun j =>
  codesOf (expoF m c) (expoBadF m c) 126#32 (gradAt m c (t - 48) (j 0).val) (ix3 (n0 := 1) (n1 := 160) (n2 := 256) 0 (j 1) (j 2))

/-- What a point of the second half leaves in the block of codes. -/
theorem codes_step (t : ℕ) (ht : 48 ≤ t) (ht' : t < 96) {Z : Vec F S48x8x160x256 .f32} {g b ag ab : Vec F S160x128 .f32} {ax : Vec F S8x128 .f32}
    (h : Inv m c t Z g b ag ab ax) (W : Vec F S8x160x256 .fp8e5m2) :
    codesAt (expo ax) (expoBad ax) 126#32 Z W (t - 48) 8 = codesBlk m c t := by
  have e : min t 48 - 1 = 47 := by omega
  have hax := h.hax (by omega)
  rw [e] at hax
  funext j
  have hj : (j 0).val < 8 := (j 0).isLt
  unfold codesAt codesBlk expoF expoBadF
  rw [if_pos hj, hax, h.hZ (t - 48) (j 0).val (by omega) hj]

/-- What the body may leave in each window's buffer at point `t`, given what it found there: the inputs as found; in
the second half the block of codes and the scale; a row of each of the channel sums at the end of a block of channels. -/
def afterW (w : Fin cfg0.W) (t : Fin cfg0.N) : (Y X : (cfg0.win w).block.Idx → Elt F (cfg0.win w).elt) → Prop :=
  match w with
  | ⟨0, _⟩ => fun Y X => X = Y
  | ⟨1, _⟩ => fun Y X => X = Y
  | ⟨2, _⟩ => fun Y X => X = Y
  | ⟨3, _⟩ => fun Y X => X = Y
  | ⟨4, _⟩ => fun Y X => X = Y
  | ⟨5, _⟩ => fun _ X => 48 ≤ t.val → X = codesBlk m c t.val
  | ⟨6, _⟩ => fun _ X => 48 ≤ t.val → X = fun _ => scaleOf (amaxAt m c 47)
  | ⟨7, _⟩ => fun Y X => X = if t.val < 48 ∧ t.val % 6 = 5 then putRow (F := F) Y (t.val / 6) (k0_pay5 (accG m c t.val)) else Y
  | ⟨8, _⟩ => fun Y X => X = if t.val < 48 ∧ t.val % 6 = 5 then putRow (F := F) Y (t.val / 6) (k0_pay6 (accB m c t.val)) else Y

end Cert.KernelIdeal.Hand

end
-- ==== Proof.KernelIdealPoint.lean ====
/- The body at any grid point: from buffers that hold what the earlier points left, to buffers that hold what the next
point expects. -/
module

public import proofs.«01_k».proof.Proof.KernelIdealBody
public import proofs.«01_k».proof.Proof.KernelIdealTrack

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A whole buffer held at `X`, at its raw contents. -/
theorem owns_raw {sp : Space} {sh : Shape} {e : EltTy} (c : Dev nD) {arg : Memref sig .tc sp sh e} (harg : arg.IsWhole) (X : sh.Idx → Elt F e) :
    (owns (c : Thread nD τ) arg fullShare X : sProp 𝕄) ⊢ (arg.view.loc (c : Thread nD τ) ↦[arg.view.set]{fullShare} harg.unread X) := by
  unfold owns
  iintro ⟨%f, %hf, H⟩
  rw [harg.eq_unread hf]
  iexact H

/-- The branch conditions of a point, by its number. -/
theorem conds : ∀ t : Fin grid0.N,
    ((Scalar.cmpi .ne (Scalar.extui (Scalar.cmpi .eq (BitVec.ofNat 32 (grid0.coords t 0).val) 0#32) : BitVec 32) 0#32 = 1#1) ↔ t.val = 0)
    ∧ (k0_cond2 (grid0.coords t) = 1#1 ↔ t.val < 48 ∧ t.val % 6 = 0) ∧ (k0_cond3 (grid0.coords t) = 1#1 ↔ t.val < 48)
    ∧ (k0_cond4 (grid0.coords t) = 1#1 ↔ t.val < 48 ∧ t.val % 6 = 5) ∧ (k0_cond5 (grid0.coords t) = 1#1 ↔ 48 ≤ t.val)
    ∧ (grid0.coords t 0).val = t.val := by decide +kernel

variable (m : (ℓ : Loc nD τ sig) → Buf (Elt F) ℓ)
variable (c : Dev nD) (t : Fin cfg0.N) (arg1 : Memref sig .tc .smem S1 .f32) (harg1 : arg1.IsWhole)
  (arg2 : Memref sig .tc .vmem S8x160x256 .bf16) (harg2 : arg2.IsWhole)
  (arg3 : Memref sig .tc .vmem S8x160x256 .fp8e5m2) (harg3 : arg3.IsWhole)
  (arg4 : Memref sig .tc .vmem S8x160 .f32) (harg4 : arg4.IsWhole)
  (arg5 : Memref sig .tc .vmem S8x160 .f32) (harg5 : arg5.IsWhole)
  (arg6 : Memref sig .tc .vmem S8x160x256 .fp8e5m2) (harg6 : arg6.IsWhole)
  (arg7 : Memref sig .tc .smem S1 .f32) (harg7 : arg7.IsWhole)
  (arg8 : Memref sig .tc .vmem S8x160 .f32) (harg8 : arg8.IsWhole)
  (arg9 : Memref sig .tc .vmem S8x160 .f32) (harg9 : arg9.IsWhole)
  (arg10 : Memref sig .tc .vmem S48x8x160x256 .f32) (harg10 : arg10.IsWhole)
  (arg11 : Memref sig .tc .vmem S160x128 .f32) (harg11 : arg11.IsWhole)
  (arg12 : Memref sig .tc .vmem S160x128 .f32) (harg12 : arg12.IsWhole)
  (arg13 : Memref sig .tc .vmem S160x128 .f32) (harg13 : arg13.IsWhole)
  (arg14 : Memref sig .tc .vmem S160x128 .f32) (harg14 : arg14.IsWhole)
  (arg15 : Memref sig .tc .vmem S8x128 .f32) (harg15 : arg15.IsWhole)

/-- What holds of the buffers after point `t`, given what the channel sums held before it. -/
def Good (X8 X9 : Vec F S8x160 .f32) (Y6 : Vec F S8x160x256 .fp8e5m2) (Y7 : Vec F S1 .f32) (Y8 : Vec F S8x160 .f32) (Y9 : Vec F S8x160 .f32) (Y10 : Vec F S48x8x160x256 .f32) (Y11 : Vec F S160x128 .f32) (Y12 : Vec F S160x128 .f32) (Y13 : Vec F S160x128 .f32) (Y14 : Vec F S160x128 .f32) (Y15 : Vec F S8x128 .f32) : Prop :=
  (48 ≤ t.val → Y6 = codesBlk m c t.val) ∧ (48 ≤ t.val → Y7 = fun _ => scaleOf (amaxAt m c 47)) ∧ (Y8 = if t.val < 48 ∧ t.val % 6 = 5 then putRow (F := F) X8 (t.val / 6) (k0_pay5 (accG m c t.val)) else X8) ∧ (Y9 = if t.val < 48 ∧ t.val % 6 = 5 then putRow (F := F) X9 (t.val / 6) (k0_pay6 (accB m c t.val)) else X9) ∧ Inv m c (t.val + 1) Y10 Y11 Y12 Y13 Y14 Y15

variable (X1 : Vec F S1 .f32) (X2 : Vec F S8x160x256 .bf16) (X3 : Vec F S8x160x256 .fp8e5m2) (X4 : Vec F S8x160 .f32) (X5 : Vec F S8x160 .f32) (X6 : Vec F S8x160x256 .fp8e5m2) (X7 : Vec F S1 .f32) (X8 : Vec F S8x160 .f32) (X9 : Vec F S8x160 .f32) (X10 : Vec F S48x8x160x256 .f32) (X11 : Vec F S160x128 .f32) (X12 : Vec F S160x128 .f32) (X13 : Vec F S160x128 .f32) (X14 : Vec F S160x128 .f32) (X15 : Vec F S8x128 .f32)

/-- All the buffers of a point, at their raw contents. -/
theorem owns_all :
    (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15) : sProp 𝕄)
      ⊢ (iprop((arg1.view.loc (c : Thread nD τ) ↦[arg1.view.set]{fullShare} harg1.unread X1) ∗ (arg2.view.loc (c : Thread nD τ) ↦[arg2.view.set]{fullShare} harg2.unread X2) ∗ (arg3.view.loc (c : Thread nD τ) ↦[arg3.view.set]{fullShare} harg3.unread X3) ∗ (arg4.view.loc (c : Thread nD τ) ↦[arg4.view.set]{fullShare} harg4.unread X4) ∗ (arg5.view.loc (c : Thread nD τ) ↦[arg5.view.set]{fullShare} harg5.unread X5) ∗ (arg6.view.loc (c : Thread nD τ) ↦[arg6.view.set]{fullShare} harg6.unread X6) ∗ (arg7.view.loc (c : Thread nD τ) ↦[arg7.view.set]{fullShare} harg7.unread X7) ∗ (arg8.view.loc (c : Thread nD τ) ↦[arg8.view.set]{fullShare} harg8.unread X8) ∗ (arg9.view.loc (c : Thread nD τ) ↦[arg9.view.set]{fullShare} harg9.unread X9) ∗ (arg10.view.loc (c : Thread nD τ) ↦[arg10.view.set]{fullShare} harg10.unread X10) ∗ (arg11.view.loc (c : Thread nD τ) ↦[arg11.view.set]{fullShare} harg11.unread X11) ∗ (arg12.view.loc (c : Thread nD τ) ↦[arg12.view.set]{fullShare} harg12.unread X12) ∗ (arg13.view.loc (c : Thread nD τ) ↦[arg13.view.set]{fullShare} harg13.unread X13) ∗ (arg14.view.loc (c : Thread nD τ) ↦[arg14.view.set]{fullShare} harg14.unread X14) ∗ (arg15.view.loc (c : Thread nD τ) ↦[arg15.view.set]{fullShare} harg15.unread X15)) : sProp 𝕄) := by
  iintro ⟨H1, H2, H3, H4, H5, H6, H7, H8, H9, H10, H11, H12, H13, H14, H15⟩
  isplitl [H1]; · iapply (owns_raw c harg1 X1); iexact H1
  isplitl [H2]; · iapply (owns_raw c harg2 X2); iexact H2
  isplitl [H3]; · iapply (owns_raw c harg3 X3); iexact H3
  isplitl [H4]; · iapply (owns_raw c harg4 X4); iexact H4
  isplitl [H5]; · iapply (owns_raw c harg5 X5); iexact H5
  isplitl [H6]; · iapply (owns_raw c harg6 X6); iexact H6
  isplitl [H7]; · iapply (owns_raw c harg7 X7); iexact H7
  isplitl [H8]; · iapply (owns_raw c harg8 X8); iexact H8
  isplitl [H9]; · iapply (owns_raw c harg9 X9); iexact H9
  isplitl [H10]; · iapply (owns_raw c harg10 X10); iexact H10
  isplitl [H11]; · iapply (owns_raw c harg11 X11); iexact H11
  isplitl [H12]; · iapply (owns_raw c harg12 X12); iexact H12
  isplitl [H13]; · iapply (owns_raw c harg13 X13); iexact H13
  isplitl [H14]; · iapply (owns_raw c harg14 X14); iexact H14
  iapply (owns_raw c harg15 X15); iexact H15

set_option maxHeartbeats 1000000 in
/-- The body at point `t`. -/
theorem body_point (e1 : X1 = iblk m c 0 t) (e2 : X2 = iblk m c 1 t) (e3 : X3 = iblk m c 2 t) (e4 : X4 = iblk m c 3 t) (e5 : X5 = iblk m c 4 t)
    (hI : Inv m c t.val X10 X11 X12 X13 X14 X15) :
    (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15) : sProp 𝕄)
      ⊢ wp frame (wpE (defs₀ (F := F)) Variants.none (c : Thread nD τ) none) Set.univ (cc0_gn_silu_bwd (F := F) (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => (iprop(∃ (Y6 : Vec F S8x160x256 .fp8e5m2) (Y7 : Vec F S1 .f32) (Y8 : Vec F S8x160 .f32) (Y9 : Vec F S8x160 .f32) (Y10 : Vec F S48x8x160x256 .f32) (Y11 : Vec F S160x128 .f32) (Y12 : Vec F S160x128 .f32) (Y13 : Vec F S160x128 .f32) (Y14 : Vec F S160x128 .f32) (Y15 : Vec F S8x128 .f32), ⌜Good m c t X8 X9 Y6 Y7 Y8 Y9 Y10 Y11 Y12 Y13 Y14 Y15⌝ ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14 ∗ owns (c : Thread nD τ) arg15 fullShare Y15) : sProp 𝕄)) := by
  obtain ⟨c1, c2, c3, c4, c5, c0⟩ := conds t
  have hN : t.val < 96 := lt_of_lt_of_eq t.isLt N_0
  have d1 : dOf X1 = dV m c t.val := by rw [e1]; unfold dV; rw [pt_val]
  have d2 : X2 = xB m c t.val := by rw [e2]; unfold xB; rw [pt_val]
  have d3 : X3 = yB m c t.val := by rw [e3]; unfold yB; rw [pt_val]
  have hZ := hI.hZ
  refine (owns_all c arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X5 X6 X7 X8 X9 X10 X11 X12 X13 X14 X15).trans ?_
  by_cases h48 : 48 ≤ t.val
  · have n3 : ¬ t.val < 48 := by omega
    refine triple_restated (bodyE c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X5 X6 X7 X8 X9 X10 X11 X12 X13 X14 X15 Variants.none none Set.univ (fun h => absurd (c1.mp h) (by omega)) (fun h => absurd (c2.mp h) (by omega)) (fun h => absurd (c3.mp h) n3) (fun h => absurd (c4.mp h) (by omega)) (c5.mpr h48)) rfl .rfl fun _ => ?_
    iintro H
    iexists _, _, _, _, _, _, _, _, _, _
    isplitr; swap
    · iexact H
    · ipureintro
      rw [c0]
      exact ⟨fun _ => codes_step m c t.val h48 hN hI X6, fun _ => by rw [hI.hax (by omega), show min t.val 48 - 1 = 47 by omega],
        (if_neg (by omega)).symm, (if_neg (by omega)).symm, inv_keep m c t.val h48 hI⟩
  have l48 : t.val < 48 := by omega
  by_cases h0 : t.val = 0
  · have h6 : t.val % 6 = 0 := by omega
    refine triple_restated (bodyA c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X5 X6 X7 X8 X9 X10 X11 X12 X13 X14 X15 Variants.none none Set.univ (c1.mpr h0) (c2.mpr ⟨l48, h6⟩) (c3.mpr l48) (fun h => absurd (c4.mp h) (by omega)) (fun h => absurd (c5.mp h) (by omega))) rfl .rfl fun _ => ?_
    iintro H
    iexists _, _, _, _, _, _, _, _, _, _
    isplitr; swap
    · iexact H
    · ipureintro
      rw [c0]
      have eG : k0_pay30 (rowOf X4 (t.val / 6)) = stepG m c t.val := by rw [e4, ← stepG_start m c t.val h6, pt_val]
      have eB : k0_pay31 (rowOf X5 (t.val / 6)) = stepB m c t.val := by rw [e5, ← stepB_start m c t.val h6, pt_val]
      rw [eG, eB, d1, d2, d3]
      refine ⟨fun h => absurd h (by omega), fun h => absurd h (by omega), (if_neg (by omega)).symm, (if_neg (by omega)).symm, inv_step m c t.val l48 (fun k s hk hs => hZ k s (by omega) hs) rfl rfl (accG_start m c _ h6).symm (accB_start m c _ h6).symm ?_⟩
      rw [h0]; rfl
  by_cases h6 : t.val % 6 = 0
  · skip
    refine triple_restated (bodyB c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X5 X6 X7 X8 X9 X10 X11 X12 X13 X14 X15 Variants.none none Set.univ (fun h => absurd (c1.mp h) h0) (c2.mpr ⟨l48, h6⟩) (c3.mpr l48) (fun h => absurd (c4.mp h) (by omega)) (fun h => absurd (c5.mp h) (by omega))) rfl .rfl fun _ => ?_
    iintro H
    iexists _, _, _, _, _, _, _, _, _, _
    isplitr; swap
    · iexact H
    · ipureintro
      rw [c0]
      have eG : k0_pay30 (rowOf X4 (t.val / 6)) = stepG m c t.val := by rw [e4, ← stepG_start m c t.val h6, pt_val]
      have eB : k0_pay31 (rowOf X5 (t.val / 6)) = stepB m c t.val := by rw [e5, ← stepB_start m c t.val h6, pt_val]
      rw [eG, eB, d1, d2, d3]
      have f15 : X15 = amaxAt m c (t.val - 1) := by rw [hI.hax (by omega), show min t.val 48 = t.val by omega]
      exact ⟨fun h => absurd h (by omega), fun h => absurd h (by omega), (if_neg (by omega)).symm, (if_neg (by omega)).symm, inv_step m c t.val l48 (fun k s hk hs => hZ k s (by omega) hs) rfl rfl (accG_start m c _ h6).symm (accB_start m c _ h6).symm (f15 ▸ (amaxAt_next m c _ h0).symm)⟩
  by_cases h5 : t.val % 6 = 5
  · skip
    refine triple_restated (bodyD c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X5 X6 X7 X8 X9 X10 X11 X12 X13 X14 X15 Variants.none none Set.univ (fun h => absurd (c1.mp h) h0) (fun h => absurd (c2.mp h) (by omega)) (c3.mpr l48) (c4.mpr ⟨l48, h5⟩) (fun h => absurd (c5.mp h) (by omega))) rfl .rfl fun _ => ?_
    iintro H
    iexists _, _, _, _, _, _, _, _, _, _
    isplitr; swap
    · iexact H
    · ipureintro
      rw [c0]
      have e48 : min t.val 48 = t.val := by omega
      have eG : X11 = stepG m c t.val := by rw [hI.hg (by omega), e48, stepG_next m c _ h6]
      have eB : X12 = stepB m c t.val := by rw [hI.hb (by omega), e48, stepB_next m c _ h6]
      rw [eG, eB, d1, d2, d3]
      have f13 : X13 = accG m c (t.val - 1) := by rw [hI.hag (by omega), e48]
      have f14 : X14 = accB m c (t.val - 1) := by rw [hI.hab (by omega), e48]
      have f15 : X15 = amaxAt m c (t.val - 1) := by rw [hI.hax (by omega), show min t.val 48 = t.val by omega]
      have g13 := (show gAt (dV m c t.val) (stepG m c t.val) (stepB m c t.val) (xB m c t.val) (yB m c t.val) X13 8 = accG m c t.val from f13 ▸ (accG_next m c _ h6).symm)
      have g14 := (show bAt (dV m c t.val) (stepG m c t.val) (stepB m c t.val) (xB m c t.val) (yB m c t.val) X14 8 = accB m c t.val from f14 ▸ (accB_next m c _ h6).symm)
      exact ⟨fun h => absurd h (by omega), fun h => absurd h (by omega), (congrArg (putRow X8 _) (congrArg k0_pay5 g13)).trans (if_pos ⟨l48, h5⟩).symm, (congrArg (putRow X9 _) (congrArg k0_pay6 g14)).trans (if_pos ⟨l48, h5⟩).symm,
        inv_step m c t.val l48 (fun k s hk hs => hZ k s (by omega) hs) rfl rfl g13 g14 (f15 ▸ (amaxAt_next m c _ h0).symm)⟩
  · skip
    refine triple_restated (bodyC c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X5 X6 X7 X8 X9 X10 X11 X12 X13 X14 X15 Variants.none none Set.univ (fun h => absurd (c1.mp h) h0) (fun h => absurd (c2.mp h) (by omega)) (c3.mpr l48) (fun h => absurd (c4.mp h) (by omega)) (fun h => absurd (c5.mp h) (by omega))) rfl .rfl fun _ => ?_
    iintro H
    iexists _, _, _, _, _, _, _, _, _, _
    isplitr; swap
    · iexact H
    · ipureintro
      rw [c0]
      have e48 : min t.val 48 = t.val := by omega
      have eG : X11 = stepG m c t.val := by rw [hI.hg (by omega), e48, stepG_next m c _ h6]
      have eB : X12 = stepB m c t.val := by rw [hI.hb (by omega), e48, stepB_next m c _ h6]
      rw [eG, eB, d1, d2, d3]
      have f13 : X13 = accG m c (t.val - 1) := by rw [hI.hag (by omega), e48]
      have f14 : X14 = accB m c (t.val - 1) := by rw [hI.hab (by omega), e48]
      have f15 : X15 = amaxAt m c (t.val - 1) := by rw [hI.hax (by omega), show min t.val 48 = t.val by omega]
      exact ⟨fun h => absurd h (by omega), fun h => absurd h (by omega), (if_neg (by omega)).symm, (if_neg (by omega)).symm, inv_step m c t.val l48 (fun k s hk hs => hZ k s (by omega) hs) rfl rfl (f13 ▸ (accG_next m c _ h6).symm) (f14 ▸ (accB_next m c _ h6).symm) (f15 ▸ (amaxAt_next m c _ h0).symm)⟩

end Cert.KernelIdeal.Hand

end
-- ==== Proof.KernelIdealRun.lean ====
/- The run of the kernel: its proof data, the body obligation, and what every final state holds. -/
module

public import proofs.«01_k».proof.Proof.KernelIdealPoint
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What is kept between points: the six buffers that live across the grid hold what `Inv` says, and the random
generator's register is held. -/
def keeps (c : Dev nD) (n : ℕ) : sProp 𝕄 :=
  iprop((∃ (Z : Vec F S48x8x160x256 .f32) (g : Vec F S160x128 .f32) (b : Vec F S160x128 .f32) (ag : Vec F S160x128 .f32) (ab : Vec F S160x128 .f32) (ax : Vec F S8x128 .f32), ⌜Inv m c n Z g b ag ab ax⌝ ∗ owns (c : Thread nD τ) (Memref.whole cc0_scratch0) fullShare Z ∗ owns (c : Thread nD τ) (Memref.whole cc0_scratch1) fullShare g ∗ owns (c : Thread nD τ) (Memref.whole cc0_scratch2) fullShare b ∗ owns (c : Thread nD τ) (Memref.whole cc0_scratch3) fullShare ag ∗ owns (c : Thread nD τ) (Memref.whole cc0_scratch4) fullShare ab ∗ owns (c : Thread nD τ) (Memref.whole cc0_scratch5) fullShare ax) ∗ ∃ r, prngReg c r)

/-- The proof data: each array as the region finds it, what the body may leave in each window (`afterW`), and what is
kept between points (`keeps`). -/
def rdat (c : Dev nD) : Pipeline.RDat τ (Elt F) Unit ℕ (UR sig nD τ) ℕ cfg0 c where
  A w := V m c (Pipeline.arrRef spec0 w)
  after w t := afterW m c w t
  Φ n := keeps m c n.val
  q _ := fullShare
  owed _ := 0

/-- The array of window `w` starts as the array that the memory holds for it. -/
theorem rdat_A (c : Dev nD) (w : Fin cfg0.W) : (rdat m c).A w = V m c (Pipeline.arrRef spec0 w) := by dsimp only [rdat]

/-- Input window 0 holds its block at every point. -/
theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  exact hd.trans (by unfold Pipeline.RDat.fetched Pipeline.RDat.blockOf iblk; rw [rdat_A]; try rfl)

/-- Input window 1 holds its block at every point. -/
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  exact hd.trans (by unfold Pipeline.RDat.fetched Pipeline.RDat.blockOf iblk; rw [rdat_A]; try rfl)

/-- Input window 2 holds its block at every point. -/
theorem finds2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  exact hd.trans (by unfold Pipeline.RDat.fetched Pipeline.RDat.blockOf iblk; rw [rdat_A]; try rfl)

/-- Input window 3 holds its block at every point. -/
theorem finds3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  exact hd.trans (by unfold Pipeline.RDat.fetched Pipeline.RDat.blockOf iblk; rw [rdat_A]; try rfl)

/-- Input window 4 holds its block at every point. -/
theorem finds4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  exact hd.trans (by unfold Pipeline.RDat.fetched Pipeline.RDat.blockOf iblk; rw [rdat_A]; try rfl)

/-- The body that the pipeline calls at point `t`, with the slots of that point, is the body at that point. -/
theorem defs₀_row (t : Fin cfg0.N) : defs₀ (F := F) .tc cfg0.body (cfg0.bodyArgs t (cfg0.slots t)) = bodyAt0 t := by
  unfold defs₀; rw [Defs.onTc_tc]

set_option maxHeartbeats 1000000 in
/-- The body at a point, in the form the run asks for. -/
theorem sound_body (c : Dev nD) (t : Fin cfg0.N) (Y : (w : Fin cfg0.W) → (cfg0.win w).block.Idx → Elt F (cfg0.win w).elt)
    (hY : ∀ w, (rdat m c).Finds w t (Y w)) :
    (iprop(keeps m c t.val ∗ (rdat m c).owesAt () t.castSucc ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8)) : sProp 𝕄)
      ⊢ wp frame (wpE (defs₀ (F := F)) Variants.none (c : Thread nD τ) none) Set.univ (bodyAt0 t)
          (fun _ => (iprop(keeps m c (t.val + 1) ∗ (rdat m c).owesAt () t.castSucc ∗ (∃ X, ⌜afterW m c 0 t (Y 0) X⌝ ∗ owns (c : Thread nD τ) (win0_0.stage (cfg0.slots t 0)) fullShare X) ∗ (∃ X, ⌜afterW m c 1 t (Y 1) X⌝ ∗ owns (c : Thread nD τ) (win0_1.stage (cfg0.slots t 1)) fullShare X) ∗ (∃ X, ⌜afterW m c 2 t (Y 2) X⌝ ∗ owns (c : Thread nD τ) (win0_2.stage (cfg0.slots t 2)) fullShare X) ∗ (∃ X, ⌜afterW m c 3 t (Y 3) X⌝ ∗ owns (c : Thread nD τ) (win0_3.stage (cfg0.slots t 3)) fullShare X) ∗ (∃ X, ⌜afterW m c 4 t (Y 4) X⌝ ∗ owns (c : Thread nD τ) (win0_4.stage (cfg0.slots t 4)) fullShare X) ∗ (∃ X, ⌜afterW m c 5 t (Y 5) X⌝ ∗ owns (c : Thread nD τ) (win0_5.stage (cfg0.slots t 5)) fullShare X) ∗ (∃ X, ⌜afterW m c 6 t (Y 6) X⌝ ∗ owns (c : Thread nD τ) (win0_6.stage (cfg0.slots t 6)) fullShare X) ∗ (∃ X, ⌜afterW m c 7 t (Y 7) X⌝ ∗ owns (c : Thread nD τ) (win0_7.stage (cfg0.slots t 7)) fullShare X) ∗ (∃ X, ⌜afterW m c 8 t (Y 8) X⌝ ∗ owns (c : Thread nD τ) (win0_8.stage (cfg0.slots t 8)) fullShare X)) : sProp 𝕄)) := by
  unfold keeps
  iintro ⟨⟨⟨%Z, %g, %b, %ag, %ab, %ax, %hI, S0, S1, S2, S3, S4, S5⟩, HR⟩, HO, W0, W1, W2, W3, W4, W5, W6, W7, W8⟩
  iapply wp_wand_r
  isplitl [S0 S1 S2 S3 S4 S5 W0 W1 W2 W3 W4 W5 W6 W7 W8]
  · iapply (body_point m c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Y 0) (Y 1) (Y 2) (Y 3) (Y 4) (Y 5) (Y 6) (Y 7) (Y 8) Z g b ag ab ax (finds0 m c t _ (hY 0)) (finds1 m c t _ (hY 1)) (finds2 m c t _ (hY 2)) (finds3 m c t _ (hY 3)) (finds4 m c t _ (hY 4)) hI)
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [S0]; · iexact S0
    isplitl [S1]; · iexact S1
    isplitl [S2]; · iexact S2
    isplitl [S3]; · iexact S3
    isplitl [S4]; · iexact S4
    iexact S5
  iintro %a ⟨%Y6, %Y7, %Y8, %Y9, %Y10, %Y11, %Y12, %Y13, %Y14, %Y15, %hG, W0, W1, W2, W3, W4, W5, W6, W7, W8, S0, S1, S2, S3, S4, S5⟩
  obtain ⟨g5, g6, g7, g8, gI⟩ := hG
  isplitl [S0 S1 S2 S3 S4 S5 HR]
  · isplitr [HR]
    · iexists Y10, Y11, Y12, Y13, Y14, Y15
      isplitr; · ipureintro; exact gI
      isplitl [S0]; · iexact S0
      isplitl [S1]; · iexact S1
      isplitl [S2]; · iexact S2
      isplitl [S3]; · iexact S3
      isplitl [S4]; · iexact S4
      iexact S5
    · iexact HR
  isplitl [HO]; · iexact HO
  isplitl [W0]
  · iexists (Y 0); isplitr; swap
    · iexact W0
    · ipureintro; exact rfl
  isplitl [W1]
  · iexists (Y 1); isplitr; swap
    · iexact W1
    · ipureintro; exact rfl
  isplitl [W2]
  · iexists (Y 2); isplitr; swap
    · iexact W2
    · ipureintro; exact rfl
  isplitl [W3]
  · iexists (Y 3); isplitr; swap
    · iexact W3
    · ipureintro; exact rfl
  isplitl [W4]
  · iexists (Y 4); isplitr; swap
    · iexact W4
    · ipureintro; exact rfl
  isplitl [W5]
  · iexists Y6; isplitr; swap
    · iexact W5
    · ipureintro; exact g5
  isplitl [W6]
  · iexists Y7; isplitr; swap
    · iexact W6
    · ipureintro; exact g6
  isplitl [W7]
  · iexists Y8; isplitr; swap
    · iexact W7
    · ipureintro; exact g7
  · iexists Y9; isplitr; swap
    · iexact W8
    · ipureintro; exact g8

/-- What the run asks of the body, at every point. -/
theorem body_obligation (c : Dev nD) : (rdat m c).BodyObligation (defs₀ (F := F)) Variants.none () Set.univ := fun t Y hY => by
  rw [bigSep_W0, bigSep_W0, defs₀_row]
  exact triple_restated (sound_body m c t Y hY) rfl .rfl fun _ => .rfl

/-- Before the first point the scratch buffers, whatever they hold, satisfy what is kept from point to point. -/
theorem keeps_in (c : Dev nD) : (Pipeline.ΦA spec0 c : sProp 𝕄) ⊢ keeps m c 0 := by
  unfold Pipeline.ΦA keeps
  rw [scopedRest0_eq]
  simp only [owns_whole]
  iintro ⟨⟨⟨%Z, S0⟩, ⟨%g, S1⟩, ⟨%b, S2⟩, ⟨%ag, S3⟩, ⟨%ab, S4⟩, ⟨%ax, S5⟩⟩, HR⟩
  isplitr [HR]
  · iexists Z, g, b, ag, ab, ax
    isplitr; · ipureintro; exact inv_zero m c Z g b ag ab ax
    isplitl [S0]; · iexact S0
    isplitl [S1]; · iexact S1
    isplitl [S2]; · iexact S2
    isplitl [S3]; · iexact S3
    isplitl [S4]; · iexact S4
    iexact S5
  · iexact HR

/-- What is kept from point to point gives the scratch buffers back, whatever they hold. -/
theorem keeps_out (c : Dev nD) (n : ℕ) : keeps m c n ⊢ (Pipeline.ΦA spec0 c : sProp 𝕄) := by
  unfold Pipeline.ΦA keeps
  rw [scopedRest0_eq]
  simp only [owns_whole]
  iintro ⟨⟨%Z, %g, %b, %ag, %ab, %ax, -, S0, S1, S2, S3, S4, S5⟩, HR⟩
  isplitr [HR]
  · isplitl [S0]; · iexists Z; iexact S0
    isplitl [S1]; · iexists g; iexact S1
    isplitl [S2]; · iexists b; iexact S2
    isplitl [S3]; · iexists ag; iexact S3
    isplitl [S4]; · iexists ab; iexact S4
    iexists ax; iexact S5
  · iexact HR

set_option backward.isDefEq.respectTransparency.types false in
/-- THE RUN: it terminates, every array of the pipeline holds something the proof data allow, every other buffer is
untouched, and every semaphore counter is at zero. -/
theorem run_main : θ_run defs (onTc (τ := τ) (main (F := F))) (s₀ m ρ) (fun r => Pipeline.RDat.FramePost cfg0 (rdat m) (V m) r ∧ r.2.sem = fun _ => 0) :=
  Pipeline.RDat.θ_run_frame_track (Q' := fun r => Pipeline.RDat.FramePost cfg0 (rdat m) (V m) r ∧ r.2.sem = fun _ => 0) cfgs (0 : Fin 1) launch0 defs₀ Variants.none (rdat m) m ρ main
    (hbody := fun c => body_obligation m c) (hshare := fun c => (rdat m c).share_full fun _ => rfl)
    (howed := fun _ _ => rfl) (V := V m) (hmain := hmain m Variants.none) (hA := rdat_A m) (hin := fun c => keeps_in m c) (hout := fun c => keeps_out m c _)
    (hQ' := fun _ h => h)

/-- Every argument array ends as it began. -/
theorem args_of {r : PUnit × MemSt nD τ sig (Elt F)} (h : Pipeline.RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(Pipeline.RDat.FramePost.arr_in h c 1 rfl).trans ((rdat_A m c 1).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (Pipeline.RDat.FramePost.arr_in h c 2 rfl).trans ((rdat_A m c 2).trans (V_main_arg3 m c)),
    ((h c).2 main_arg4 (Pipeline.mem_restRefs_of main_arg4 (by decide) (by decide))).trans (V_main_arg4 m c)⟩

/-- THE FRAME: the run terminates with every argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args_of m h.1 c, h.2⟩) (run_main m ρ)

end Cert.KernelIdeal.Hand

end
-- ==== Proof.Group.lean ====
/- The gradient of one normalisation group in plain extended reals: forty channels of two hundred and fifty-six
   positions.  Both programs are read against these definitions.  -/
module

public import Idealize.ShloMosaic.PureOps.Ideal

@[expose] public section

noncomputable section

namespace Cert.Hand

open Idealize.ShloMosaic

/-- The values of one group: forty channels, two hundred and fifty-six positions. -/
abbrev Grp := Fin 40 → Fin 256 → EReal

/-- The sum of a group. -/
def tot (f : Grp) : EReal := ∑ k, ∑ p, f k p

/-- The mean of a group. -/
def avg (f : Grp) : EReal := tot f * ((1 / 10240 : ℝ) : EReal)

/-- The group less its mean. -/
def cen (X : Grp) : Grp := fun k p => X k p - avg X

/-- One over the square root of the group's variance and the small constant. -/
def rs (X : Grp) : EReal := Ideal.rsqrt (avg (fun k p => cen X k p * cen X k p) + Ideal.ofBits .f32 0x3727C5AC#32)

/-- The normalised group. -/
def xh (X : Grp) : Grp := fun k p => cen X k p * rs X

/-- The input of the activation: the normalised group scaled and shifted by channel. -/
def act (X : Grp) (ga be : Fin 40 → EReal) : Grp := fun k p => xh X k p * ga k + be k

/-- The gradient at the activation's input. -/
def dact (d : EReal) (X Y : Grp) (ga be : Fin 40 → EReal) : Grp := fun k p =>
  Y k p * d * Ideal.logistic (act X ga be k p) * (1 + act X ga be k p * (1 - Ideal.logistic (act X ga be k p)))

/-- The gradient at the normalised group. -/
def dnorm (d : EReal) (X Y : Grp) (ga be : Fin 40 → EReal) : Grp := fun k p => dact d X Y ga be k p * ga k

/-- The gradient at the group itself. -/
def dgrp (d : EReal) (X Y : Grp) (ga be : Fin 40 → EReal) : Grp := fun k p =>
  rs X * (dnorm d X Y ga be k p - avg (dnorm d X Y ga be)
    - xh X k p * avg (fun k p => dnorm d X Y ga be k p * xh X k p))

end Cert.Hand

end
-- ==== Proof.KernelGroup.lean ====
/- What the kernel computes of one sample, read at one place, in the terms of the group.  -/
module

public import proofs.«01_k».proof.Proof.KernelIdealState
public import proofs.«01_k».proof.Proof.Group
public import Idealize.ShloMosaic.Lib.Pointwise

@[expose] public section

set_option maxRecDepth 16384

noncomputable section

namespace Cert.Hand

open Idealize.ShloMosaic Cert.KernelIdeal Cert.KernelIdeal.Gen Cert.KernelIdeal.Hand

/-- Group `a` of a sample's one hundred and sixty channels. -/
def kgrp (x : S1x160x256.Idx → EReal) (a : Fin 4) : Grp := fun k p => x (ix3 0 ⟨a.val * 40 + k.val, by omega⟩ p)

/-- The parameters of group `a`, the first lane of a column. -/
def kpar (g : S160x128.Idx → EReal) (a : Fin 4) : Fin 40 → EReal := fun k => g (ix2 ⟨a.val * 40 + k.val, by omega⟩ 0)

/-- The named constant is one over ten thousand two hundred and forty. -/
theorem inv_n : (Named.named κ "inv_n" 0x38CCCCCD#32 : Ideal .f32) = ((1 / 10240 : ℝ) : EReal) :=
  IdealRules.named_const.ideal_named_scalar _ _ _ _ rfl

/-- The sample less its group means. -/
theorem pay10_at (x : Vec Ideal S1x160x256 .bf16) (a : Fin 4) (k : Fin 40) (p : Fin 256) :
    k0_pay10 x (ix3 a k p) = cen (kgrp x a) k p := by
  pointwise [k0_pay10]
  rw [inv_n]; rfl

/-- One over the square root of the group's variance. -/
theorem pay11_at (x : Vec Ideal S1x160x256 .bf16) (a : Fin 4) :
    k0_pay11 x (ix3 a 0 0) = rs (kgrp x a) := by
  pointwise [k0_pay11, pay10_at]
  rw [inv_n]; rfl

/-- The normalised sample. -/
theorem pay12_at (x : Vec Ideal S1x160x256 .bf16) (a : Fin 4) (k : Fin 40) (p : Fin 256) :
    k0_pay12 x (ix3 a k p) = xh (kgrp x a) k p := by
  pointwise [k0_pay12, pay10_at, pay11_at]
  rfl

/-- The first column of parameters by group. -/
theorem pay1_at (g : Vec Ideal S160x128 .f32) (a : Fin 4) (k : Fin 40) :
    k0_pay1 g (ix3 a k 0) = kpar g a k := by
  pointwise [k0_pay1]
  rfl

/-- The second column of parameters by group. -/
theorem pay2_at (g : Vec Ideal S160x128 .f32) (a : Fin 4) (k : Fin 40) :
    k0_pay2 g (ix3 a k 0) = kpar g a k := by
  pointwise [k0_pay2]
  rfl

/-- The activation's input. -/
theorem pay13_at (g b : Vec Ideal S160x128 .f32) (x : Vec Ideal S1x160x256 .bf16) (a : Fin 4) (k : Fin 40) (p : Fin 256) :
    k0_pay13 (k0_pay1 g) (k0_pay2 b) x (ix3 a k p) = act (kgrp x a) (kpar g a) (kpar b a) k p := by
  pointwise [k0_pay13, pay12_at, pay1_at, pay2_at]
  rfl

/-- The sigmoid of the activation's input. -/
theorem pay14_at (g b : Vec Ideal S160x128 .f32) (x : Vec Ideal S1x160x256 .bf16) (a : Fin 4) (k : Fin 40) (p : Fin 256) :
    k0_pay14 (k0_pay1 g) (k0_pay2 b) x (ix3 a k p) = Ideal.logistic (act (kgrp x a) (kpar g a) (kpar b a) k p) := by
  pointwise [k0_pay14, pay13_at]
  simp [Ideal.logistic, Ideal.ofBits_zero_f32, Ideal.ofBits_one_f32]

/-- The incoming gradient times the sigmoid. -/
theorem pay15_at (d : Elt Ideal .f32) (g b : Vec Ideal S160x128 .f32) (x : Vec Ideal S1x160x256 .bf16)
    (y : Vec Ideal S1x160x256 .fp8e5m2) (a : Fin 4) (k : Fin 40) (p : Fin 256) :
    k0_pay15 d (k0_pay1 g) (k0_pay2 b) x y (ix3 a k p) =
      kgrp y a k p * d * Ideal.logistic (act (kgrp x a) (kpar g a) (kpar b a) k p) := by
  pointwise [k0_pay15, pay14_at]
  rfl

/-- The other factor of the activation's derivative. -/
theorem pay16_at (g b : Vec Ideal S160x128 .f32) (x : Vec Ideal S1x160x256 .bf16) (a : Fin 4) (k : Fin 40) (p : Fin 256) :
    k0_pay16 (k0_pay1 g) (k0_pay2 b) x (ix3 a k p) = 1 + act (kgrp x a) (kpar g a) (kpar b a) k p
      * (1 - Ideal.logistic (act (kgrp x a) (kpar g a) (kpar b a) k p)) := by
  pointwise [k0_pay16, pay13_at, pay14_at]

/-- The gradient at the activation's input. -/
theorem pay17_at (d : Elt Ideal .f32) (g b : Vec Ideal S160x128 .f32) (x : Vec Ideal S1x160x256 .bf16)
    (y : Vec Ideal S1x160x256 .fp8e5m2) (a : Fin 4) (k : Fin 40) (p : Fin 256) :
    k0_pay17 (k0_pay15 d (k0_pay1 g) (k0_pay2 b) x y) (k0_pay16 (k0_pay1 g) (k0_pay2 b) x) (ix3 a k p) =
      dact d (kgrp x a) (kgrp y a) (kpar g a) (kpar b a) k p := by
  pointwise [k0_pay17, pay15_at, pay16_at]
  rfl

/-- One sample's input gradient, by row. -/
theorem dxBlk_at (d : Elt Ideal .f32) (g b : Vec Ideal S160x128 .f32) (x : Vec Ideal S1x160x256 .bf16)
    (y : Vec Ideal S1x160x256 .fp8e5m2) (r : Fin 160) (p : Fin 256) :
    dxBlk d g b x y (ix2 r p) = dgrp d (kgrp x ⟨r.val / 40, by omega⟩) (kgrp y ⟨r.val / 40, by omega⟩)
      (kpar g ⟨r.val / 40, by omega⟩) (kpar b ⟨r.val / 40, by omega⟩) ⟨r.val % 40, by omega⟩ p := by
  unfold dxBlk
  pointwise [k0_pay20, pay17_at, pay11_at, pay12_at, pay1_at]
  rw [inv_n]; rfl

/-- The same gradient in the shape it is kept in. -/
theorem dxRow_at (d : Elt Ideal .f32) (g b : Vec Ideal S160x128 .f32) (x : Vec Ideal S1x160x256 .bf16)
    (y : Vec Ideal S1x160x256 .fp8e5m2) (r : Fin 160) (p : Fin 256) :
    dxRow d g b x y (ix4 0 0 r p) = dxBlk d g b x y (ix2 r p) := by
  unfold dxRow dxBlk
  pointwise [k0_pay21]

/-- One sample's share of the sum for the offset parameter. -/
theorem bAdd_at (d : Elt Ideal .f32) (g b : Vec Ideal S160x128 .f32) (x : Vec Ideal S1x160x256 .bf16)
    (y : Vec Ideal S1x160x256 .fp8e5m2) (A : Vec Ideal S160x128 .f32) (r : Fin 160) (l : Fin 128) :
    bAdd d g b x y A (ix2 r l) = A (ix2 r l) +
      (dact d (kgrp x ⟨r.val / 40, by omega⟩) (kgrp y ⟨r.val / 40, by omega⟩)
          (kpar g ⟨r.val / 40, by omega⟩) (kpar b ⟨r.val / 40, by omega⟩) ⟨r.val % 40, by omega⟩ ⟨l.val, by omega⟩
        + dact d (kgrp x ⟨r.val / 40, by omega⟩) (kgrp y ⟨r.val / 40, by omega⟩)
          (kpar g ⟨r.val / 40, by omega⟩) (kpar b ⟨r.val / 40, by omega⟩) ⟨r.val % 40, by omega⟩ ⟨128 + l.val, by omega⟩) := by
  unfold bAdd
  pointwise [k0_pay18, pay17_at]

/-- One sample's share of the sum for the scale parameter. -/
theorem gAdd_at (d : Elt Ideal .f32) (g b : Vec Ideal S160x128 .f32) (x : Vec Ideal S1x160x256 .bf16)
    (y : Vec Ideal S1x160x256 .fp8e5m2) (A : Vec Ideal S160x128 .f32) (r : Fin 160) (l : Fin 128) :
    gAdd d g b x y A (ix2 r l) = A (ix2 r l) +
      (dact d (kgrp x ⟨r.val / 40, by omega⟩) (kgrp y ⟨r.val / 40, by omega⟩)
          (kpar g ⟨r.val / 40, by omega⟩) (kpar b ⟨r.val / 40, by omega⟩) ⟨r.val % 40, by omega⟩ ⟨l.val, by omega⟩
          * xh (kgrp x ⟨r.val / 40, by omega⟩) ⟨r.val % 40, by omega⟩ ⟨l.val, by omega⟩
        + dact d (kgrp x ⟨r.val / 40, by omega⟩) (kgrp y ⟨r.val / 40, by omega⟩)
          (kpar g ⟨r.val / 40, by omega⟩) (kpar b ⟨r.val / 40, by omega⟩) ⟨r.val % 40, by omega⟩ ⟨128 + l.val, by omega⟩
          * xh (kgrp x ⟨r.val / 40, by omega⟩) ⟨r.val % 40, by omega⟩ ⟨128 + l.val, by omega⟩) := by
  unfold gAdd
  pointwise [k0_pay19, pay17_at, pay12_at]

end Cert.Hand

end
-- ==== Proof.RefGroup.lean ====
/- What the reference computes, read at one place, in the terms of the group.  -/
module

public import proofs.«01_k».proof.Proof.Gen.ReferenceIdeal.Skeleton
public import proofs.«01_k».proof.Proof.Group
public import Idealize.ShloMosaic.Lib.Pointwise

@[expose] public section

set_option maxRecDepth 16384

noncomputable section

namespace Cert.Hand

open Idealize.ShloMosaic Cert.ReferenceIdeal Cert.ReferenceIdeal.Gen

/-- Group `a` of sample `n`. -/
def rgrp (x : S48x1280x256.Idx → EReal) (n : Fin 48) (a : Fin 32) : Grp :=
  fun k p => x (ix3 n ⟨a.val * 40 + k.val, by omega⟩ p)

/-- The parameters of group `a`. -/
def rpar (g : S1280.Idx → EReal) (a : Fin 32) : Fin 40 → EReal := fun k => g (ix1 ⟨a.val * 40 + k.val, by omega⟩)

/-- Dividing by ten thousand two hundred and forty is multiplying by one over it. -/
theorem div_n (x : EReal) : Ideal.div x (Ideal.ofBits .f32 0x46200000#32) = x * ((1 / 10240 : ℝ) : EReal) := by
  have h : Ideal.ofBits .f32 0x46200000#32 = ((10240 : ℝ) : EReal) := by
    simp [Ideal.ofBits, Ideal.ieee, -EReal.coe_mul]; norm_num
  rw [h]
  exact Ideal.div_coe (by norm_num) _

/-- A sum over the samples and the positions of an array by sample, group, channel and position. -/
theorem sum03 (v : S48x32x40x256.Idx → EReal) (h : S48x32x40x256.Reduces [0, 3] S32x40) (a : Fin 32) (k : Fin 40) :
    Ideal.reduceAdd h v (ix2 a k) = ∑ n : Fin 48, ∑ p : Fin 256, v (ix4 n a k p) := by
  unfold Ideal.reduceAdd
  refine (Finset.sum_filter_eq_sum_of_fiber _ (fun q : Fin 48 × Fin 256 => (ix4 q.1 a k q.2 : S48x32x40x256.Idx))
    (fun _ _ e => Prod.ext (congrFun e 0) (congrFun e 3)) (fun i => ?_) v).trans (by simp only [Fintype.sum_prod_type])
  constructor
  · intro e
    refine ⟨(i 0, i 3), ?_⟩
    funext b; apply Fin.ext
    match b with
    | ⟨0, _⟩ => rfl
    | ⟨1, _⟩ => exact (congrArg Fin.val (congrFun e (0 : Fin 2))).symm
    | ⟨2, _⟩ => exact (congrArg Fin.val (congrFun e (1 : Fin 2))).symm
    | ⟨3, _⟩ => rfl
  · rintro ⟨q, rfl⟩
    funext b; apply Fin.ext
    match b with
    | ⟨0, _⟩ => rfl
    | ⟨1, _⟩ => rfl

/-- The scale parameters by group. -/
theorem rpay3_at (g : Vec Ideal S1280 .f32) (a : Fin 32) (k : Fin 40) : k0_pay3 g (ix4 0 a k 0) = rpar g a k := by
  pointwise [k0_pay3]
  rfl

/-- The activations less their group means. -/
theorem rpay4_at (x : Vec Ideal S48x1280x256 .bf16) (n : Fin 48) (a : Fin 32) (k : Fin 40) (p : Fin 256) :
    k0_pay4 x (ix4 n a k p) = cen (rgrp x n a) k p := by
  pointwise [k0_pay4]
  rw [div_n]; rfl

/-- One over the square root of the group's variance. -/
theorem rpay5_at (x : Vec Ideal S48x1280x256 .bf16) (n : Fin 48) (a : Fin 32) :
    k0_pay5 x (ix4 n a 0 0) = rs (rgrp x n a) := by
  pointwise [k0_pay5, rpay4_at]
  rw [div_n]; rfl

/-- The normalised activations. -/
theorem rpay6_at (x : Vec Ideal S48x1280x256 .bf16) (n : Fin 48) (a : Fin 32) (k : Fin 40) (p : Fin 256) :
    k0_pay6 x (ix4 n a k p) = xh (rgrp x n a) k p := by
  pointwise [k0_pay6, rpay4_at, rpay5_at]
  rfl

/-- The gradient at the activation's input. -/
theorem rpay7_at (x : Vec Ideal S48x1280x256 .bf16) (y : Vec Ideal S48x1280x256 .fp8e5m2) (d : Elt Ideal .f32)
    (g b : Vec Ideal S1280 .f32) (n : Fin 48) (a : Fin 32) (k : Fin 40) (p : Fin 256) :
    k0_pay7 x y d g b (ix4 n a k p) = dact d (rgrp x n a) (rgrp y n a) (rpar g a) (rpar b a) k p := by
  pointwise [k0_pay7, rpay6_at, rpay3_at]
  rfl

/-- The gradient of the scale parameters, by group. -/
theorem rpay8_at (x : Vec Ideal S48x1280x256 .bf16) (y : Vec Ideal S48x1280x256 .fp8e5m2) (d : Elt Ideal .f32)
    (g b : Vec Ideal S1280 .f32) (a : Fin 32) (k : Fin 40) :
    k0_pay8 x y d g b (ix2 a k) = ∑ n, ∑ p, dact d (rgrp x n a) (rgrp y n a) (rpar g a) (rpar b a) k p * xh (rgrp x n a) k p := by
  unfold k0_pay8
  refine (sum03 _ _ a k).trans ?_
  pointwise [rpay7_at, rpay6_at]

/-- The gradient of the scale parameters, as it is returned. -/
theorem rpay9_at (x : Vec Ideal S48x1280x256 .bf16) (y : Vec Ideal S48x1280x256 .fp8e5m2) (d : Elt Ideal .f32)
    (g b : Vec Ideal S1280 .f32) (q : Fin 8) (r : Fin 160) :
    k0_pay9 (k0_pay8 x y d g b) (ix2 q r) = k0_pay8 x y d g b (ix2 ⟨q.val * 4 + r.val / 40, by omega⟩ ⟨r.val % 40, by omega⟩) := by
  pointwise [k0_pay9]

/-- The gradient of the offset parameters, as it is returned. -/
theorem rpay10_at (x : Vec Ideal S48x1280x256 .bf16) (y : Vec Ideal S48x1280x256 .fp8e5m2) (d : Elt Ideal .f32)
    (g b : Vec Ideal S1280 .f32) (q : Fin 8) (r : Fin 160) :
    k0_pay10 (k0_pay7 x y d g b) (ix2 q r) = ∑ n, ∑ p, dact d (rgrp x n ⟨q.val * 4 + r.val / 40, by omega⟩)
      (rgrp y n ⟨q.val * 4 + r.val / 40, by omega⟩) (rpar g ⟨q.val * 4 + r.val / 40, by omega⟩)
      (rpar b ⟨q.val * 4 + r.val / 40, by omega⟩) ⟨r.val % 40, by omega⟩ p := by
  pointwise [k0_pay10, sum03, rpay7_at]

/-- The input gradient. -/
theorem rpay11_at (x : Vec Ideal S48x1280x256 .bf16) (y : Vec Ideal S48x1280x256 .fp8e5m2) (d : Elt Ideal .f32)
    (g b : Vec Ideal S1280 .f32) (n : Fin 48) (c : Fin 1280) (p : Fin 256) :
    k0_pay11 (k0_pay3 g) (k0_pay5 x) (k0_pay6 x) (k0_pay7 x y d g b) (ix3 n c p) =
      dgrp d (rgrp x n ⟨c.val / 40, by omega⟩) (rgrp y n ⟨c.val / 40, by omega⟩) (rpar g ⟨c.val / 40, by omega⟩)
        (rpar b ⟨c.val / 40, by omega⟩) ⟨c.val % 40, by omega⟩ p := by
  pointwise [k0_pay11, rpay7_at, rpay6_at, rpay5_at, rpay3_at]
  simp only [div_n]
  rfl

end Cert.Hand

end
-- ==== Proof.Quant.lean ====
/- The power-of-two scale in extended reals, and the search for its exponent bit by bit.  -/
module

public import Idealize.ShloMosaic.PureOps.Ideal
public import Idealize.ShloMosaic.Lib.Pointwise

@[expose] public section

noncomputable section

namespace Cert.Hand

open Idealize.ShloMosaic

/-- The value of the float word with exponent field `k`, the other bits zero. -/
def W (k : ℕ) : EReal := Ideal.ofBits .f32 (BitVec.ofNat 32 (k * 2 ^ 23))

/-- The exponent field of such a word. -/
theorem field_ex : ∀ k : Fin 256, (BitVec.extractLsb' 23 8 (BitVec.ofNat 32 (k.val * 2 ^ 23))).toNat = k.val := by decide +kernel

/-- Its fraction. -/
theorem field_fr : ∀ k : Fin 256, (BitVec.extractLsb' 0 23 (BitVec.ofNat 32 (k.val * 2 ^ 23))).toNat = 0 := by decide +kernel

/-- Its sign. -/
theorem field_sg : ∀ k : Fin 256, (BitVec.extractLsb' (8 + 23) 1 (BitVec.ofNat 32 (k.val * 2 ^ 23)) == 1#1) = false := by decide +kernel

/-- Exponent field zero is zero. -/
theorem W_zero : W 0 = 0 := by
  simp [W, Ideal.ofBits, Ideal.ieee]

/-- The largest exponent field is infinity. -/
theorem W_top : W 255 = ⊤ := by
  simp [W, Ideal.ofBits, Ideal.ieee]

/-- Every other exponent field is a power of two. -/
theorem W_mid (k : ℕ) (h0 : 0 < k) (h1 : k < 255) : W k = (((2 : ℝ) ^ ((k : ℤ) - 127) : ℝ) : EReal) := by
  have e := field_ex ⟨k, by omega⟩
  have f := field_fr ⟨k, by omega⟩
  have g := field_sg ⟨k, by omega⟩
  simp only at e f g
  unfold W
  show Ideal.ieee 8 23 _ = _
  unfold Ideal.ieee
  simp only [e, f, g]
  rw [if_neg (by omega), if_neg (by omega)]
  congr 1
  simp only [Bool.false_eq_true, if_false, one_mul, add_zero]
  push_cast
  rw [show (8388608 : ℝ) = 2 ^ (23 : ℤ) by norm_num, ← zpow_add₀ (by norm_num)]
  congr 1
  ring

/-- The shifted word of an exponent field. -/
theorem shl_field : ∀ k : Fin 256, IntOp.shli .vector (BitVec.ofNat 32 k.val) 23#32 = BitVec.ofNat 32 (k.val * 2 ^ 23) := by
  intro k
  have : (23#32 : BitVec 32).toNat < 32 := by decide
  unfold IntOp.shli
  rw [if_pos this]
  revert k
  decide +kernel

/-- One step of the search: bit `b` joins the exponent `e` where the word they make is at most `t`. -/
def stp (t : EReal) (b e : BitVec 32) : BitVec 32 :=
  if Ideal.ofBits .f32 (IntOp.shli .vector (IntOp.addi e b) 23#32) ≤ t then IntOp.addi e b else e

/-- Where the search stands: exponent `n` is not too large, and `w` more is. -/
def Stands (t : EReal) (n w : ℕ) : Prop := n + w ≤ 256 ∧ W n ≤ t ∧ (n + w = 256 ∨ t < W (n + w))

/-- A step halves what is left. -/
theorem stp_stands (t : EReal) (n b : ℕ) (hb : 0 < b) (h : Stands t n (2 * b)) :
    ∃ n', stp t (BitVec.ofNat 32 b) (BitVec.ofNat 32 n) = BitVec.ofNat 32 n' ∧ Stands t n' b := by
  obtain ⟨h1, h2, h3⟩ := h
  have ha : IntOp.addi (BitVec.ofNat 32 n) (BitVec.ofNat 32 b) = BitVec.ofNat 32 (n + b) := (BitVec.ofNat_add ..).symm
  have hs := shl_field ⟨n + b, by omega⟩
  simp only at hs
  unfold stp
  rw [ha, hs]
  by_cases hw : W (n + b) ≤ t
  · refine ⟨n + b, if_pos hw, by omega, hw, ?_⟩
    have : n + b + b = n + 2 * b := by omega
    rw [this]; exact h3
  · exact ⟨n, if_neg hw, by omega, h2, .inr (not_le.mp hw)⟩

/-- The whole search: the greatest exponent field whose word is at most `t`. -/
def srch (t : EReal) : BitVec 32 :=
  stp t 1#32 (stp t 2#32 (stp t 4#32 (stp t 8#32 (stp t 16#32 (stp t 32#32 (stp t 64#32 (stp t 128#32 0#32)))))))

/-- What the search finds. -/
theorem srch_stands (t : EReal) (ht : 0 ≤ t) : ∃ n, srch t = BitVec.ofNat 32 n ∧ Stands t n 1 := by
  have s0 : Stands t 0 (2 * 128) := ⟨by omega, by rw [W_zero]; exact ht, .inl (by omega)⟩
  obtain ⟨n1, e1, s1⟩ := stp_stands t 0 128 (by omega) s0
  obtain ⟨n2, e2, s2⟩ := stp_stands t n1 64 (by omega) s1
  obtain ⟨n3, e3, s3⟩ := stp_stands t n2 32 (by omega) s2
  obtain ⟨n4, e4, s4⟩ := stp_stands t n3 16 (by omega) s3
  obtain ⟨n5, e5, s5⟩ := stp_stands t n4 8 (by omega) s4
  obtain ⟨n6, e6, s6⟩ := stp_stands t n5 4 (by omega) s5
  obtain ⟨n7, e7, s7⟩ := stp_stands t n6 2 (by omega) s6
  obtain ⟨n8, e8, s8⟩ := stp_stands t n7 1 (by omega) s7
  refine ⟨n8, ?_, s8⟩
  unfold srch
  rw [e1, e2, e3, e4, e5, e6, e7, e8]

/-- The powers of two the reference chooses from. -/
def pw (i : Fin 253) : EReal := (((2 : ℝ) ^ ((i.val : ℤ) - 125) : ℝ) : EReal)

/-- The least of them above `t`, infinity where there is none. -/
def above (t : EReal) : EReal := Finset.univ.fold min ⊤ fun i : Fin 253 => if t < pw i then pw i else ⊤

/-- The scale of a tensor whose largest absolute value over the largest code is `t`. -/
def scl (t : EReal) : EReal := if W 1 ≤ t ∧ t < ⊤ then above t else 1

/-- What the values are multiplied by. -/
def inv (t : EReal) : EReal := if scl t < W 254 then Ideal.div 1 (scl t) else if scl t < ⊤ then 0 else ⊥

/-- The words grow with the exponent field. -/
theorem W_lt {a b : ℕ} (ha : 0 < a) (hab : a < b) (hb : b ≤ 255) : W a < W b := by
  rw [W_mid a ha (by omega)]
  rcases Nat.lt_or_ge b 255 with h | h
  · rw [W_mid b (by omega) h, EReal.coe_lt_coe_iff]
    exact zpow_lt_zpow_right₀ (by norm_num) (by omega)
  · rw [show b = 255 by omega, W_top]; exact EReal.coe_lt_top _

/-- … weakly. -/
theorem W_le {a b : ℕ} (ha : 0 < a) (hab : a ≤ b) (hb : b ≤ 255) : W a ≤ W b := by
  rcases Nat.lt_or_ge a b with h | h
  · exact (W_lt ha h hb).le
  · rw [show a = b by omega]

/-- The reference's powers are words. -/
theorem pw_eq (i : Fin 253) : pw i = W (i.val + 2) := by
  rw [W_mid _ (by omega) (by omega)]
  unfold pw
  congr 2
  push_cast; ring

/-- Below the word after the exponent found there is no power above `t`, and that word is one. -/
theorem above_eq (t : EReal) (n : ℕ) (h : Stands t n 1) (h0 : n ≠ 0) (h1 : n ≠ 255) : above t = W (n + 1) := by
  obtain ⟨a, b, c⟩ := h
  have hlt : t < W (n + 1) := by rcases c with c | c; · omega
                                 · exact c
  unfold above
  apply le_antisymm
  · by_cases hn : n = 254
    · rw [hn, W_top]; exact le_top
    · have := (Finset.le_fold_min (s := Finset.univ) (f := fun i : Fin 253 => if t < pw i then pw i else ⊤) (b := ⊤) _).mp le_rfl
      have := this.2 ⟨n - 1, by omega⟩ (Finset.mem_univ _)
      refine this.trans ?_
      have e : pw ⟨n - 1, by omega⟩ = W (n + 1) := by rw [pw_eq]; congr 1; simp only; omega
      rw [e, if_pos hlt]
  · rw [Finset.le_fold_min]
    refine ⟨le_top, fun i _ => ?_⟩
    by_cases hi : t < pw i
    · rw [if_pos hi, pw_eq]
      rw [pw_eq] at hi
      by_contra hc
      have : i.val + 2 < n + 1 := by
        by_contra hcc
        exact hc (W_le (by omega) (by omega) (by omega))
      exact absurd (hi.trans_le (W_le (by omega) (show i.val + 2 ≤ n by omega) (by omega))) (not_lt.mpr b)
    · rw [if_neg hi]; exact le_top

/-- The scale by the exponent found. -/
theorem scl_eq (t : EReal) (n : ℕ) (h : Stands t n 1) : scl t = if n = 0 ∨ n = 255 then W 127 else W (n + 1) := by
  have w127 : W 127 = 1 := by rw [W_mid _ (by omega) (by omega)]; norm_num
  unfold scl
  have h' := h
  obtain ⟨a, b, c⟩ := h'
  by_cases h0 : n = 0
  · subst h0
    rw [if_pos (Or.inl rfl : 0 = 0 ∨ 0 = 255), w127, if_neg]
    rintro ⟨x, _⟩
    rcases c with c | c
    · omega
    · exact absurd c (not_lt.mpr x)
  by_cases h1 : n = 255
  · subst h1
    rw [if_pos (Or.inr rfl : 255 = 0 ∨ 255 = 255), w127, if_neg]
    rintro ⟨_, x⟩
    rw [W_top] at b
    exact absurd x (not_lt.mpr b)
  rw [if_neg (show ¬(n = 0 ∨ n = 255) by tauto), if_pos, above_eq t n h h0 h1]
  refine ⟨(W_le (by omega) (by omega) (by omega)).trans b, ?_⟩
  rcases c with c | c
  · omega
  · exact c.trans_le le_top

/-- The multiplier by the exponent found. -/
theorem inv_eq (t : EReal) (n : ℕ) (h : Stands t n 1) :
    inv t = if n = 0 ∨ n = 255 then W 127 else if n ≤ 253 then W (253 - n) else ⊥ := by
  have hs := scl_eq t n h
  have w127 : W 127 = 1 := by rw [W_mid _ (by omega) (by omega)]; norm_num
  obtain ⟨a, -, -⟩ := h
  unfold inv
  rw [hs]
  by_cases hb : n = 0 ∨ n = 255
  · rw [if_pos hb, if_pos hb, if_pos (W_lt (by omega) (by omega) (by omega)), w127]
    simp [Ideal.div]
  rw [if_neg hb, if_neg hb]
  by_cases h2 : n ≤ 252
  · rw [if_pos (W_lt (by omega) (by omega) (by omega)), if_pos (by omega), W_mid _ (by omega) (by omega), W_mid _ (by omega) (by omega)]
    rw [Ideal.div_coe (by positivity), one_mul, one_div, ← zpow_neg]
    congr 2
    omega
  · rw [if_neg (not_lt.mpr (W_le (by omega) (by omega) (by omega)))]
    by_cases h3 : n = 253
    · subst h3
      rw [if_pos (by rw [← W_top]; exact W_lt (by omega) (by omega) (by omega)), if_pos le_rfl, W_zero]
    · have : n = 254 := by omega
      subst this
      rw [W_top, if_neg (lt_irrefl _), if_neg (by omega)]

end Cert.Hand

end
-- ==== Proof.RefQuant.lean ====
/- The reference's scale and codes in extended reals.  -/
module

public import proofs.«01_k».proof.Proof.RefGroup
public import proofs.«01_k».proof.Proof.Quant

@[expose] public section

set_option maxRecDepth 16384

noncomputable section

namespace Cert.Hand

open Idealize.ShloMosaic Cert.ReferenceIdeal Cert.ReferenceIdeal.Gen

/-- The absolute value of an extended real. -/
def ab (x : EReal) : EReal := max x (-x)

/-- The largest absolute value of an array. -/
def mxR (v : S48x1280x256.Idx → EReal) : EReal :=
  (Finset.univ.filter fun i => reduces_S1x48x1280x256_S1.drop i = ix1 0).fold max ⊥ fun i => ab (v (ix3 (i 1) (i 2) (i 3)))

/-- It is at most a bound exactly where every absolute value is. -/
theorem mxR_le (v : S48x1280x256.Idx → EReal) (b : EReal) :
    mxR v ≤ b ↔ ∀ (n : Fin 48) (c : Fin 1280) (p : Fin 256), ab (v (ix3 n c p)) ≤ b := by
  unfold mxR
  rw [Finset.fold_max_le]
  constructor
  · intro h n c p
    refine h.2 (ix4 0 n c p : S1x48x1280x256.Idx) (Finset.mem_filter.mpr ⟨Finset.mem_univ _, ?_⟩)
    funext a
    apply Fin.ext
    match a with
    | ⟨0, _⟩ => rfl
  · intro h
    exact ⟨bot_le, fun i _ => h (i 1) (i 2) (i 3)⟩

/-- The reference's largest absolute value over the largest code. -/
theorem rpay12_eq (a : FVec Ideal S1x32x40x1 .f32) (b : FVec Ideal S48x32x1x1 .f32) (c d : FVec Ideal S48x32x40x256 .f32) :
    k0_pay12 a b c d = mxR (k0_pay11 a b c d) * Ideal.ofBits .f32 0x37924925#32 := by
  pointwise [k0_pay12]
  have h : Ideal.ofBits .f32 0xFF800000#32 = ⊥ := by simp [Ideal.ofBits, Ideal.ieee]
  rw [h]; rfl

/-- The powers of two the reference writes down. -/
theorem pw_at (i : Fin 253) : (FloatOps.exp2 (F := Ideal) (φ := .f32) (FloatOps.sitofp .f32 (IntOp.subi (BitVec.ofNat 32 i.val) 125#32)) : EReal) = pw i := by
  have h : ∀ i : Fin 253, (IntOp.subi (BitVec.ofNat 32 i.val) 125#32).toInt = (i.val : ℤ) - 125 := by decide +kernel
  show Ideal.exp2 (((IntOp.subi (BitVec.ofNat 32 i.val) 125#32).toInt : ℝ) : EReal) = _
  rw [h]
  unfold pw
  show ((Real.rpow 2 _ : ℝ) : EReal) = _
  congr 1
  exact Real.rpow_intCast 2 _

/-- The least element of a row, the way the reference takes it. -/
theorem min_row (v : FVec Ideal S1x253 .f32) :
    (extractAt ![0, 0, 0] (shapeCast S1x1x1 (multiReduction .minimumf [1, 2] S1 (shapeCast S1x1x253 v shapeCasts_S1x253_S1x1x253) 0x7F800000#32 reduces_S1x1x253_S1 (.inl rfl) rfl) shapeCasts_S1_S1x1x1) inpos_S1x1x1_p0_0_0 : EReal)
      = Finset.univ.fold min ⊤ fun i : Fin 253 => v (ix2 0 i) := by
  have h : Ideal.ofBits .f32 0x7F800000#32 = ⊤ := by simp [Ideal.ofBits, Ideal.ieee]
  pointwise []
  rw [h]
  refine eq_of_forall_le_iff fun c => ?_
  rw [Finset.le_fold_min, Finset.le_fold_min]
  exact ⟨fun h => ⟨h.1, fun i _ => h.2 (0, i) (Finset.mem_univ _)⟩, fun h => ⟨h.1, fun x _ => h.2 x.2 (Finset.mem_univ _)⟩⟩

/-- The row of powers of two, infinity where they are not above `t`. -/
theorem row_at (t : Ideal .f32) (i : Fin 253) :
    (select (cmpf .ogt (exp2 (sitofp .f32 (subi (iota .tc S1x253 32 [1] iota_S1x253_d1_w32) (broadcast S1x253 125#32)))) (broadcast S1x253 t))
      (exp2 (sitofp (F := Ideal) .f32 (subi (iota .tc S1x253 32 [1] iota_S1x253_d1_w32) (broadcast S1x253 125#32))))
      (broadcast S1x253 (Scalar.ofBits (F := Ideal) .f32 0x7F800000#32)) (ix2 0 i) : EReal) = if t < pw i then pw i else ⊤ := by
  have h : Ideal.ofBits .f32 0x7F800000#32 = ⊤ := by simp [Ideal.ofBits, Ideal.ieee]
  have hw : (exp2 (sitofp (F := Ideal) .f32 (subi (iota .tc S1x253 32 [1] iota_S1x253_d1_w32) (broadcast S1x253 125#32))) (ix2 0 i) : EReal) = pw i := by
    pointwise []
    exact pw_at i
  show (if Ideal.cmp .ogt (exp2 (sitofp (F := Ideal) .f32 (subi (iota .tc S1x253 32 [1] iota_S1x253_d1_w32) (broadcast S1x253 125#32))) (ix2 0 i)) t = 1
    then (exp2 (sitofp (F := Ideal) .f32 (subi (iota .tc S1x253 32 [1] iota_S1x253_d1_w32) (broadcast S1x253 125#32))) (ix2 0 i) : EReal) else Ideal.ofBits .f32 0x7F800000#32) = _
  rw [hw, h]
  by_cases ht : t < pw i
  · rw [if_pos ((Ideal.cmp_ogt_eq_one _ _).mpr ht), if_pos ht]
  · rw [if_neg (mt (Ideal.cmp_ogt_eq_one _ _).mp ht), if_neg ht]

/-- The least power of two above, as the reference finds it. -/
theorem rpay13_eq (a : FVec Ideal S1x32x40x1 .f32) (b : FVec Ideal S48x32x1x1 .f32) (c d : FVec Ideal S48x32x40x256 .f32) :
    k0_pay13 a b c d = above (k0_pay12 a b c d) := by
  unfold k0_pay13
  generalize k0_pay12 a b c d = t
  exact (min_row _).trans (congrArg (fun f : Fin 253 → EReal => Finset.univ.fold min ⊤ f) (funext fun i => row_at t i))

/-- The reference's scale. -/
theorem rpay1_eq (t : Ideal .f32) : k0_pay1 t (above t) (Scalar.ofBits .f32 0x00800000#32) = scl t := by
  have h : Ideal.ofBits .f32 0x7F800000#32 = ⊤ := by simp [Ideal.ofBits, Ideal.ieee]
  have h1 : Ideal.ofBits .f32 0x00800000#32 = W 1 := rfl
  unfold k0_pay1 scl
  show (if IntOp.andi (Ideal.cmp .oge t (Ideal.ofBits .f32 0x00800000#32)) (Ideal.cmp .olt t (Ideal.ofBits .f32 0x7F800000#32)) = 1 then above t
    else Ideal.ofBits .f32 0x3F800000#32) = _
  rw [h, h1, Ideal.ofBits_one_f32, Ideal.cmp_oge, Ideal.cmp_olt]
  by_cases x : W 1 ≤ t <;> by_cases y : t < ⊤ <;> simp only [x, y, decide_true, decide_false, and_self, and_true, and_false, if_true, if_false] <;> rfl

/-- The reference's codes. -/
theorem rpay2_at (v : FVec Ideal S48x1280x256 .f32) (t : Ideal .f32) (n : Fin 48) (c : Fin 1280) (p : Fin 256) :
    k0_pay2 v t (above t) (Scalar.ofBits .f32 0x00800000#32) (ix3 n c p) =
      min (Ideal.ofBits .f32 0x47600000#32) (max (Ideal.ofBits .f32 0xC7600000#32) (v (ix3 n c p) * inv t)) := by
  have h : Ideal.ofBits .f32 0x7F800000#32 = ⊤ := by simp [Ideal.ofBits, Ideal.ieee]
  have h1 : Ideal.ofBits .f32 0xFF800000#32 = ⊥ := by simp [Ideal.ofBits, Ideal.ieee]
  have h2 : Ideal.ofBits .f32 0x7F000000#32 = W 254 := rfl
  have hi : (if Ideal.cmp .olt (scl t) (Ideal.ofBits .f32 0x7F000000#32) = 1 then Ideal.div (Ideal.ofBits .f32 0x3F800000#32) (scl t)
      else if Ideal.cmp .olt (scl t) (Ideal.ofBits .f32 0x7F800000#32) = 1 then Ideal.ofBits .f32 0x00000000#32 else Ideal.ofBits .f32 0xFF800000#32) = inv t := by
    rw [h, h1, h2, Ideal.ofBits_one_f32, Ideal.ofBits_zero_f32]
    unfold inv
    by_cases x : scl t < W 254
    · rw [if_pos ((Ideal.cmp_olt_eq_one _ _).mpr x), if_pos x]
    · rw [if_neg (mt (Ideal.cmp_olt_eq_one _ _).mp x), if_neg x]
      by_cases y : scl t < ⊤
      · rw [if_pos ((Ideal.cmp_olt_eq_one _ _).mpr y), if_pos y]
      · rw [if_neg (mt (Ideal.cmp_olt_eq_one _ _).mp y), if_neg y]
  unfold k0_pay2
  rw [rpay1_eq]
  show min _ (max _ (v (ix3 n c p) * (if Ideal.cmp .olt (scl t) (Ideal.ofBits .f32 0x7F000000#32) = 1 then Ideal.div (Ideal.ofBits .f32 0x3F800000#32) (scl t)
      else if Ideal.cmp .olt (scl t) (Ideal.ofBits .f32 0x7F800000#32) = 1 then Ideal.ofBits .f32 0x00000000#32 else Ideal.ofBits .f32 0xFF800000#32))) = _
  rw [hi]
  rfl

end Cert.Hand

end
-- ==== Proof.Spec.lean ====
/- The four results as functions of the five arguments, in the terms of the group and of the quantiser.  -/
module

public import proofs.«01_k».proof.Proof.RefQuant

@[expose] public section

set_option maxRecDepth 16384

noncomputable section

namespace Cert.Hand

open Idealize.ShloMosaic Cert.ReferenceIdeal Cert.ReferenceIdeal.Gen

/-- Group `a` and channel `k`: the gradient at the activation's input, of sample `n`. -/
def sact (x y : S48x1280x256.Idx → EReal) (d : EReal) (g b : S1280.Idx → EReal) (n : Fin 48) (a : Fin 32) : Grp :=
  dact d (rgrp x n a) (rgrp y n a) (rpar g a) (rpar b a)

/-- The gradient of the activations. -/
def sdx (x y : S48x1280x256.Idx → EReal) (d : EReal) (g b : S1280.Idx → EReal) (n : Fin 48) (c : Fin 1280) (p : Fin 256) : EReal :=
  dgrp d (rgrp x n ⟨c.val / 40, by omega⟩) (rgrp y n ⟨c.val / 40, by omega⟩) (rpar g ⟨c.val / 40, by omega⟩)
    (rpar b ⟨c.val / 40, by omega⟩) ⟨c.val % 40, by omega⟩ p

/-- The largest absolute value of that gradient over the largest code. -/
def sthr (x y : S48x1280x256.Idx → EReal) (d : EReal) (g b : S1280.Idx → EReal) : EReal :=
  mxR (fun j => sdx x y d g b (j 0) (j 1) (j 2)) * Ideal.ofBits .f32 0x37924925#32

/-- The codes of the gradient. -/
def scode (x y : S48x1280x256.Idx → EReal) (d : EReal) (g b : S1280.Idx → EReal) (n : Fin 48) (c : Fin 1280) (p : Fin 256) : EReal :=
  min (Ideal.ofBits .f32 0x47600000#32) (max (Ideal.ofBits .f32 0xC7600000#32) (sdx x y d g b n c p * inv (sthr x y d g b)))

/-- The gradient of the scale parameters, at row `q` and place `r` of the eight rows. -/
def sgam (x y : S48x1280x256.Idx → EReal) (d : EReal) (g b : S1280.Idx → EReal) (q : Fin 8) (r : Fin 160) : EReal :=
  ∑ n : Fin 48, ∑ p : Fin 256, sact x y d g b n ⟨q.val * 4 + r.val / 40, by omega⟩ ⟨r.val % 40, by omega⟩ p
    * xh (rgrp x n ⟨q.val * 4 + r.val / 40, by omega⟩) ⟨r.val % 40, by omega⟩ p

/-- The gradient of the offset parameters, likewise. -/
def sbet (x y : S48x1280x256.Idx → EReal) (d : EReal) (g b : S1280.Idx → EReal) (q : Fin 8) (r : Fin 160) : EReal :=
  ∑ n : Fin 48, ∑ p : Fin 256, sact x y d g b n ⟨q.val * 4 + r.val / 40, by omega⟩ ⟨r.val % 40, by omega⟩ p

/-- The reference's input gradient is the stated one. -/
theorem rpay11_eq (x : Vec Ideal S48x1280x256 .bf16) (y : Vec Ideal S48x1280x256 .fp8e5m2) (d : Elt Ideal .f32)
    (g b : Vec Ideal S1280 .f32) :
    k0_pay11 (k0_pay3 g) (k0_pay5 x) (k0_pay6 x) (k0_pay7 x y d g b) = fun j => sdx x y d g b (j 0) (j 1) (j 2) := by
  funext j
  obtain ⟨n, c, p, rfl⟩ : ∃ n c p, j = ix3 n c p := ⟨j 0, j 1, j 2, by funext a; match a with | 0 => rfl | 1 => rfl | 2 => rfl⟩
  exact rpay11_at x y d g b n c p

/-- The reference's threshold is the stated one. -/
theorem rthr_eq (x : Vec Ideal S48x1280x256 .bf16) (y : Vec Ideal S48x1280x256 .fp8e5m2) (d : Elt Ideal .f32)
    (g b : Vec Ideal S1280 .f32) :
    k0_pay12 (k0_pay3 g) (k0_pay5 x) (k0_pay6 x) (k0_pay7 x y d g b) = sthr x y d g b := by
  rw [rpay12_eq, rpay11_eq]; rfl

end Cert.Hand

end
-- ==== Proof.Inp.lean ====
/- What the kernel reads at its points, as places of the argument arrays.  -/
module

public import proofs.«01_k».proof.Proof.KernelIdealRun
public import proofs.«01_k».proof.Proof.KernelGroup
public import proofs.«01_k».proof.Proof.Spec
public import Idealize.ShloMosaic.Lib.Pipeline.ValueKit
public import Idealize.ShloMosaic.Lib.Pointwise

@[expose] public section

set_option maxRecDepth 16384

noncomputable section

namespace Cert.KernelIdeal.Hand

open Idealize.ShloMosaic Idealize.ShloMosaic.TcCoe Cert.KernelIdeal Cert.KernelIdeal.Gen Cert.Hand

variable (m : (ℓ : Loc nD τ sig) → Buf (Elt Ideal) ℓ)

/-- The block of the activations at the first phase's points. -/
theorem idx1 : ∀ t : Fin grid0.N, t.val < 48 → win0_1.index t 0 = t.val % 6 ∧ win0_1.index t 1 = t.val / 6 ∧ win0_1.index t 2 = 0 := by
  decide +kernel

/-- The block of the codes at the first phase's points. -/
theorem idx2 : ∀ t : Fin grid0.N, t.val < 48 → win0_2.index t 0 = t.val % 6 ∧ win0_2.index t 1 = t.val / 6 ∧ win0_2.index t 2 = 0 := by
  decide +kernel

/-- The activations at point `k`. -/
theorem xB_at (c : Dev nD) (k : ℕ) (hk : k < 48) (s : Fin 8) (r : Fin 160) (p : Fin 256) :
    xB m c k (ix3 s r p) = m ((c : Thread nD τ).loc main_arg0) (ix3 ⟨k % 6 * 8 + s.val, by omega⟩ ⟨k / 6 * 160 + r.val, by omega⟩ p) := by
  have e : (pt k).val = k := Nat.mod_eq_of_lt (by omega)
  obtain ⟨h0, h1, h2⟩ := idx1 (pt k) (by omega)
  rw [e] at h0 h1
  unfold xB
  blk_simp [iblk]
  rw [V_main_arg0]
  refine congrArg _ (funext fun a => Fin.ext ?_)
  refine (Pipeline.Window.rect_emb_val win0_1 (pt k) _ a).trans ?_
  match a with
  | 0 => exact congrArg (fun i => i * 8 + s.val) h0
  | 1 => exact congrArg (fun i => i * 160 + r.val) h1
  | 2 => exact (congrArg (fun i => i * 256 + p.val) h2).trans (by show 0 * 256 + p.val = p.val; omega)

/-- The codes at point `k`. -/
theorem yB_at (c : Dev nD) (k : ℕ) (hk : k < 48) (s : Fin 8) (r : Fin 160) (p : Fin 256) :
    yB m c k (ix3 s r p) = m ((c : Thread nD τ).loc main_arg3) (ix3 ⟨k % 6 * 8 + s.val, by omega⟩ ⟨k / 6 * 160 + r.val, by omega⟩ p) := by
  have e : (pt k).val = k := Nat.mod_eq_of_lt (by omega)
  obtain ⟨h0, h1, h2⟩ := idx2 (pt k) (by omega)
  rw [e] at h0 h1
  unfold yB
  blk_simp [iblk]
  rw [V_main_arg3]
  refine congrArg _ (funext fun a => Fin.ext ?_)
  refine (Pipeline.Window.rect_emb_val win0_2 (pt k) _ a).trans ?_
  match a with
  | 0 => exact congrArg (fun i => i * 8 + s.val) h0
  | 1 => exact congrArg (fun i => i * 160 + r.val) h1
  | 2 => exact (congrArg (fun i => i * 256 + p.val) h2).trans (by show 0 * 256 + p.val = p.val; omega)

/-- The gradient's scale. -/
theorem dV_eq (c : Dev nD) (k : ℕ) : dV m c k = m ((c : Thread nD τ).loc main_arg4) (fun a => a.elim0) := by
  unfold dV dOf
  blk_simp [iblk]
  entry_read
  exact congrArg (m ((c : Thread nD τ).loc main_arg4)) (funext fun a => a.elim0)

/-- The scale parameters, eight rows of a hundred and sixty. -/
theorem g_at (c : Dev nD) (t : Fin cfg0.N) (q : Fin 8) (r : Fin 160) :
    iblk m c 3 t (ix2 q r) = m ((c : Thread nD τ).loc main_arg1) (ix1 ⟨q.val * 160 + r.val, by omega⟩) := by
  have hz : ∀ t : Fin grid0.N, ∀ a, win0_3.index t a = 0 := by decide +kernel
  have e : (((View.whole main_v1).slice (win0_3.rect t)).emb (ix2 q r : S8x160.Idx)) = (ix2 q r : S8x160.Idx) :=
    funext fun a => Fin.ext (Pipeline.Window.rect_emb_val_of_index_zero win0_3 t a (hz t a) _)
  blk_simp [iblk]
  entry_read
  refine (congrArg _ e).trans ?_
  pointwise []

/-- The scale parameters of point `k`'s channels, over the lanes. -/
theorem stepG_at (c : Dev nD) (k : ℕ) (hk : k < 48) (r : Fin 160) (l : Fin 128) :
    stepG m c k (ix2 r l) = m ((c : Thread nD τ).loc main_arg1) (ix1 ⟨k / 6 * 160 + r.val, by omega⟩) := by
  unfold stepG
  pointwise [k0_pay30]
  unfold rowOf
  refine (g_at m c _ ⟨k / 6 % 8, by omega⟩ r).trans ?_
  congr 3
  show k / 6 % 8 * 160 + r.val = k / 6 * 160 + r.val
  omega

/-- The offset parameters, eight rows of a hundred and sixty. -/
theorem b_at (c : Dev nD) (t : Fin cfg0.N) (q : Fin 8) (r : Fin 160) :
    iblk m c 4 t (ix2 q r) = m ((c : Thread nD τ).loc main_arg2) (ix1 ⟨q.val * 160 + r.val, by omega⟩) := by
  have hz : ∀ t : Fin grid0.N, ∀ a, win0_4.index t a = 0 := by decide +kernel
  have e : (((View.whole main_v2).slice (win0_4.rect t)).emb (ix2 q r : S8x160.Idx)) = (ix2 q r : S8x160.Idx) :=
    funext fun a => Fin.ext (Pipeline.Window.rect_emb_val_of_index_zero win0_4 t a (hz t a) _)
  blk_simp [iblk]
  entry_read
  refine (congrArg _ e).trans ?_
  pointwise []

/-- The offset parameters of point `k`'s channels, over the lanes. -/
theorem stepB_at (c : Dev nD) (k : ℕ) (hk : k < 48) (r : Fin 160) (l : Fin 128) :
    stepB m c k (ix2 r l) = m ((c : Thread nD τ).loc main_arg2) (ix1 ⟨k / 6 * 160 + r.val, by omega⟩) := by
  unfold stepB
  pointwise [k0_pay31]
  unfold rowOf
  refine (b_at m c _ ⟨k / 6 % 8, by omega⟩ r).trans ?_
  congr 3
  show k / 6 % 8 * 160 + r.val = k / 6 * 160 + r.val
  omega

/-- A group of a sample of the activations at point `k` is a group of the whole array. -/
theorem xgrp (c : Dev nD) (k : ℕ) (hk : k < 48) (s : ℕ) (hs : s < 8) (a : Fin 4) :
    kgrp (sampleRow (xB m c k) s) a = rgrp (m ((c : Thread nD τ).loc main_arg0)) ⟨k % 6 * 8 + s, by omega⟩ ⟨k / 6 * 4 + a.val, by omega⟩ := by
  funext i p
  refine (xB_at m c k hk ⟨s % 8, by omega⟩ ⟨a.val * 40 + i.val, by omega⟩ p).trans ?_
  unfold rgrp
  congr 3 <;> first | (simp only; omega) | (refine Fin.ext ?_; simp only; omega)

/-- A group of a sample of the codes at point `k` is a group of the whole array. -/
theorem ygrp (c : Dev nD) (k : ℕ) (hk : k < 48) (s : ℕ) (hs : s < 8) (a : Fin 4) :
    kgrp (sampleRow (yB m c k) s) a = rgrp (m ((c : Thread nD τ).loc main_arg3)) ⟨k % 6 * 8 + s, by omega⟩ ⟨k / 6 * 4 + a.val, by omega⟩ := by
  funext i p
  refine (yB_at m c k hk ⟨s % 8, by omega⟩ ⟨a.val * 40 + i.val, by omega⟩ p).trans ?_
  unfold rgrp
  congr 3 <;> first | (simp only; omega) | (refine Fin.ext ?_; simp only; omega)

/-- A group of the scale parameters of point `k`. -/
theorem gpar (c : Dev nD) (k : ℕ) (hk : k < 48) (a : Fin 4) :
    kpar (stepG m c k) a = rpar (m ((c : Thread nD τ).loc main_arg1)) ⟨k / 6 * 4 + a.val, by omega⟩ := by
  funext i
  refine (stepG_at m c k hk ⟨a.val * 40 + i.val, by omega⟩ 0).trans ?_
  unfold rpar
  refine congrArg _ (congrArg ix1 (Fin.ext ?_))
  simp only; omega

/-- A group of the offset parameters of point `k`. -/
theorem bpar (c : Dev nD) (k : ℕ) (hk : k < 48) (a : Fin 4) :
    kpar (stepB m c k) a = rpar (m ((c : Thread nD τ).loc main_arg2)) ⟨k / 6 * 4 + a.val, by omega⟩ := by
  funext i
  refine (stepB_at m c k hk ⟨a.val * 40 + i.val, by omega⟩ 0).trans ?_
  unfold rpar
  refine congrArg _ (congrArg ix1 (Fin.ext ?_))
  simp only; omega

/-- The gradient of the activations that the five arguments ask for. -/
def tdx (c : Dev nD) : Fin 48 → Fin 1280 → Fin 256 → EReal :=
  sdx (m ((c : Thread nD τ).loc main_arg0)) (m ((c : Thread nD τ).loc main_arg3))
    (m ((c : Thread nD τ).loc main_arg4) (fun a => a.elim0)) (m ((c : Thread nD τ).loc main_arg1)) (m ((c : Thread nD τ).loc main_arg2))

/-- The gradient at the activation's input that the five arguments ask for. -/
def tact (c : Dev nD) : Fin 48 → Fin 32 → Grp :=
  sact (m ((c : Thread nD τ).loc main_arg0)) (m ((c : Thread nD τ).loc main_arg3))
    (m ((c : Thread nD τ).loc main_arg4) (fun a => a.elim0)) (m ((c : Thread nD τ).loc main_arg1)) (m ((c : Thread nD τ).loc main_arg2))

/-- The input gradient of sample `s` at point `k` is the one asked for, at its place. -/
theorem dx_at (c : Dev nD) (k : ℕ) (hk : k < 48) (s : ℕ) (hs : s < 8) (r : Fin 160) (p : Fin 256) :
    dxBlk (dV m c k) (stepG m c k) (stepB m c k) (sampleRow (xB m c k) s) (sampleRow (yB m c k) s) (ix2 r p) =
      tdx m c ⟨k % 6 * 8 + s, by omega⟩ ⟨k / 6 * 160 + r.val, by omega⟩ p := by
  have e1 : (k / 6 * 160 + r.val) / 40 = k / 6 * 4 + r.val / 40 := by omega
  have e2 : (k / 6 * 160 + r.val) % 40 = r.val % 40 := by omega
  rw [dxBlk_at, xgrp m c k hk s hs, ygrp m c k hk s hs, gpar m c k hk, bpar m c k hk, dV_eq]
  unfold tdx sdx
  simp only [e1, e2]

/-- The kept gradient of sample `s` at point `k`, likewise. -/
theorem gradAt_at (c : Dev nD) (k : ℕ) (hk : k < 48) (s : ℕ) (hs : s < 8) (r : Fin 160) (p : Fin 256) :
    gradAt m c k s (ix4 0 0 r p) = tdx m c ⟨k % 6 * 8 + s, by omega⟩ ⟨k / 6 * 160 + r.val, by omega⟩ p :=
  (dxRow_at _ _ _ _ _ _ _).trans (dx_at m c k hk s hs r p)

/-- The sums for the offset parameters, one sample more. -/
theorem bAt_succ (c : Dev nD) (k : ℕ) (hk : k < 48) (s : ℕ) (hs : s < 8) (A : Vec Ideal S160x128 .f32) (r : Fin 160) (l : Fin 128) :
    bAdd (dV m c k) (stepG m c k) (stepB m c k) (sampleRow (xB m c k) s) (sampleRow (yB m c k) s) A (ix2 r l) =
      A (ix2 r l) + (tact m c ⟨k % 6 * 8 + s, by omega⟩ ⟨k / 6 * 4 + r.val / 40, by omega⟩ ⟨r.val % 40, by omega⟩ ⟨l.val, by omega⟩
        + tact m c ⟨k % 6 * 8 + s, by omega⟩ ⟨k / 6 * 4 + r.val / 40, by omega⟩ ⟨r.val % 40, by omega⟩ ⟨128 + l.val, by omega⟩) := by
  rw [bAdd_at, xgrp m c k hk s hs, ygrp m c k hk s hs, gpar m c k hk, bpar m c k hk, dV_eq]
  rfl

/-- The normalised activations of the arguments. -/
def txh (c : Dev nD) (n : Fin 48) (a : Fin 32) : Grp := xh (rgrp (m ((c : Thread nD τ).loc main_arg0)) n a)

/-- The sums for the scale parameters, one sample more. -/
theorem gAt_succ (c : Dev nD) (k : ℕ) (hk : k < 48) (s : ℕ) (hs : s < 8) (A : Vec Ideal S160x128 .f32) (r : Fin 160) (l : Fin 128) :
    gAdd (dV m c k) (stepG m c k) (stepB m c k) (sampleRow (xB m c k) s) (sampleRow (yB m c k) s) A (ix2 r l) =
      A (ix2 r l) + (tact m c ⟨k % 6 * 8 + s, by omega⟩ ⟨k / 6 * 4 + r.val / 40, by omega⟩ ⟨r.val % 40, by omega⟩ ⟨l.val, by omega⟩
          * txh m c ⟨k % 6 * 8 + s, by omega⟩ ⟨k / 6 * 4 + r.val / 40, by omega⟩ ⟨r.val % 40, by omega⟩ ⟨l.val, by omega⟩
        + tact m c ⟨k % 6 * 8 + s, by omega⟩ ⟨k / 6 * 4 + r.val / 40, by omega⟩ ⟨r.val % 40, by omega⟩ ⟨128 + l.val, by omega⟩
          * txh m c ⟨k % 6 * 8 + s, by omega⟩ ⟨k / 6 * 4 + r.val / 40, by omega⟩ ⟨r.val % 40, by omega⟩ ⟨128 + l.val, by omega⟩) := by
  rw [gAdd_at, xgrp m c k hk s hs, ygrp m c k hk s hs, gpar m c k hk, bpar m c k hk, dV_eq]
  rfl

end Cert.KernelIdeal.Hand

end
-- ==== Proof.Sums.lean ====
/- The sums over the samples and the positions that the kernel carries from point to point.  -/
module

public import proofs.«01_k».proof.Proof.Inp

@[expose] public section

set_option maxRecDepth 16384

noncomputable section

namespace Cert.KernelIdeal.Hand

open Idealize.ShloMosaic Idealize.ShloMosaic.TcCoe Cert.KernelIdeal Cert.KernelIdeal.Gen Cert.Hand

variable (m : (ℓ : Loc nD τ sig) → Buf (Elt Ideal) ℓ)

/-- What sample `n` adds to the sum for the offset parameters: two lanes of positions. -/
def tb (c : Dev nD) (q : Fin 8) (r : Fin 160) (l : Fin 128) (n : ℕ) : EReal :=
  tact m c ⟨n % 48, by omega⟩ ⟨q.val * 4 + r.val / 40, by omega⟩ ⟨r.val % 40, by omega⟩ ⟨l.val, by omega⟩
    + tact m c ⟨n % 48, by omega⟩ ⟨q.val * 4 + r.val / 40, by omega⟩ ⟨r.val % 40, by omega⟩ ⟨128 + l.val, by omega⟩

/-- What sample `n` adds to the sum for the scale parameters. -/
def tg (c : Dev nD) (q : Fin 8) (r : Fin 160) (l : Fin 128) (n : ℕ) : EReal :=
  tact m c ⟨n % 48, by omega⟩ ⟨q.val * 4 + r.val / 40, by omega⟩ ⟨r.val % 40, by omega⟩ ⟨l.val, by omega⟩
      * txh m c ⟨n % 48, by omega⟩ ⟨q.val * 4 + r.val / 40, by omega⟩ ⟨r.val % 40, by omega⟩ ⟨l.val, by omega⟩
    + tact m c ⟨n % 48, by omega⟩ ⟨q.val * 4 + r.val / 40, by omega⟩ ⟨r.val % 40, by omega⟩ ⟨128 + l.val, by omega⟩
      * txh m c ⟨n % 48, by omega⟩ ⟨q.val * 4 + r.val / 40, by omega⟩ ⟨r.val % 40, by omega⟩ ⟨128 + l.val, by omega⟩

/-- The sum for the offset parameters after `s` samples of a point. -/
theorem bAt_sum (c : Dev nD) (q : Fin 8) (j : ℕ) (hj : j < 6) (A : Vec Ideal S160x128 .f32) (r : Fin 160) (l : Fin 128) (s : ℕ) (hs : s ≤ 8) :
    bAt (dV m c (6 * q.val + j)) (stepG m c (6 * q.val + j)) (stepB m c (6 * q.val + j)) (xB m c (6 * q.val + j))
      (yB m c (6 * q.val + j)) A s (ix2 r l) = A (ix2 r l) + ∑ i ∈ Finset.range s, tb m c q r l (j * 8 + i) := by
  induction s with
  | zero => simp [bAt]
  | succ s ih =>
    have e1 : (6 * q.val + j) % 6 * 8 + s = (j * 8 + s) % 48 := by omega
    have e2 : (6 * q.val + j) / 6 = q.val := by omega
    rw [bAt, bAt_succ m c (6 * q.val + j) (by omega) s (by omega), ih (by omega), Finset.sum_range_succ, add_assoc]
    unfold tb
    simp only [e1, e2]

/-- The sum for the scale parameters after `s` samples of a point. -/
theorem gAt_sum (c : Dev nD) (q : Fin 8) (j : ℕ) (hj : j < 6) (A : Vec Ideal S160x128 .f32) (r : Fin 160) (l : Fin 128) (s : ℕ) (hs : s ≤ 8) :
    gAt (dV m c (6 * q.val + j)) (stepG m c (6 * q.val + j)) (stepB m c (6 * q.val + j)) (xB m c (6 * q.val + j))
      (yB m c (6 * q.val + j)) A s (ix2 r l) = A (ix2 r l) + ∑ i ∈ Finset.range s, tg m c q r l (j * 8 + i) := by
  induction s with
  | zero => simp [gAt]
  | succ s ih =>
    have e1 : (6 * q.val + j) % 6 * 8 + s = (j * 8 + s) % 48 := by omega
    have e2 : (6 * q.val + j) / 6 = q.val := by omega
    rw [gAt, gAt_succ m c (6 * q.val + j) (by omega) s (by omega), ih (by omega), Finset.sum_range_succ, add_assoc]
    unfold tg
    simp only [e1, e2]

/-- The word of zero. -/
theorem wzero : Ideal.ofBits .f32 0x00000000#32 = 0 := by simp [Ideal.ofBits, Ideal.ieee]

/-- The sum for the offset parameters after a point: all the samples of the channel block so far. -/
theorem accB_sum (c : Dev nD) (q : Fin 8) (r : Fin 160) (l : Fin 128) (j : ℕ) (hj : j < 6) :
    accB m c (6 * q.val + j) (ix2 r l) = ∑ n ∈ Finset.range ((j + 1) * 8), tb m c q r l n := by
  induction j with
  | zero =>
    rw [accB_start m c _ (by omega), bAt_sum m c q 0 hj _ r l 8 le_rfl]
    have : (k0_pay29 (F := Ideal)) (ix2 r l) = 0 := by
      pointwise [k0_pay29]
    rw [this, zero_add]
    simp
  | succ j ih =>
    rw [accB_next m c _ (by omega), bAt_sum m c q (j + 1) hj _ r l 8 le_rfl,
      show 6 * q.val + (j + 1) - 1 = 6 * q.val + j by omega, ih (by omega), show (j + 1 + 1) * 8 = (j + 1) * 8 + 8 by ring,
      Finset.sum_range_add]

/-- The sum for the scale parameters after a point: all the samples of the channel block so far. -/
theorem accG_sum (c : Dev nD) (q : Fin 8) (r : Fin 160) (l : Fin 128) (j : ℕ) (hj : j < 6) :
    accG m c (6 * q.val + j) (ix2 r l) = ∑ n ∈ Finset.range ((j + 1) * 8), tg m c q r l n := by
  induction j with
  | zero =>
    rw [accG_start m c _ (by omega), gAt_sum m c q 0 hj _ r l 8 le_rfl]
    have : (k0_pay28 (F := Ideal)) (ix2 r l) = 0 := by
      pointwise [k0_pay28]
    rw [this, zero_add]
    simp
  | succ j ih =>
    rw [accG_next m c _ (by omega), gAt_sum m c q (j + 1) hj _ r l 8 le_rfl,
      show 6 * q.val + (j + 1) - 1 = 6 * q.val + j by omega, ih (by omega), show (j + 1 + 1) * 8 = (j + 1) * 8 + 8 by ring,
      Finset.sum_range_add]

/-- Summing two halves of the positions lane by lane is summing all the positions. -/
theorem lanes (f : Fin 48 → Fin 256 → EReal) :
    (∑ l : Fin 128, ∑ n : Fin 48, (f n ⟨l.val, by omega⟩ + f n ⟨128 + l.val, by omega⟩)) = ∑ n, ∑ p, f n p := by
  rw [Finset.sum_comm]
  refine Finset.sum_congr rfl fun n _ => ?_
  rw [Finset.sum_add_distrib]
  exact (Fin.sum_univ_two_halves 128 128 rfl (f n)).symm

/-- The row of the gradient of the offset parameters that channel block `q` writes. -/
theorem rowB_at (c : Dev nD) (q : Fin 8) (r : Fin 160) :
    k0_pay6 (accB m c (6 * q.val + 5)) (ix2 0 r) = sbet (m ((c : Thread nD τ).loc main_arg0)) (m ((c : Thread nD τ).loc main_arg3))
      (m ((c : Thread nD τ).loc main_arg4) (fun a => a.elim0)) (m ((c : Thread nD τ).loc main_arg1)) (m ((c : Thread nD τ).loc main_arg2)) q r := by
  pointwise [k0_pay6, accB_sum m c q _ _ 5 (by omega)]
  unfold sbet
  rw [← lanes]
  refine Finset.sum_congr rfl fun l _ => ?_
  rw [Finset.sum_range]
  refine Finset.sum_congr rfl fun n _ => ?_
  unfold tb tact
  simp only [Nat.mod_eq_of_lt n.isLt]

/-- The row of the gradient of the scale parameters that channel block `q` writes. -/
theorem rowG_at (c : Dev nD) (q : Fin 8) (r : Fin 160) :
    k0_pay5 (accG m c (6 * q.val + 5)) (ix2 0 r) = sgam (m ((c : Thread nD τ).loc main_arg0)) (m ((c : Thread nD τ).loc main_arg3))
      (m ((c : Thread nD τ).loc main_arg4) (fun a => a.elim0)) (m ((c : Thread nD τ).loc main_arg1)) (m ((c : Thread nD τ).loc main_arg2)) q r := by
  pointwise [k0_pay5, accG_sum m c q _ _ 5 (by omega)]
  unfold sgam
  rw [← lanes]
  refine Finset.sum_congr rfl fun l _ => ?_
  rw [Finset.sum_range]
  refine Finset.sum_congr rfl fun n _ => ?_
  unfold tg tact txh
  simp only [Nat.mod_eq_of_lt n.isLt]

end Cert.KernelIdeal.Hand

end
-- ==== Proof.KernelQuant.lean ====
/- The kernel's scale and codes in extended reals, from the running maximum.  -/
module

public import proofs.«01_k».proof.Proof.KernelIdealState
public import proofs.«01_k».proof.Proof.Quant

@[expose] public section

set_option maxRecDepth 16384

noncomputable section

namespace Cert.Hand

open Idealize.ShloMosaic Cert.KernelIdeal Cert.KernelIdeal.Gen Cert.KernelIdeal.Hand

/-- The word of minus infinity. -/
theorem ninf : Ideal.ofBits .f32 0xFF800000#32 = ⊥ := by simp [Ideal.ofBits, Ideal.ieee]

/-- The largest entry of the running maximum. -/
def mxOf (A : S8x128.Idx → EReal) : EReal :=
  Finset.univ.fold max ⊥ fun l : Fin 128 => Finset.univ.fold max ⊥ fun r : Fin 8 => A (ix2 r l)

/-- The largest absolute value over the largest code, the reciprocal as the programs have it. -/
def tOf (A : S8x128.Idx → EReal) : EReal := mxOf A * Ideal.ofBits .f32 0x37924925#32

/-- The kernel's largest absolute value over the largest code. -/
theorem pay22_at (A : Vec Ideal S8x128 .f32) (r : Fin 8) (l : Fin 128) : k0_pay22 A (ix2 r l) = tOf A := by
  pointwise [k0_pay22]
  rw [ninf]; rfl

/-- One step of the kernel's search is one step of the search. -/
theorem step_at (T : FVec Ideal S8x128 .f32) (e : IVec S8x128 32) (b : BitVec 32) (r : Fin 8) (l : Fin 128) :
    select (cmpf .oge T (bitcastToFloat .f32 (shli (addi e (broadcast S8x128 b)) (broadcast S8x128 23#32))))
      (addi e (broadcast S8x128 b)) e (ix2 r l) = stp (T (ix2 r l)) b (e (ix2 r l)) := by
  show (if Ideal.cmp .oge (T (ix2 r l)) (Ideal.ofBits .f32 (IntOp.shli .vector (IntOp.addi (e (ix2 r l)) b) 23#32)) = 1
    then IntOp.addi (e (ix2 r l)) b else e (ix2 r l)) = _
  unfold stp
  by_cases h : Ideal.ofBits .f32 (IntOp.shli .vector (IntOp.addi (e (ix2 r l)) b) 23#32) ≤ T (ix2 r l)
  · rw [if_pos ((Ideal.cmp_oge_eq_one _ _).mpr h), if_pos h]
  · rw [if_neg (mt (Ideal.cmp_oge_eq_one _ _).mp h), if_neg h]

/-- The first three steps. -/
theorem pay23_at (A : Vec Ideal S8x128 .f32) (r : Fin 8) (l : Fin 128) :
    k0_pay23 A (ix2 r l) = stp (tOf A) 32#32 (stp (tOf A) 64#32 (stp (tOf A) 128#32 0#32)) := by
  unfold k0_pay23
  rw [step_at, step_at, step_at, pay22_at]
  rfl

/-- The exponent the kernel finds. -/
theorem expo_at (A : Vec Ideal S8x128 .f32) (r : Fin 8) (l : Fin 128) : expo A (ix2 r l) = srch (tOf A) := by
  unfold expo k0_pay25 k0_pay24
  rw [step_at, step_at, step_at, step_at, step_at, pay22_at, pay23_at]
  rfl

/-- Where the kernel finds it out of range. -/
theorem expoBad_at (A : Vec Ideal S8x128 .f32) (r : Fin 8) (l : Fin 128) :
    expoBad A (ix2 r l) = IntOp.ori (IntOp.cmpi .eq (srch (tOf A)) 0#32) (IntOp.cmpi .eq (srch (tOf A)) 255#32) := by
  have h : k0_pay25 (k0_pay22 A) (k0_pay23 A) (k0_pay24 A) (ix2 r l) = srch (tOf A) := expo_at A r l
  unfold expoBad
  pointwise [k0_pay26, h]

/-- The unbiased exponent of a field. -/
def exq (n : BitVec 32) : BitVec 32 :=
  Scalar.select (IntOp.ori (IntOp.cmpi .eq n 0#32) (IntOp.cmpi .eq n 255#32)) (0#32) (IntOp.subi n 126#32)

/-- The scale's exponent field. -/
theorem exq_scale : ∀ n : Fin 256, IntOp.addi (exq (BitVec.ofNat 32 n.val)) 127#32 =
    BitVec.ofNat 32 (if n.val = 0 ∨ n.val = 255 then 127 else n.val + 1) := by decide +kernel

/-- The multiplier's exponent field. -/
theorem exq_inv : ∀ n : Fin 256, n.val ≠ 254 → IntOp.subi 127#32 (exq (BitVec.ofNat 32 n.val)) =
    BitVec.ofNat 32 (if n.val = 0 ∨ n.val = 255 then 127 else 253 - n.val) := by decide +kernel

/-- The multiplier's word past the last exponent is minus infinity's. -/
theorem exq_last : IntOp.shli .vector (IntOp.subi 127#32 (exq 254#32)) 23#32 = 0xFF800000#32 := by
  have : (23#32 : BitVec 32).toNat < 32 := by decide
  unfold IntOp.shli
  rw [if_pos this]
  decide +kernel

/-- The word the kernel takes for the scale. -/
theorem scale_word (t : EReal) (ht : 0 ≤ t) :
    Ideal.ofBits .f32 (IntOp.shli .vector (IntOp.addi (exq (srch t)) 127#32) 23#32) = scl t := by
  obtain ⟨n, e, h⟩ := srch_stands t ht
  have hn : n < 256 := by have := h.1; omega
  rw [scl_eq t n h, e, exq_scale ⟨n, hn⟩]
  by_cases hb : n = 0 ∨ n = 255
  · simp only [hb, if_true]; rw [shl_field ⟨127, by omega⟩]; rfl
  · simp only [hb, if_false]; rw [shl_field ⟨n + 1, by omega⟩]; rfl

/-- The word the kernel takes for the multiplier. -/
theorem inv_word (t : EReal) (ht : 0 ≤ t) :
    Ideal.ofBits .f32 (IntOp.shli .vector (IntOp.subi 127#32 (exq (srch t))) 23#32) = inv t := by
  obtain ⟨n, e, h⟩ := srch_stands t ht
  have hn : n < 256 := by have := h.1; omega
  rw [inv_eq t n h, e]
  by_cases h4 : n = 254
  · subst h4
    rw [exq_last, ninf]; simp
  rw [exq_inv ⟨n, hn⟩ h4]
  by_cases hb : n = 0 ∨ n = 255
  · simp only [hb, if_true]; rw [shl_field ⟨127, by omega⟩]; rfl
  · simp only [hb, if_false]; rw [if_pos (by omega), shl_field ⟨253 - n, by omega⟩]; rfl

/-- The largest of a constant is the constant. -/
theorem fold_const {ι : Type} [Fintype ι] [Nonempty ι] (x : EReal) : Finset.univ.fold max ⊥ (fun _ : ι => x) = x := by
  apply le_antisymm
  · rw [Finset.fold_max_le]; exact ⟨bot_le, fun _ _ => le_rfl⟩
  · exact ((Finset.fold_max_le (s := Finset.univ) (f := fun _ : ι => x) (b := ⊥) _).mp le_rfl).2 (Classical.arbitrary ι) (Finset.mem_univ _)

/-- The kernel's scale. -/
theorem scaleOf_eq (A : Vec Ideal S8x128 .f32) (ht : 0 ≤ tOf A) : scaleOf A = scl (tOf A) := by
  unfold scaleOf
  pointwise [k0_pay8, k0_pay7, expo_at, expoBad_at]
  rw [ninf, ← scale_word (tOf A) ht]
  exact fold_const _

/-- The kernel's codes. -/
theorem codesOf_at (A : Vec Ideal S8x128 .f32) (ht : 0 ≤ tOf A) (Z : Vec Ideal S1x1x160x256 .f32) (r : Fin 160) (p : Fin 256) :
    codesOf (expo A) (expoBad A) 126#32 Z (ix3 0 r p) =
      min (Ideal.ofBits .f32 0x47600000#32) (max (Ideal.ofBits .f32 0xC7600000#32) (Z (ix4 0 0 r p) * inv (tOf A))) := by
  unfold codesOf
  pointwise [k0_pay9, k0_pay7, expo_at, expoBad_at]
  rw [← inv_word (tOf A) ht]
  rfl

end Cert.Hand

end
-- ==== Proof.Max.lean ====
/- The largest absolute value that the kernel carries from point to point.  -/
module

public import proofs.«01_k».proof.Proof.Inp
public import proofs.«01_k».proof.Proof.KernelQuant

@[expose] public section

set_option maxRecDepth 16384

noncomputable section

namespace Cert.KernelIdeal.Hand

open Idealize.ShloMosaic Idealize.ShloMosaic.TcCoe Cert.KernelIdeal Cert.KernelIdeal.Gen Cert.Hand

variable (m : (ℓ : Loc nD τ sig) → Buf (Elt Ideal) ℓ)

/-- The running maximum is at most a bound exactly where every entry is. -/
theorem mxOf_le (A : S8x128.Idx → EReal) (b : EReal) : mxOf A ≤ b ↔ ∀ (r : Fin 8) (l : Fin 128), A (ix2 r l) ≤ b := by
  unfold mxOf
  simp only [Finset.fold_max_le, bot_le, true_and, Finset.mem_univ, forall_true_left]
  exact ⟨fun h r l => h l r, fun h l r => h r l⟩

/-- One entry of the running maximum after one more sample. -/
theorem pay3_le (A : Vec Ideal S8x128 .f32) (v : FVec Ideal S160x256 .f32) (r : Fin 8) (l : Fin 128) (b : EReal) :
    k0_pay3 A v (ix2 r l) ≤ b ↔ A (ix2 r l) ≤ b ∧ ∀ i : Fin 20,
      ab (v (ix2 ⟨i.val * 8 + r.val, by omega⟩ ⟨l.val, by omega⟩)) ≤ b ∧ ab (v (ix2 ⟨i.val * 8 + r.val, by omega⟩ ⟨128 + l.val, by omega⟩)) ≤ b := by
  pointwise [k0_pay3]
  rw [ninf]
  simp only [max_le_iff, Finset.fold_max_le, bot_le, true_and, Finset.mem_univ, forall_true_left, ← forall_and]
  rfl

/-- The largest entry after one more sample. -/
theorem mx_pay3 (A : Vec Ideal S8x128 .f32) (v : FVec Ideal S160x256 .f32) (b : EReal) :
    mxOf (k0_pay3 A v) ≤ b ↔ mxOf A ≤ b ∧ ∀ (r : Fin 160) (p : Fin 256), ab (v (ix2 r p)) ≤ b := by
  simp only [mxOf_le, pay3_le]
  constructor
  · intro h
    refine ⟨fun r l => (h r l).1, fun r p => ?_⟩
    by_cases hp : p.val < 128
    · have := ((h ⟨r.val % 8, by omega⟩ ⟨p.val, hp⟩).2 ⟨r.val / 8, by omega⟩).1
      simpa only [Nat.div_add_mod'] using this
    · have := ((h ⟨r.val % 8, by omega⟩ ⟨p.val - 128, by omega⟩).2 ⟨r.val / 8, by omega⟩).2
      have e : 128 + (p.val - 128) = p.val := by omega
      simpa only [Nat.div_add_mod', e] using this
  · exact fun h r l => ⟨h.1 r l, fun i => ⟨h.2 _ _, h.2 _ _⟩⟩

/-- The largest entry after `s` samples of a point. -/
theorem mxAt_le (c : Dev nD) (k : ℕ) (hk : k < 48) (A : Vec Ideal S8x128 .f32) (b : EReal) (s : ℕ) (hs : s ≤ 8) :
    mxOf (mxAt (dV m c k) (stepG m c k) (stepB m c k) (xB m c k) (yB m c k) A s) ≤ b ↔
      mxOf A ≤ b ∧ ∀ (i : Fin 8), i.val < s → ∀ (r : Fin 160) (p : Fin 256),
        ab (tdx m c ⟨k % 6 * 8 + i.val, by omega⟩ ⟨k / 6 * 160 + r.val, by omega⟩ p) ≤ b := by
  induction s with
  | zero => simp [mxAt]
  | succ s ih =>
    rw [mxAt, mxAdd, mx_pay3, ih (by omega), and_assoc]
    refine and_congr_right fun _ => ?_
    simp only [dx_at m c k hk s (by omega)]
    constructor
    · rintro ⟨h1, h2⟩ i hi
      rcases Nat.lt_succ_iff_lt_or_eq.1 hi with h | h
      · exact h1 i h
      · subst h; exact h2
    · exact fun h => ⟨fun i hi => h i (by omega), h ⟨s, by omega⟩ (by simp)⟩

/-- Storing the running maximum keeps it. -/
theorem pay4_eq (A : Vec Ideal S8x128 .f32) : mxOf (k0_pay4 A) = mxOf A := by
  unfold mxOf
  have h : ∀ (r : Fin 8) (l : Fin 128), k0_pay4 A (ix2 r l) = A (ix2 r l) := fun r l => by pointwise [k0_pay4]
  simp only [h]

/-- The running maximum after a point of the first half. -/
theorem amax_le (c : Dev nD) (b : EReal) (k : ℕ) (hk : k < 48) :
    mxOf (amaxAt m c k) ≤ b ↔ 0 ≤ b ∧ ∀ (j : Fin 48), j.val ≤ k → ∀ (i : Fin 8) (r : Fin 160) (p : Fin 256),
        ab (tdx m c ⟨j.val % 6 * 8 + i.val, by omega⟩ ⟨j.val / 6 * 160 + r.val, by omega⟩ p) ≤ b := by
  induction k with
  | zero =>
    have h0 : ∀ (r : Fin 8) (l : Fin 128), (k0_pay27 (F := Ideal)) (ix2 r l) = 0 := fun r l => by pointwise [k0_pay27]
    have h1 : mxOf (k0_pay27 (F := Ideal)) ≤ b ↔ 0 ≤ b := by
      rw [mxOf_le]; simp only [h0]; exact ⟨fun h => h 0 0, fun h _ _ => h⟩
    rw [amaxAt, pay4_eq, mxAt_le m c 0 hk _ b 8 le_rfl, h1]
    refine and_congr_right fun _ => ?_
    constructor
    · intro h j hj i
      obtain rfl : j = 0 := Fin.ext (Nat.le_zero.1 hj)
      exact h i i.isLt
    · exact fun h i _ => h 0 le_rfl i
  | succ k ih =>
    rw [amaxAt, pay4_eq, mxAt_le m c (k + 1) hk _ b 8 le_rfl, ih (by omega), and_assoc]
    refine and_congr_right fun _ => ?_
    constructor
    · rintro ⟨h1, h2⟩ j hj i
      rcases Nat.le_succ_iff.1 hj with h | h
      · exact h1 j h i
      · obtain rfl : j = ⟨k + 1, hk⟩ := Fin.ext h
        exact h2 i i.isLt
    · exact fun h => ⟨fun j hj => h j (by omega), fun i _ => h ⟨k + 1, hk⟩ le_rfl i⟩

/-- An absolute value is not negative. -/
theorem ab_nonneg (x : EReal) : 0 ≤ ab x := by
  unfold ab
  rcases le_total 0 x with h | h
  · exact le_max_of_le_left h
  · exact le_max_of_le_right (EReal.neg_nonneg.2 h)

/-- The maximum the kernel ends the first half with is the largest absolute value of the gradient. -/
theorem amax_eq (c : Dev nD) : mxOf (amaxAt m c 47) = mxR (fun j => tdx m c (j 0) (j 1) (j 2)) := by
  refine eq_of_forall_ge_iff fun b => ?_
  rw [amax_le m c b 47 (by omega), mxR_le]
  constructor
  · rintro ⟨-, h⟩ n k p
    have := h ⟨k.val / 160 * 6 + n.val / 8, by omega⟩ (by simp only; omega) ⟨n.val % 8, by omega⟩ ⟨k.val % 160, by omega⟩ p
    have e1 : (k.val / 160 * 6 + n.val / 8) % 6 * 8 + n.val % 8 = n.val := by omega
    have e2 : (k.val / 160 * 6 + n.val / 8) / 6 * 160 + k.val % 160 = k.val := by omega
    simp only [e1, e2] at this
    exact this
  · exact fun h => ⟨(ab_nonneg _).trans (h 0 0 0), fun j _ i r p => h _ _ _⟩

/-- The kernel's threshold is the one asked for. -/
theorem thr_eq (c : Dev nD) : tOf (amaxAt m c 47) = sthr (m ((c : Thread nD τ).loc main_arg0)) (m ((c : Thread nD τ).loc main_arg3))
    (m ((c : Thread nD τ).loc main_arg4) (fun a => a.elim0)) (m ((c : Thread nD τ).loc main_arg1)) (m ((c : Thread nD τ).loc main_arg2)) := by
  unfold tOf sthr
  rw [amax_eq]; rfl

/-- The threshold is not negative. -/
theorem thr_nonneg (c : Dev nD) : 0 ≤ tOf (amaxAt m c 47) := by
  unfold tOf
  refine mul_nonneg ?_ ?_
  · exact ((amax_le m c _ 47 (by omega)).1 le_rfl).1
  · have : Ideal.ofBits .f32 0x37924925#32 = ((9586981 * 2 ^ (-39 : ℤ) : ℝ) : EReal) := by
      simp [Ideal.ofBits, Ideal.ieee, -EReal.coe_mul]
    rw [this]
    exact_mod_cast (by positivity)

end Cert.KernelIdeal.Hand

end
-- ==== Proof.Out.lean ====
/- What the kernel's run leaves in its four result arrays.  -/
module

public import proofs.«01_k».proof.Proof.Sums
public import proofs.«01_k».proof.Proof.Max

@[expose] public section

set_option maxRecDepth 16384

noncomputable section

namespace Cert.KernelIdeal.Hand

open Idealize.ShloMosaic Idealize.ShloMosaic.TcCoe Cert.KernelIdeal Cert.KernelIdeal.Gen Cert.Hand

variable (m : (ℓ : Loc nD τ sig) → Buf (Elt Ideal) ℓ)

/-- The points that write a block of codes back, and the blocks they write. -/
theorem idx5 : ∀ t : Fin grid0.N, win0_5.flush t = true →
    48 ≤ t.val ∧ win0_5.index t 0 = (t.val - 48) % 6 ∧ win0_5.index t 1 = (t.val - 48) / 6 ∧ win0_5.index t 2 = 0 := by
  decide +kernel

/-- An entry of the block of codes of a point. -/
theorem codesBlk_at (c : Dev nD) (k : ℕ) (hk : k < 48) (s : Fin 8) (r : Fin 160) (p : Fin 256) :
    codesBlk m c (48 + k) (ix3 s r p) = scode (m ((c : Thread nD τ).loc main_arg0)) (m ((c : Thread nD τ).loc main_arg3))
    (m ((c : Thread nD τ).loc main_arg4) (fun a => a.elim0)) (m ((c : Thread nD τ).loc main_arg1)) (m ((c : Thread nD τ).loc main_arg2))
      ⟨k % 6 * 8 + s.val, by omega⟩ ⟨k / 6 * 160 + r.val, by omega⟩ p := by
  unfold codesBlk expoF expoBadF
  refine (codesOf_at _ (thr_nonneg m c) _ r p).trans ?_
  unfold scode
  rw [thr_eq, Nat.add_sub_cancel_left]
  refine congrArg (fun z : EReal => min (Ideal.ofBits .f32 0x47600000#32) (max (Ideal.ofBits .f32 0xC7600000#32) (z * inv (sthr (m ((c : Thread nD τ).loc main_arg0)) (m ((c : Thread nD τ).loc main_arg3))
    (m ((c : Thread nD τ).loc main_arg4) (fun a => a.elim0)) (m ((c : Thread nD τ).loc main_arg1)) (m ((c : Thread nD τ).loc main_arg2)))))) ?_
  exact gradAt_at m c k hk s.val s.isLt r p

variable (c : Dev nD) (after : (w' : Fin cfg0.W) → Fin cfg0.N → (cfg0.win w').block.Idx → Elt Ideal (cfg0.win w').elt)

/-- The codes. -/
theorem out5 (hL : ∀ u : Fin cfg0.N, (cfg0.win 5).flush u = true → (rdat m c).Leaves 5 u (after 5 u)) :
    ((rdat m c).withAfter after).arrAt 5 cfg0.N = fun j => scode (m ((c : Thread nD τ).loc main_arg0)) (m ((c : Thread nD τ).loc main_arg3))
    (m ((c : Thread nD τ).loc main_arg4) (fun a => a.elim0)) (m ((c : Thread nD τ).loc main_arg1)) (m ((c : Thread nD τ).loc main_arg2)) (j 0) (j 1) (j 2) := by
  refine ((rdat m c).withAfter after).arrAt_eq_of_covers 5 _ (by decide +kernel) fun t hf y => ?_
  obtain ⟨h48, h0, h1, h2⟩ := idx5 t hf
  obtain ⟨Y, -, hX⟩ := hL t hf
  have hX' : after 5 t = codesBlk m c t.val := hX h48
  have hN : t.val < 96 := lt_of_lt_of_eq t.isLt N_0
  blk_simp
  obtain ⟨s, r, p, rfl⟩ : ∃ (s : Fin 8) (r : Fin 160) (p : Fin 256), y = (ix3 s r p : S8x160x256.Idx) :=
    ⟨y 0, y 1, y 2, by funext a; match a with | 0 => rfl | 1 => rfl | 2 => rfl⟩
  have E : (win0_5.blk t).view.emb (ix3 s r p : S8x160x256.Idx)
      = (ix3 ⟨(t.val - 48) % 6 * 8 + s.val, by omega⟩ ⟨(t.val - 48) / 6 * 160 + r.val, by omega⟩ p : S48x1280x256.Idx) := by
    funext a
    refine Fin.ext ((Pipeline.Window.rect_emb_val win0_5 t _ a).trans ?_)
    match a with
    | 0 => exact congrArg (fun i => i * 8 + s.val) h0
    | 1 => exact congrArg (fun i => i * 160 + r.val) h1
    | 2 => exact (congrArg (fun i => i * 256 + p.val) h2).trans (by show 0 * 256 + p.val = p.val; omega)
  refine (congrFun hX' _).trans (Eq.trans ?_ (congrArg (fun j : S48x1280x256.Idx => scode (m ((c : Thread nD τ).loc main_arg0)) (m ((c : Thread nD τ).loc main_arg3))
    (m ((c : Thread nD τ).loc main_arg4) (fun a => a.elim0)) (m ((c : Thread nD τ).loc main_arg1)) (m ((c : Thread nD τ).loc main_arg2)) (j 0) (j 1) (j 2)) E).symm)
  have hk := codesBlk_at m c (t.val - 48) (by omega) s r p
  rw [Nat.add_sub_of_le h48] at hk
  exact hk

/-- The scale of the codes. -/
theorem out6 (hL : ∀ u : Fin cfg0.N, (cfg0.win 6).flush u = true → (rdat m c).Leaves 6 u (after 6 u)) :
    ((rdat m c).withAfter after).arrAt 6 cfg0.N = fun _ => scl (sthr (m ((c : Thread nD τ).loc main_arg0)) (m ((c : Thread nD τ).loc main_arg3))
    (m ((c : Thread nD τ).loc main_arg4) (fun a => a.elim0)) (m ((c : Thread nD τ).loc main_arg1)) (m ((c : Thread nD τ).loc main_arg2))) := by
  obtain ⟨Y, -, hX⟩ := hL (pt 95) (by decide +kernel)
  have hX' : after 6 (pt 95) = fun _ => scaleOf (amaxAt m c 47) := hX (by decide)
  refine ((rdat m c).withAfter after).arrAt_eq_of_after_last 6 (pt 95) (by decide +kernel) _ fun j => ?_
  blk_simp
  refine (congrFun hX' _).trans ?_
  rw [scaleOf_eq _ (thr_nonneg m c), thr_eq]

/-- Window 7 writes back after the last point only, and never fetches. -/
theorem quiet7 : ∀ t : Fin grid0.N, win0_7.fetch t = false ∧ (win0_7.flush t = true → t.val = 95) := by decide +kernel

/-- The rows of the gradient of the scale parameters that are in place after point `n`. -/
theorem rows7 (n : ℕ) (hn : n < cfg0.N) (X : Vec Ideal S8x160 .f32) (h : (rdat m c).Leaves 7 ⟨n, hn⟩ X) (q : Fin 8)
    (hq : 6 * q.val + 5 ≤ n) (r : Fin 160) : X (ix2 q r) = k0_pay5 (accG m c (6 * q.val + 5)) (ix2 0 r) := by
  have hN : n < 96 := lt_of_lt_of_eq hn N_0
  induction n generalizing X with
  | zero => omega
  | succ n ih =>
    obtain ⟨Y, hY, hX⟩ := h
    have hX' : X = if n + 1 < 48 ∧ (n + 1) % 6 = 5 then putRow (F := Ideal) Y ((n + 1) / 6) (k0_pay5 (accG m c (n + 1))) else Y := hX
    have hY' := ((rdat m c).finds_of_pos (w := 7) (t := ⟨n + 1, hn⟩) (quiet7 ⟨n + 1, hn⟩).1 (Nat.succ_ne_zero n) Y).1 hY
    have hb : 6 * q.val + 5 ≤ n → Y (ix2 q r) = k0_pay5 (accG m c (6 * q.val + 5)) (ix2 0 r) := fun hq' =>
      hY'.elim (fun hf => absurd ((quiet7 _).2 hf) (by simp only; omega)) fun hL => ih (by omega) Y hL hq' (by omega)
    subst hX'
    split
    · next hc =>
      unfold putRow
      by_cases e : q.val = (n + 1) / 6
      · have e' : n + 1 = 6 * q.val + 5 := by omega
        rw [← e']
        exact if_pos e
      · exact (if_neg e).trans (hb (by omega))
    · next hc => exact hb (by omega)

/-- The gradient of the scale parameters. -/
theorem out7 (hL : ∀ u : Fin cfg0.N, (cfg0.win 7).flush u = true → (rdat m c).Leaves 7 u (after 7 u)) :
    ((rdat m c).withAfter after).arrAt 7 cfg0.N = fun j => sgam (m ((c : Thread nD τ).loc main_arg0)) (m ((c : Thread nD τ).loc main_arg3))
    (m ((c : Thread nD τ).loc main_arg4) (fun a => a.elim0)) (m ((c : Thread nD τ).loc main_arg1)) (m ((c : Thread nD τ).loc main_arg2)) (j 0) (j 1) := by
  have hX := hL (pt 95) (by decide +kernel)
  refine ((rdat m c).withAfter after).arrAt_eq_of_after_last 7 (pt 95) (by decide +kernel) _ fun j => ?_
  blk_simp
  obtain ⟨q, r, rfl⟩ : ∃ (q : Fin 8) (r : Fin 160), j = (ix2 q r : S8x160.Idx) :=
    ⟨j 0, j 1, by funext a; match a with | 0 => rfl | 1 => rfl⟩
  exact (rows7 m c 95 _ _ hX q (by omega) r).trans (rowG_at m c q r)

/-- Window 8 writes back after the last point only, and never fetches. -/
theorem quiet8 : ∀ t : Fin grid0.N, win0_8.fetch t = false ∧ (win0_8.flush t = true → t.val = 95) := by decide +kernel

/-- The rows of the gradient of the offset parameters that are in place after point `n`. -/
theorem rows8 (n : ℕ) (hn : n < cfg0.N) (X : Vec Ideal S8x160 .f32) (h : (rdat m c).Leaves 8 ⟨n, hn⟩ X) (q : Fin 8)
    (hq : 6 * q.val + 5 ≤ n) (r : Fin 160) : X (ix2 q r) = k0_pay6 (accB m c (6 * q.val + 5)) (ix2 0 r) := by
  have hN : n < 96 := lt_of_lt_of_eq hn N_0
  induction n generalizing X with
  | zero => omega
  | succ n ih =>
    obtain ⟨Y, hY, hX⟩ := h
    have hX' : X = if n + 1 < 48 ∧ (n + 1) % 6 = 5 then putRow (F := Ideal) Y ((n + 1) / 6) (k0_pay6 (accB m c (n + 1))) else Y := hX
    have hY' := ((rdat m c).finds_of_pos (w := 8) (t := ⟨n + 1, hn⟩) (quiet8 ⟨n + 1, hn⟩).1 (Nat.succ_ne_zero n) Y).1 hY
    have hb : 6 * q.val + 5 ≤ n → Y (ix2 q r) = k0_pay6 (accB m c (6 * q.val + 5)) (ix2 0 r) := fun hq' =>
      hY'.elim (fun hf => absurd ((quiet8 _).2 hf) (by simp only; omega)) fun hL => ih (by omega) Y hL hq' (by omega)
    subst hX'
    split
    · next hc =>
      unfold putRow
      by_cases e : q.val = (n + 1) / 6
      · have e' : n + 1 = 6 * q.val + 5 := by omega
        rw [← e']
        exact if_pos e
      · exact (if_neg e).trans (hb (by omega))
    · next hc => exact hb (by omega)

/-- The gradient of the offset parameters. -/
theorem out8 (hL : ∀ u : Fin cfg0.N, (cfg0.win 8).flush u = true → (rdat m c).Leaves 8 u (after 8 u)) :
    ((rdat m c).withAfter after).arrAt 8 cfg0.N = fun j => sbet (m ((c : Thread nD τ).loc main_arg0)) (m ((c : Thread nD τ).loc main_arg3))
    (m ((c : Thread nD τ).loc main_arg4) (fun a => a.elim0)) (m ((c : Thread nD τ).loc main_arg1)) (m ((c : Thread nD τ).loc main_arg2)) (j 0) (j 1) := by
  have hX := hL (pt 95) (by decide +kernel)
  refine ((rdat m c).withAfter after).arrAt_eq_of_after_last 8 (pt 95) (by decide +kernel) _ fun j => ?_
  blk_simp
  obtain ⟨q, r, rfl⟩ : ∃ (q : Fin 8) (r : Fin 160), j = (ix2 q r : S8x160.Idx) :=
    ⟨j 0, j 1, by funext a; match a with | 0 => rfl | 1 => rfl⟩
  exact (rows8 m c 95 _ _ hX q (by omega) r).trans (rowB_at m c q r)

end Cert.KernelIdeal.Hand

end
-- ==== Proof.RefOut.lean ====
/- What the reference's run leaves in its four result arrays.  -/
module

public import proofs.«01_k».proof.Proof.Spec
public import proofs.«01_k».proof.Proof.Gen.ReferenceIdeal.Value
public import Idealize.ShloMosaic.Lib.Pipeline.ValueKit
public import Idealize.ShloMosaic.Lib.Pipeline.ReadBack

@[expose] public section

set_option maxRecDepth 16384

noncomputable section

namespace Cert.ReferenceIdeal.Hand

open Idealize.ShloMosaic Idealize.ShloMosaic.TcCoe Cert.ReferenceIdeal Cert.ReferenceIdeal.Gen Cert.Hand

variable (m : (ℓ : Loc nD τ sig) → Buf (Elt Ideal) ℓ) (ρ : Dev nD → PrngReg)

/-- The one block of the activations is the whole array. -/
theorem blk0 (c : Dev nD) (t : Fin cfg0.N) : iblk m c 0 t = m ((c : Thread nD τ).loc main_arg0) := by
  obtain rfl := fin_N0 t
  funext y
  blk_simp [iblk]
  rw [V_main_arg0]
  refine congrArg _ (funext fun a => Fin.ext ?_)
  exact Pipeline.Window.rect_emb_val_of_index_zero win0_0 t0_0 a (by revert a; decide +kernel) y

/-- The one block of the scale parameters is the whole array. -/
theorem blk1 (c : Dev nD) (t : Fin cfg0.N) : iblk m c 1 t = m ((c : Thread nD τ).loc main_arg1) := by
  obtain rfl := fin_N0 t
  funext y
  blk_simp [iblk]
  rw [V_main_arg1]
  refine congrArg _ (funext fun a => Fin.ext ?_)
  exact Pipeline.Window.rect_emb_val_of_index_zero win0_1 t0_0 a (by revert a; decide +kernel) y

/-- The one block of the offset parameters is the whole array. -/
theorem blk2 (c : Dev nD) (t : Fin cfg0.N) : iblk m c 2 t = m ((c : Thread nD τ).loc main_arg2) := by
  obtain rfl := fin_N0 t
  funext y
  blk_simp [iblk]
  rw [V_main_arg2]
  refine congrArg _ (funext fun a => Fin.ext ?_)
  exact Pipeline.Window.rect_emb_val_of_index_zero win0_2 t0_0 a (by revert a; decide +kernel) y

/-- The one block of the output gradient's codes is the whole array. -/
theorem blk3 (c : Dev nD) (t : Fin cfg0.N) : iblk m c 3 t = m ((c : Thread nD τ).loc main_arg3) := by
  obtain rfl := fin_N0 t
  funext y
  blk_simp [iblk]
  rw [V_main_arg3]
  refine congrArg _ (funext fun a => Fin.ext ?_)
  exact Pipeline.Window.rect_emb_val_of_index_zero win0_3 t0_0 a (by revert a; decide +kernel) y

/-- The one block of the output gradient's scale is its scalar. -/
theorem blk4 (c : Dev nD) (t : Fin cfg0.N) (j : S1.Idx) : iblk m c 4 t j = m ((c : Thread nD τ).loc main_arg4) (fun a => a.elim0) := by
  blk_simp [iblk]
  entry_read
  exact congrArg (m ((c : Thread nD τ).loc main_arg4)) (funext fun a => a.elim0)

/-- The codes. -/
theorem out5 (c : Dev nD) : (dats m 0 c).arrAt 5 cfg0.N = fun j => scode (m ((c : Thread nD τ).loc main_arg0)) (m ((c : Thread nD τ).loc main_arg3))
    (m ((c : Thread nD τ).loc main_arg4) (fun a => a.elim0)) (m ((c : Thread nD τ).loc main_arg1)) (m ((c : Thread nD τ).loc main_arg2)) (j 0) (j 1) (j 2) := by
  refine (dats m 0 c).arrAt_eq_of_after_last 5 t0_0 (by decide +kernel) _ fun j => ?_
  blk_simp
  rw [after0_5]
  unfold outsAt0
  frame_out
  simp only [read_unread_whole, blk0, blk1, blk2, blk3, blk4]
  obtain ⟨n, k, p, rfl⟩ : ∃ (n : Fin 48) (k : Fin 1280) (p : Fin 256), j = (ix3 n k p : S48x1280x256.Idx) :=
    ⟨j 0, j 1, j 2, by funext a; match a with | 0 => rfl | 1 => rfl | 2 => rfl⟩
  rw [rpay13_eq, rthr_eq, rpay11_eq]
  exact rpay2_at _ _ _ _ _

/-- Their scale. -/
theorem out6 (c : Dev nD) : (dats m 0 c).arrAt 6 cfg0.N = fun _ => scl (sthr (m ((c : Thread nD τ).loc main_arg0)) (m ((c : Thread nD τ).loc main_arg3))
    (m ((c : Thread nD τ).loc main_arg4) (fun a => a.elim0)) (m ((c : Thread nD τ).loc main_arg1)) (m ((c : Thread nD τ).loc main_arg2))) := by
  refine (dats m 0 c).arrAt_eq_of_after_last 6 t0_0 (by decide +kernel) _ fun j => ?_
  blk_simp
  rw [after0_6]
  unfold outsAt0
  frame_out
  simp only [read_unread_whole, blk0, blk1, blk2, blk3, blk4]
  rw [rpay13_eq, rthr_eq]
  exact rpay1_eq _

/-- The gradient of the scale parameters. -/
theorem out7 (c : Dev nD) : (dats m 0 c).arrAt 7 cfg0.N = fun j => sgam (m ((c : Thread nD τ).loc main_arg0)) (m ((c : Thread nD τ).loc main_arg3))
    (m ((c : Thread nD τ).loc main_arg4) (fun a => a.elim0)) (m ((c : Thread nD τ).loc main_arg1)) (m ((c : Thread nD τ).loc main_arg2)) (j 0) (j 1) := by
  refine (dats m 0 c).arrAt_eq_of_after_last 7 t0_0 (by decide +kernel) _ fun j => ?_
  blk_simp
  rw [after0_7]
  unfold outsAt0
  frame_out
  simp only [read_unread_whole, blk0, blk1, blk2, blk3, blk4]
  obtain ⟨q, r, rfl⟩ : ∃ (q : Fin 8) (r : Fin 160), j = (ix2 q r : S8x160.Idx) :=
    ⟨j 0, j 1, by funext a; match a with | 0 => rfl | 1 => rfl⟩
  exact (rpay9_at _ _ _ _ _ _ _).trans (rpay8_at _ _ _ _ _ _ _)

/-- The gradient of the offset parameters. -/
theorem out8 (c : Dev nD) : (dats m 0 c).arrAt 8 cfg0.N = fun j => sbet (m ((c : Thread nD τ).loc main_arg0)) (m ((c : Thread nD τ).loc main_arg3))
    (m ((c : Thread nD τ).loc main_arg4) (fun a => a.elim0)) (m ((c : Thread nD τ).loc main_arg1)) (m ((c : Thread nD τ).loc main_arg2)) (j 0) (j 1) := by
  refine (dats m 0 c).arrAt_eq_of_after_last 8 t0_0 (by decide +kernel) _ fun j => ?_
  blk_simp
  rw [after0_8]
  unfold outsAt0
  frame_out
  simp only [read_unread_whole, blk0, blk1, blk2, blk3, blk4]
  obtain ⟨q, r, rfl⟩ : ∃ (q : Fin 8) (r : Fin 160), j = (ix2 q r : S8x160.Idx) :=
    ⟨j 0, j 1, by funext a; match a with | 0 => rfl | 1 => rfl⟩
  exact rpay10_at _ _ _ _ _ _ _

end Cert.ReferenceIdeal.Hand

end
-- ==== Proof.Algebraic.lean ====
/- The kernel and the reference end with equal results.  -/
module

public import proofs.«01_k».proof.Defs
public import proofs.«01_k».proof.Proof.Out
public import proofs.«01_k».proof.Proof.RefOut

@[expose] public section

set_option maxRecDepth 16384

noncomputable section

namespace Cert.Hand

open Idealize.ShloMosaic Idealize.ShloMosaic.TcCoe Idealize.SL.Sem

/-- From memories that agree on the five arguments the kernel and the reference both run, and end with the same codes,
the same scale and the same two channel sums, the arguments unchanged. -/
theorem algebraic : letI := Cert.KernelIdeal.Gen.facts; letI := Cert.ReferenceIdeal.Gen.facts; algebraic_KernelIdeal_ReferenceIdeal := by
  intro m g m' g' _ hm
  refine ⟨fun c j => scode (m ((c.tc : Thread KernelIdeal.nD KernelIdeal.τ).loc KernelIdeal.main_arg0)) (m ((c.tc : Thread KernelIdeal.nD KernelIdeal.τ).loc KernelIdeal.main_arg3))
    (m ((c.tc : Thread KernelIdeal.nD KernelIdeal.τ).loc KernelIdeal.main_arg4) (fun a => a.elim0)) (m ((c.tc : Thread KernelIdeal.nD KernelIdeal.τ).loc KernelIdeal.main_arg1))
    (m ((c.tc : Thread KernelIdeal.nD KernelIdeal.τ).loc KernelIdeal.main_arg2)) (j 0) (j 1) (j 2), fun c _ => scl (sthr (m ((c.tc : Thread KernelIdeal.nD KernelIdeal.τ).loc KernelIdeal.main_arg0)) (m ((c.tc : Thread KernelIdeal.nD KernelIdeal.τ).loc KernelIdeal.main_arg3))
    (m ((c.tc : Thread KernelIdeal.nD KernelIdeal.τ).loc KernelIdeal.main_arg4) (fun a => a.elim0)) (m ((c.tc : Thread KernelIdeal.nD KernelIdeal.τ).loc KernelIdeal.main_arg1))
    (m ((c.tc : Thread KernelIdeal.nD KernelIdeal.τ).loc KernelIdeal.main_arg2))),
    fun c j => sgam (m ((c.tc : Thread KernelIdeal.nD KernelIdeal.τ).loc KernelIdeal.main_arg0)) (m ((c.tc : Thread KernelIdeal.nD KernelIdeal.τ).loc KernelIdeal.main_arg3))
    (m ((c.tc : Thread KernelIdeal.nD KernelIdeal.τ).loc KernelIdeal.main_arg4) (fun a => a.elim0)) (m ((c.tc : Thread KernelIdeal.nD KernelIdeal.τ).loc KernelIdeal.main_arg1))
    (m ((c.tc : Thread KernelIdeal.nD KernelIdeal.τ).loc KernelIdeal.main_arg2)) (j 0) (j 1), fun c j => sbet (m ((c.tc : Thread KernelIdeal.nD KernelIdeal.τ).loc KernelIdeal.main_arg0)) (m ((c.tc : Thread KernelIdeal.nD KernelIdeal.τ).loc KernelIdeal.main_arg3))
    (m ((c.tc : Thread KernelIdeal.nD KernelIdeal.τ).loc KernelIdeal.main_arg4) (fun a => a.elim0)) (m ((c.tc : Thread KernelIdeal.nD KernelIdeal.τ).loc KernelIdeal.main_arg1))
    (m ((c.tc : Thread KernelIdeal.nD KernelIdeal.τ).loc KernelIdeal.main_arg2)) (j 0) (j 1), ?_, ?_⟩
  · refine (θ_run KernelIdeal.defs _ _).mono (fun r h c => ?_) (KernelIdeal.Hand.run_main m g)
    obtain ⟨after, hL, hA⟩ := Pipeline.RDat.FramePost.exists_exact h.1 c
    exact ⟨(hA 5).trans (KernelIdeal.Hand.out5 m c after (hL 5)), (hA 6).trans (KernelIdeal.Hand.out6 m c after (hL 6)),
      (hA 7).trans (KernelIdeal.Hand.out7 m c after (hL 7)), (hA 8).trans (KernelIdeal.Hand.out8 m c after (hL 8)),
      KernelIdeal.Hand.args_of m h.1 c⟩
  · refine (θ_run ReferenceIdeal.defs _ _).mono (fun r h c => ?_) (ReferenceIdeal.Value.run_blocks m' g')
    obtain ⟨h5, h6, h7, h8, hargs⟩ := h c
    obtain ⟨e0, e1, e2, e3, e4⟩ := hm c
    refine ⟨h5.trans ?_, h6.trans ?_, h7.trans ?_, h8.trans ?_, hargs⟩
    · rw [ReferenceIdeal.Hand.out5, e0, e1, e2, e3, e4]; rfl
    · rw [ReferenceIdeal.Hand.out6, e0, e1, e2, e3, e4]; rfl
    · rw [ReferenceIdeal.Hand.out7, e0, e1, e2, e3, e4]; rfl
    · rw [ReferenceIdeal.Hand.out8, e0, e1, e2, e3, e4]; rfl

end Cert.Hand

end
-- ==== Proof.lean ====
/- The certificate: the frames of the three programs, the idealization rule of the named constant, and the equality of the four results at the extended reals. -/
module

public import proofs.«01_k».proof.Defs
public import proofs.«01_k».proof.Proof.KernelRun
public import proofs.«01_k».proof.Proof.KernelIdealRun
public import proofs.«01_k».proof.Proof.Gen.ReferenceIdeal.Frame
public import proofs.«01_k».proof.Proof.Gen.ReferenceIdeal.Value
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ,
  IdealRules.named_const.statement Cert.KernelIdeal.κ "inv_n" .f32 0x38CCCCCD#32 ((1 / 10240 : ℝ) : EReal) rfl,
  Cert.Hand.algebraic⟩

end Cert.Proof

end
